-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v37_0)) (v1 : (c : Dev Cert.Kernel2Ideal.nD) → Buf (Elt Ideal) ((c.tc : Thread Cert.Kernel2Ideal.nD Cert.Kernel2Ideal.τ).loc Cert.Kernel2Ideal.main_v37_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37_0) = v0 c
          ∧ r.2.mem ((c.tc : Thread Cert.Kernel2Ideal.nD Cert.Kernel2Ideal.τ).loc Cert.Kernel2Ideal.main_v37_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x8192x1024 : Shape := ⟨3, ![8, 8192, 1024]⟩
abbrev S4x64 : Shape := ⟨2, ![4, 64]⟩
abbrev S128 : Shape := ⟨1, ![128]⟩
abbrev S_ : Shape := ⟨0, ![]⟩

class Facts : Prop where
  bcast_S_S8x8192x1024 : S_.BroadcastsInDim S8x8192x1024 (![] : Fin 0 → Fin S8x8192x1024.rank)
  bcast_S_S4x64 : S_.BroadcastsInDim S4x64 (![] : Fin 0 → Fin S4x64.rank)

variable [Facts]

def fn {F : FTy → Type} [FloatOps F] (main_arg0 : FVec F S8x8192x1024 .f32) (main_arg1 : FVec F S8x8192x1024 .f32) (main_arg2 : FVec F S8x8192x1024 .f32) (main_arg3 : FVec F S4x64 .f32) (main_arg4 : FVec F S128 .f32) : IVec S8x8192x1024 1 × IVec S4x64 1 :=
  let main_v0 : FVec F S8x8192x1024 .f32 := Host.absf main_arg2
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S4x64 .f32 := Host.absf main_arg3
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  (main_v2, main_v5)
-- ==== Kernel.lean ====
abbrev S8x8192x1024 : Shape := ⟨3, ![8, 8192, 1024]⟩
abbrev S4x64 : Shape := ⟨2, ![4, 64]⟩
abbrev S128 : Shape := ⟨1, ![128]⟩
abbrev S65536x1024 : Shape := ⟨2, ![65536, 1024]⟩
abbrev S65536x2048 : Shape := ⟨2, ![65536, 2048]⟩
abbrev S8x16x512x8x128 : Shape := ⟨5, ![8, 16, 512, 8, 128]⟩
abbrev S8x8x16x128x512 : Shape := ⟨5, ![8, 8, 16, 128, 512]⟩
abbrev S8x8192x2048 : Shape := ⟨3, ![8, 8192, 2048]⟩
abbrev S128x1 : Shape := ⟨2, ![128, 1]⟩
abbrev S1x512x128 : Shape := ⟨3, ![1, 512, 128]⟩
abbrev S1x8192x128 : Shape := ⟨3, ![1, 8192, 128]⟩
abbrev S1x1x16x128x512 : Shape := ⟨5, ![1, 1, 16, 128, 512]⟩
abbrev S2x512x1024 : Shape := ⟨3, ![2, 512, 1024]⟩
abbrev S512x128 : Shape := ⟨2, ![512, 128]⟩
abbrev S1024x128 : Shape := ⟨2, ![1024, 128]⟩
abbrev S1x1024 : Shape := ⟨2, ![1, 1024]⟩
abbrev S128x1024 : Shape := ⟨2, ![128, 1024]⟩
abbrev S512x1024 : Shape := ⟨2, ![512, 1024]⟩
abbrev S1x512x1024 : Shape := ⟨3, ![1, 512, 1024]⟩
abbrev S1024 : Shape := ⟨1, ![1024]⟩
abbrev S1x1x1x128x512 : Shape := ⟨5, ![1, 1, 1, 128, 512]⟩
abbrev S128x512 : Shape := ⟨2, ![128, 512]⟩
abbrev S1x64 : Shape := ⟨2, ![1, 64]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 16
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S4x64, .f32⟩
  | .hbm, ⟨4, _⟩ => ⟨S128, .f32⟩
  | .hbm, ⟨5, _⟩ => ⟨S65536x1024, .f32⟩
  | .hbm, ⟨6, _⟩ => ⟨S65536x1024, .bf16⟩
  | .hbm, ⟨7, _⟩ => ⟨S65536x1024, .f32⟩
  | .hbm, ⟨8, _⟩ => ⟨S65536x1024, .bf16⟩
  | .hbm, ⟨9, _⟩ => ⟨S65536x2048, .bf16⟩
  | .hbm, ⟨10, _⟩ => ⟨S8x16x512x8x128, .f32⟩
  | .hbm, ⟨11, _⟩ => ⟨S8x8x16x128x512, .f32⟩
  | .hbm, ⟨12, _⟩ => ⟨S8x8x16x128x512, .bf16⟩
  | .hbm, ⟨13, _⟩ => ⟨S8x8192x2048, .bf16⟩
  | .hbm, ⟨14, _⟩ => ⟨S128x1, .f32⟩
  | .hbm, ⟨15, _⟩ => ⟨S8x8192x1024, .bf16⟩
  | .local _ .vmem, ⟨0, _⟩ => ⟨S4x64, .f32⟩
  | .local _ .vmem, ⟨1, _⟩ => ⟨S128x1, .f32⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x1x16x128x512, .bf16⟩
  | .local _ .vmem, ⟨9, _⟩ => ⟨S1x1x16x128x512, .bf16⟩
  | .local _ .vmem, ⟨10, _⟩ => ⟨S1x512x128, .bf16⟩
  | .local _ .vmem, ⟨11, _⟩ => ⟨S1x512x128, .bf16⟩
  | .local _ .vmem, ⟨12, _⟩ => ⟨S2x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 16], ![false, false, false]⟩

def k0_cond1 (i : grid0.Coords) : BitVec 1 :=
  let arg2 : BitVec 32 := BitVec.ofNat 32 (i 2).val
  let c0_i32_12 : BitVec 32 := 0#32
  let v36 : BitVec 1 := Scalar.cmpi .eq arg2 c0_i32_12
  let v37 : BitVec 32 := Scalar.extui v36
  let c0_i32_13 : BitVec 32 := 0#32
  let v38 : BitVec 1 := Scalar.cmpi .ne v37 c0_i32_13
  v38

def k0_mult1 : BitVec 32 :=
  let c0_i32_60 : BitVec 32 := 0#32
  c0_i32_60
@[reducible] def k0_t1_loop (i : grid0.Coords) : Scf.Loop 32 :=
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let c1_i32_22 : BitVec 32 := 1#32
  ⟨c0_i32_20, v60, c1_i32_22⟩
def k0_mult2 (i : grid0.Coords) (k0_t1 : Fin (k0_t1_loop i).trips) : BitVec 32 :=
  let c2_i32_60 : BitVec 32 := 2#32
  let c0_i32_20 : BitVec 32 := 0#32
  let c1_i32_22 : BitVec 32 := 1#32
  let arg11 : BitVec 32 := Scf.iv c0_i32_20 c1_i32_22 k0_t1
  let v143 : BitVec 32 := Scalar.muli c2_i32_60 arg11
  let c1_i32_61 : BitVec 32 := 1#32
  let v144 : BitVec 32 := Scalar.addi v143 c1_i32_61
  let c512_i32_62 : BitVec 32 := 512#32
  let v145 : BitVec 32 := Scalar.muli v144 c512_i32_62
  v145
def k0_off1 (i : grid0.Coords) (k0_t1 : Fin (k0_t1_loop i).trips) (c1_i32_61 : BitVec 32) : Fin 3 → Nat :=
  let c0_63 : Index := 0#32
  let c2_i32_60 : BitVec 32 := 2#32
  let c0_i32_20 : BitVec 32 := 0#32
  let c1_i32_22 : BitVec 32 := 1#32
  let arg11 : BitVec 32 := Scf.iv c0_i32_20 c1_i32_22 k0_t1
  let v143 : BitVec 32 := Scalar.muli c2_i32_60 arg11
  let v144 : BitVec 32 := Scalar.addi v143 c1_i32_61
  let c512_i32_62 : BitVec 32 := 512#32
  let v145 : BitVec 32 := Scalar.muli v144 c512_i32_62
  let v146 : BitVec 32 := v145
  let v147 : Index := Scalar.indexCast v146
  let c0_64 : Index := 0#32
  ![0, v147.toNat, 0]
def k0_off2 (i : grid0.Coords) (k0_t1 : Fin (k0_t1_loop i).trips) : Fin 5 → Nat :=
  let c0_73 : Index := 0#32
  let c0_74 : Index := 0#32
  let c2_i32_60 : BitVec 32 := 2#32
  let c0_i32_20 : BitVec 32 := 0#32
  let c1_i32_22 : BitVec 32 := 1#32
  let arg11 : BitVec 32 := Scf.iv c0_i32_20 c1_i32_22 k0_t1
  let v143 : BitVec 32 := Scalar.muli c2_i32_60 arg11
  let v170 : Index := Scalar.indexCast v143
  let c0_75 : Index := 0#32
  let c0_76 : Index := 0#32
  ![0, 0, v170.toNat, 0, 0]
def k0_mult3 (i : grid0.Coords) (k0_t1 : Fin (k0_t1_loop i).trips) : BitVec 32 :=
  let c2_i32_60 : BitVec 32 := 2#32
  let c0_i32_20 : BitVec 32 := 0#32
  let c1_i32_22 : BitVec 32 := 1#32
  let arg11 : BitVec 32 := Scf.iv c0_i32_20 c1_i32_22 k0_t1
  let v143 : BitVec 32 := Scalar.muli c2_i32_60 arg11
  let c2_i32_78 : BitVec 32 := 2#32
  let v176 : BitVec 32 := Scalar.addi v143 c2_i32_78
  let c512_i32_79 : BitVec 32 := 512#32
  let v177 : BitVec 32 := Scalar.muli v176 c512_i32_79
  v177
def k0_off3 (i : grid0.Coords) (k0_t1 : Fin (k0_t1_loop i).trips) : Fin 5 → Nat :=
  let c0_92 : Index := 0#32
  let c0_93 : Index := 0#32
  let c2_i32_60 : BitVec 32 := 2#32
  let c0_i32_20 : BitVec 32 := 0#32
  let c1_i32_22 : BitVec 32 := 1#32
  let arg11 : BitVec 32 := Scf.iv c0_i32_20 c1_i32_22 k0_t1
  let v143 : BitVec 32 := Scalar.muli c2_i32_60 arg11
  let c1_i32_86 : BitVec 32 := 1#32
  let v186 : BitVec 32 := Scalar.addi v143 c1_i32_86
  let v203 : Index := Scalar.indexCast v186
  let c0_94 : Index := 0#32
  let c0_95 : Index := 0#32
  ![0, 0, v203.toNat, 0, 0]
@[reducible] def k0_t2_loop (i : grid0.Coords) : Scf.Loop 32 :=
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let v57 : BitVec 32 := Scalar.addi c0_i32_20 v56
  let c1_i32_23 : BitVec 32 := 1#32
  ⟨v60, v57, c1_i32_23⟩
def k0_mult4 (i : grid0.Coords) (k0_t2 : Fin (k0_t2_loop i).trips) : BitVec 32 :=
  let c2_i32_60 : BitVec 32 := 2#32
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let c1_i32_23 : BitVec 32 := 1#32
  let arg11 : BitVec 32 := Scf.iv v60 c1_i32_23 k0_t2
  let v143 : BitVec 32 := Scalar.muli c2_i32_60 arg11
  let c1_i32_61 : BitVec 32 := 1#32
  let v144 : BitVec 32 := Scalar.addi v143 c1_i32_61
  let c512_i32_62 : BitVec 32 := 512#32
  let v145 : BitVec 32 := Scalar.muli v144 c512_i32_62
  v145
def k0_off4 (i : grid0.Coords) (k0_t2 : Fin (k0_t2_loop i).trips) (c1_i32_61 : BitVec 32) : Fin 3 → Nat :=
  let c0_63 : Index := 0#32
  let c2_i32_60 : BitVec 32 := 2#32
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let c1_i32_23 : BitVec 32 := 1#32
  let arg11 : BitVec 32 := Scf.iv v60 c1_i32_23 k0_t2
  let v143 : BitVec 32 := Scalar.muli c2_i32_60 arg11
  let v144 : BitVec 32 := Scalar.addi v143 c1_i32_61
  let c512_i32_62 : BitVec 32 := 512#32
  let v145 : BitVec 32 := Scalar.muli v144 c512_i32_62
  let v146 : BitVec 32 := v145
  let v147 : Index := Scalar.indexCast v146
  let c0_64 : Index := 0#32
  ![0, v147.toNat, 0]
def k0_off5 (i : grid0.Coords) (k0_t2 : Fin (k0_t2_loop i).trips) : Fin 5 → Nat :=
  let c0_73 : Index := 0#32
  let c0_74 : Index := 0#32
  let c2_i32_60 : BitVec 32 := 2#32
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let c1_i32_23 : BitVec 32 := 1#32
  let arg11 : BitVec 32 := Scf.iv v60 c1_i32_23 k0_t2
  let v143 : BitVec 32 := Scalar.muli c2_i32_60 arg11
  let v170 : Index := Scalar.indexCast v143
  let c0_75 : Index := 0#32
  let c0_76 : Index := 0#32
  ![0, 0, v170.toNat, 0, 0]
def k0_mult5 (i : grid0.Coords) (k0_t2 : Fin (k0_t2_loop i).trips) : BitVec 32 :=
  let c2_i32_60 : BitVec 32 := 2#32
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let c1_i32_23 : BitVec 32 := 1#32
  let arg11 : BitVec 32 := Scf.iv v60 c1_i32_23 k0_t2
  let v143 : BitVec 32 := Scalar.muli c2_i32_60 arg11
  let c2_i32_78 : BitVec 32 := 2#32
  let v176 : BitVec 32 := Scalar.addi v143 c2_i32_78
  let c512_i32_79 : BitVec 32 := 512#32
  let v177 : BitVec 32 := Scalar.muli v176 c512_i32_79
  v177
def k0_off6 (i : grid0.Coords) (k0_t2 : Fin (k0_t2_loop i).trips) : Fin 5 → Nat :=
  let c0_92 : Index := 0#32
  let c0_93 : Index := 0#32
  let c2_i32_60 : BitVec 32 := 2#32
  let c0_i32_20 : BitVec 32 := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c0_i32_14 : BitVec 32 := 0#32
  let v40 : BitVec 1 := Scalar.cmpi .sgt v35 c0_i32_14
  let v41 : BitVec 32 := Scalar.extui v40
  let c0_i32_15 : BitVec 32 := 0#32
  let v42 : BitVec 1 := Scalar.cmpi .slt v35 c0_i32_15
  let v43 : BitVec 32 := Scalar.extui v42
  let v44 : BitVec 32 := Scalar.subi v41 v43
  let c2_i32 : BitVec 32 := 2#32
  let c0_i32_16 : BitVec 32 := 0#32
  let v45 : BitVec 1 := Scalar.cmpi .sgt c2_i32 c0_i32_16
  let v46 : BitVec 32 := Scalar.extui v45
  let c0_i32_17 : BitVec 32 := 0#32
  let v47 : BitVec 1 := Scalar.cmpi .slt c2_i32 c0_i32_17
  let v48 : BitVec 32 := Scalar.extui v47
  let v49 : BitVec 32 := Scalar.subi v46 v48
  let v50 : BitVec 1 := Scalar.cmpi .ne v44 v49
  let v51 : BitVec 32 := Scalar.remsi v35 c2_i32
  let c0_i32_18 : BitVec 32 := 0#32
  let v52 : BitVec 1 := Scalar.cmpi .ne v51 c0_i32_18
  let v53 : BitVec 1 := Scalar.andi v50 v52
  let v39 : BitVec 32 := Scalar.divsi v35 c2_i32
  let c1_i32_19 : BitVec 32 := 1#32
  let v54 : BitVec 32 := Scalar.subi v39 c1_i32_19
  let v55 : BitVec 32 := Scalar.select v53 v54 v39
  let v56 : BitVec 32 := Scalar.subi v55 c0_i32_20
  let c1_i32_21 : BitVec 32 := 1#32
  let v58 : BitVec 32 := Scalar.divsi v56 c1_i32_21
  let v59 : BitVec 32 := Scalar.muli v58 c1_i32_21
  let v60 : BitVec 32 := Scalar.addi c0_i32_20 v59
  let c1_i32_23 : BitVec 32 := 1#32
  let arg11 : BitVec 32 := Scf.iv v60 c1_i32_23 k0_t2
  let v143 : BitVec 32 := Scalar.muli c2_i32_60 arg11
  let c1_i32_86 : BitVec 32 := 1#32
  let v186 : BitVec 32 := Scalar.addi v143 c1_i32_86
  let v203 : Index := Scalar.indexCast v186
  let c0_94 : Index := 0#32
  let c0_95 : Index := 0#32
  ![0, 0, v203.toNat, 0, 0]
def k0_cond2 (i : grid0.Coords) : BitVec 1 :=
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c2_i32_24 : BitVec 32 := 2#32
  let c0_i32_25 : BitVec 32 := 0#32
  let v63 : BitVec 1 := Scalar.cmpi .eq c2_i32_24 c0_i32_25
  let c1_i32_26 : BitVec 32 := 1#32
  let v64 : BitVec 32 := Scalar.select v63 c1_i32_26 c2_i32_24
  let v65 : BitVec 32 := Scalar.remsi v35 v64
  let c0_i32_28 : BitVec 32 := 0#32
  let v67 : BitVec 1 := Scalar.cmpi .slt v65 c0_i32_28
  let c0_i32_29 : BitVec 32 := 0#32
  let v68 : BitVec 1 := Scalar.cmpi .slt v64 c0_i32_29
  let v69 : BitVec 1 := Scalar.xori v67 v68
  let c0_i32_27 : BitVec 32 := 0#32
  let v66 : BitVec 1 := Scalar.cmpi .ne v65 c0_i32_27
  let v70 : BitVec 1 := Scalar.andi v69 v66
  let v71 : BitVec 32 := Scalar.addi v65 v64
  let v72 : BitVec 32 := Scalar.select v70 v71 v65
  let c1_i32_30 : BitVec 32 := 1#32
  let v73 : BitVec 1 := Scalar.cmpi .eq v72 c1_i32_30
  let v74 : BitVec 32 := Scalar.extui v73
  let c0_i32_31 : BitVec 32 := 0#32
  let v75 : BitVec 1 := Scalar.cmpi .ne v74 c0_i32_31
  v75

def k0_mult6 (i : grid0.Coords) : BitVec 32 :=
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c512_i32_60 : BitVec 32 := 512#32
  let v143 : BitVec 32 := Scalar.muli v35 c512_i32_60
  v143
def k0_off7 (i : grid0.Coords) : Fin 3 → Nat :=
  let c0_61 : Index := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c512_i32_60 : BitVec 32 := 512#32
  let v143 : BitVec 32 := Scalar.muli v35 c512_i32_60
  let v144 : BitVec 32 := v143
  let v145 : Index := Scalar.indexCast v144
  let c0_62 : Index := 0#32
  ![0, v145.toNat, 0]
def k0_off8 (i : grid0.Coords) : Fin 5 → Nat :=
  let c0_72 : Index := 0#32
  let c0_73 : Index := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let c1_i32_66 : BitVec 32 := 1#32
  let v152 : BitVec 32 := Scalar.subi v35 c1_i32_66
  let v169 : Index := Scalar.indexCast v152
  let c0_74 : Index := 0#32
  let c0_75 : Index := 0#32
  ![0, 0, v169.toNat, 0, 0]
def k0_off9 (i : grid0.Coords) : Fin 5 → Nat :=
  let c0_87 : Index := 0#32
  let c0_88 : Index := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let v207 : Index := Scalar.indexCast v35
  let c0_89 : Index := 0#32
  let c0_90 : Index := 0#32
  ![0, 0, v207.toNat, 0, 0]
def k0_off10 (i : grid0.Coords) : Fin 5 → Nat :=
  let c0_70 : Index := 0#32
  let c0_71 : Index := 0#32
  let arg2 : BitVec 32 := BitVec.ofNat 32 (i 2).val
  let c512_i32 : BitVec 32 := 512#32
  let v18 : BitVec 32 := Scalar.muli arg2 c512_i32
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c512_i32_7 : BitVec 32 := 512#32
  let c0_i32_9 : BitVec 32 := 0#32
  let v25 : BitVec 1 := Scalar.cmpi .sgt c512_i32_7 c0_i32_9
  let v26 : BitVec 32 := Scalar.extui v25
  let c0_i32_10 : BitVec 32 := 0#32
  let v27 : BitVec 1 := Scalar.cmpi .slt c512_i32_7 c0_i32_10
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_11 : BitVec 32 := 0#32
  let v32 : BitVec 1 := Scalar.cmpi .ne v31 c0_i32_11
  let v33 : BitVec 1 := Scalar.andi v30 v32
  let v19 : BitVec 32 := Scalar.divsi v18 c512_i32_7
  let c1_i32 : BitVec 32 := 1#32
  let v34 : BitVec 32 := Scalar.subi v19 c1_i32
  let v35 : BitVec 32 := Scalar.select v33 v34 v19
  let v175 : Index := Scalar.indexCast v35
  let c0_72 : Index := 0#32
  let c0_73 : Index := 0#32
  ![0, 0, v175.toNat, 0, 0]
def k0_mult7 : BitVec 32 :=
  let c0_i32_39 : BitVec 32 := 0#32
  c0_i32_39
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  ![arg0.toNat, v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "q_scale" => some (((1 / 8) * (Real.log 2)⁻¹ : ℝ) : EReal)
  | _ => none
-- ==== ReferenceIdeal.lean ====
abbrev S8x8192x1024 : Shape := ⟨3, ![8, 8192, 1024]⟩
abbrev S4x64 : Shape := ⟨2, ![4, 64]⟩
abbrev S128 : Shape := ⟨1, ![128]⟩
abbrev S8x8192x8x2x64 : Shape := ⟨5, ![8, 8192, 8, 2, 64]⟩
abbrev S8x8192x8x128 : Shape := ⟨4, ![8, 8192, 8, 128]⟩
abbrev S1x64 : Shape := ⟨2, ![1, 64]⟩
abbrev S64 : Shape := ⟨1, ![64]⟩
abbrev S_ : Shape := ⟨0, ![]⟩
abbrev S8192 : Shape := ⟨1, ![8192]⟩
abbrev S8x8x2x8192x8192 : Shape := ⟨5, ![8, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S1x1x1x8192x8192 : Shape := ⟨5, ![1, 1, 1, 8192, 8192]⟩
abbrev S8x8x2x8192 : Shape := ⟨4, ![8, 8, 2, 8192]⟩
abbrev S8x8x2x8192x1 : Shape := ⟨5, ![8, 8, 2, 8192, 1]⟩
abbrev S8x8x1x8192x8192 : Shape := ⟨5, ![8, 8, 1, 8192, 8192]⟩
abbrev S8x8x8192x8192 : Shape := ⟨4, ![8, 8, 8192, 8192]⟩
abbrev S8x8x128x8192 : Shape := ⟨4, ![8, 8, 128, 8192]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S4x64, .f32⟩
  | .hbm, ⟨4, _⟩ => ⟨S128, .f32⟩
  | .hbm, ⟨5, _⟩ => ⟨S8x8192x8x2x64, .f32⟩
  | .hbm, ⟨6, _⟩ => ⟨S8x8192x8x2x64, .f32⟩
  | .hbm, ⟨7, _⟩ => ⟨S8x8192x8x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .i32⟩
  | .hbm, ⟨28, _⟩ => ⟨S8x8x2x8192x8192, .f32⟩
  | .hbm, ⟨29, _⟩ => ⟨S_, .f32⟩
  | .hbm, ⟨30, _⟩ => ⟨S8x8x2x8192x8192, .f32⟩
  | .hbm, ⟨31, _⟩ => ⟨S8x8x2x8192x8192, .f32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x1x1x8192x8192, .i1⟩
  | .hbm, ⟨38, _⟩ => ⟨S_, .f32⟩
  | .hbm, ⟨39, _⟩ => ⟨S_, .f32⟩
  | .hbm, ⟨40, _⟩ => ⟨S8x8x2x8192x8192, .i1⟩
  | .hbm, ⟨41, _⟩ => ⟨S8x8x2x8192x8192, .f32⟩
  | .hbm, ⟨42, _⟩ => ⟨S8x8x2x8192x8192, .f32⟩
  | .hbm, ⟨43, _⟩ => ⟨S_, .f32⟩
  | .hbm, ⟨44, _⟩ => ⟨S8x8x2x8192, .f32⟩
  | .hbm, ⟨45, _⟩ => ⟨S_, .f32⟩
  | .hbm, ⟨46, _⟩ => ⟨S8x8x2x8192, .f32⟩
  | .hbm, ⟨47, _⟩ => ⟨S8x8x2x8192, .f32⟩
  | .hbm, ⟨48, _⟩ => ⟨S8x8x2x8192x1, .f32⟩
  | .hbm, ⟨49, _⟩ => ⟨S8x8x2x8192x8192, .f32⟩
  | .hbm, ⟨50, _⟩ => ⟨S8x8x2x8192x8192, .f32⟩
  | .hbm, ⟨51, _⟩ => ⟨S8x8x2x8192x8192, .f32⟩
  | .hbm, ⟨52, _⟩ => ⟨S_, .f32⟩
  | .hbm, ⟨53, _⟩ => ⟨S8x8x2x8192, .f32⟩
  | .hbm, ⟨54, _⟩ => ⟨S8x8x2x8192x1, .f32⟩
  | .hbm, ⟨55, _⟩ => ⟨S8x8x2x8192x8192, .f32⟩
  | .hbm, ⟨56, _⟩ => ⟨S8x8x2x8192x8192, .f32⟩
  | .hbm, ⟨57, _⟩ => ⟨S8x8x1x8192x8192, .f32⟩
  | .hbm, ⟨58, _⟩ => ⟨S8x8x8192x8192, .f32⟩
  | .hbm, ⟨59, _⟩ => ⟨S8x8x1x8192x8192, .f32⟩
  | .hbm, ⟨60, _⟩ => ⟨S8x8x8192x8192, .f32⟩
  | .hbm, ⟨61, _⟩ => ⟨S8x8x8192x8192, .f32⟩
  | .hbm, ⟨62, _⟩ => ⟨S8x8x8192x8192, .f32⟩
  | .hbm, ⟨63, _⟩ => ⟨S8x8x8192x8192, .f32⟩
  | .hbm, ⟨64, _⟩ => ⟨S8x8x128x8192, .f32⟩
  | .hbm, ⟨65, _⟩ => ⟨S8x8192x8x128, .f32⟩
  | .hbm, ⟨66, _⟩ => ⟨S8x8192x8x128, .f32⟩
  | .hbm, ⟨67, _⟩ => ⟨S_, .f32⟩
  | .hbm, ⟨68, _⟩ => ⟨S8x8192x8, .f32⟩
  | .hbm, ⟨69, _⟩ => ⟨S8x8192x8x1, .f32⟩
  | .hbm, ⟨70, _⟩ => ⟨S_, .f32⟩
  | .hbm, ⟨71, _⟩ => ⟨S8x8192x8x1, .f32⟩
  | .hbm, ⟨72, _⟩ => ⟨S8x8192x8x1, .f32⟩
  | .hbm, ⟨73, _⟩ => ⟨S_, .f32⟩
  | .hbm, ⟨74, _⟩ => ⟨S8x8192x8x1, .f32⟩
  | .hbm, ⟨75, _⟩ => ⟨S8x8192x8x1, .f32⟩
  | .hbm, ⟨76, _⟩ => ⟨S8x8192x8x1, .f32⟩
  | .hbm, ⟨77, _⟩ => ⟨S8x8192x8x128, .f32⟩
  | .hbm, ⟨78, _⟩ => ⟨S8x8192x8x128, .f32⟩
  | .hbm, ⟨79, _⟩ => ⟨S1x1x1x128, .f32⟩
  | .hbm, ⟨80, _⟩ => ⟨S8x8192x8x128, .f32⟩
  | .hbm, ⟨81, _⟩ => ⟨S8x8192x8x128, .f32⟩
  | .hbm, ⟨82, _⟩ => ⟨S_, .f32⟩
  | .hbm, ⟨83, _⟩ => ⟨S8x8192x8x128, .f32⟩
  | .hbm, ⟨84, _⟩ => ⟨S8x8192x8x128, .f32⟩
  | .hbm, ⟨85, _⟩ => ⟨S8x8192x1024, .f32⟩
  | .hbm, ⟨86, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024x3072 : Shape := ⟨2, ![1024, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S128 : Shape := ⟨1, ![128]⟩
abbrev S1x128 : Shape := ⟨2, ![1, 128]⟩
abbrev S65536x1024 : Shape := ⟨2, ![65536, 1024]⟩
abbrev S1x3072 : Shape := ⟨2, ![1, 3072]⟩
abbrev S65536x2048 : Shape := ⟨2, ![65536, 2048]⟩
abbrev S8x8x16x128x512 : Shape := ⟨5, ![8, 8, 16, 128, 512]⟩
abbrev S512x1024 : Shape := ⟨2, ![512, 1024]⟩
abbrev S512x128 : Shape := ⟨2, ![512, 128]⟩
abbrev S512x2048 : Shape := ⟨2, ![512, 2048]⟩
abbrev S1x8x1x128x512 : Shape := ⟨5, ![1, 8, 1, 128, 512]⟩
abbrev S1024x512 : Shape := ⟨2, ![1024, 512]⟩
abbrev S512x512 : Shape := ⟨2, ![512, 512]⟩
abbrev S1x512 : Shape := ⟨2, ![1, 512]⟩
abbrev S128x512 : Shape := ⟨2, ![128, 512]⟩
abbrev S1x1x1x128x512 : Shape := ⟨5, ![1, 1, 1, 128, 512]⟩

abbrev nBuf : Space → Nat
  | .hbm => 77
  | .vmem => 14
  | .smem => 0
  | _ => 0

abbrev bufTy : (tb : Table) → Fin (tcTables nBuf tb) → BufTy
  | .hbm, ⟨0, _⟩ => ⟨S8x8192x1024, .f32⟩
  | .hbm, ⟨1, _⟩ => ⟨S1024x3072, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x1x32, .f32⟩
  | .hbm, ⟨26, _⟩ => ⟨S1x8192x4x32, .f32⟩
  | .hbm, ⟨27, _⟩ => ⟨S8192x128, .f32⟩
  | .hbm, ⟨28, _⟩ => ⟨S8192x32, .f32⟩
  | .hbm, ⟨29, _⟩ => ⟨S1x8192x1x32, .f32⟩
  | .hbm, ⟨30, _⟩ => ⟨S1x8192x4x32, .f32⟩
  | .hbm, ⟨31, _⟩ => ⟨S8192x128, .f32⟩
  | .hbm, ⟨32, _⟩ => ⟨S128, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S_, .i1⟩
  | .hbm, ⟨49, _⟩ => ⟨S128, .i1⟩
  | .hbm, ⟨50, _⟩ => ⟨S128, .i1⟩
  | .hbm, ⟨51, _⟩ => ⟨S128, .i1⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S1x128, .i1⟩
  | .hbm, ⟨59, _⟩ => ⟨S8192x128, .f32⟩
  | .hbm, ⟨60, _⟩ => ⟨S_, .f32⟩
  | .hbm, ⟨61, _⟩ => ⟨S_, .f32⟩
  | .hbm, ⟨62, _⟩ => ⟨S8192x128, .i1⟩
  | .hbm, ⟨63, _⟩ => ⟨S8192x128, .f32⟩
  | .hbm, ⟨64, _⟩ => ⟨S8192x128, .f32⟩
  | .hbm, ⟨65, _⟩ => ⟨S1x128, .i1⟩
  | .hbm, ⟨66, _⟩ => ⟨S_, .f32⟩
  | .hbm, ⟨67, _⟩ => ⟨S_, .f32⟩
  | .hbm, ⟨68, _⟩ => ⟨S8192x128, .i1⟩
  | .hbm, ⟨69, _⟩ => ⟨S8192x128, .f32⟩
  | .hbm, ⟨70, _⟩ => ⟨S8192x128, .f32⟩
  | .hbm, ⟨71, _⟩ => ⟨S65536x1024, .f32⟩
  | .hbm, ⟨72, _⟩ => ⟨S1024x3072, .bf16⟩
  | .hbm, ⟨73, _⟩ => ⟨S_, .f32⟩
  | .hbm, ⟨74, _⟩ => ⟨S1x3072, .f32⟩
  | .hbm, ⟨75, _⟩ => ⟨S65536x2048, .bf16⟩
  | .hbm, ⟨76, _⟩ => ⟨S8x8x16x128x512, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S512x2048, .bf16⟩
  | .local _ .vmem, ⟨12, _⟩ => ⟨S1x8x1x128x512, .bf16⟩
  | .local _ .vmem, ⟨13, _⟩ => ⟨S1x8x1x128x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_v37_0 : Ref sig .tc := ⟨.hbm, 75, rfl⟩
abbrev main_v37_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x8192x1024 : Shape := ⟨3, ![8, 8192, 1024]⟩
abbrev S1024x3072 : Shape := ⟨2, ![1024, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8x8192x3072 : Shape := ⟨3, ![8, 8192, 3072]⟩
abbrev S8x8192x16x64 : Shape := ⟨4, ![8, 8192, 16, 64]⟩
abbrev S8x8192x16x32 : Shape := ⟨4, ![8, 8192, 16, 32]⟩
abbrev S1x8192x1x32 : Shape := ⟨4, ![1, 8192, 1, 32]⟩
abbrev S8x16x512x8x128 : Shape := ⟨5, ![8, 16, 512, 8, 128]⟩
abbrev S65536x1024 : Shape := ⟨2, ![65536, 1024]⟩
abbrev S65536x2048 : Shape := ⟨2, ![65536, 2048]⟩
abbrev S8x8x16x128x512 : Shape := ⟨5, ![8, 8, 16, 128, 512]⟩

abbrev nBuf : Space → Nat
  | .hbm => 72
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x3072, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8x8192x3072, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x16x64, .f32⟩
  | .hbm, ⟨31, _⟩ => ⟨S8x8192x16x32, .f32⟩
  | .hbm, ⟨32, _⟩ => ⟨S8x8192x16x32, .f32⟩
  | .hbm, ⟨33, _⟩ => ⟨S1x8192x1x32, .f32⟩
  | .hbm, ⟨34, _⟩ => ⟨S1x8192x1x32, .f32⟩
  | .hbm, ⟨35, _⟩ => ⟨S8x8192x16x32, .f32⟩
  | .hbm, ⟨36, _⟩ => ⟨S8x8192x16x32, .f32⟩
  | .hbm, ⟨37, _⟩ => ⟨S8x8192x16x32, .f32⟩
  | .hbm, ⟨38, _⟩ => ⟨S8x8192x16x32, .f32⟩
  | .hbm, ⟨39, _⟩ => ⟨S8x8192x16x32, .f32⟩
  | .hbm, ⟨40, _⟩ => ⟨S8x8192x16x32, .f32⟩
  | .hbm, ⟨41, _⟩ => ⟨S8x8192x16x32, .f32⟩
  | .hbm, ⟨42, _⟩ => ⟨S8x8192x16x32, .f32⟩
  | .hbm, ⟨43, _⟩ => ⟨S8x8192x16x32, .f32⟩
  | .hbm, ⟨44, _⟩ => ⟨S8x8192x16x32, .f32⟩
  | .hbm, ⟨45, _⟩ => ⟨S8x8192x16x64, .f32⟩
  | .hbm, ⟨46, _⟩ => ⟨S_, .f32⟩
  | .hbm, ⟨47, _⟩ => ⟨S8x8192x16x64, .f32⟩
  | .hbm, ⟨48, _⟩ => ⟨S8x8192x16x64, .f32⟩
  | .hbm, ⟨49, _⟩ => ⟨S8x8192x16x64, .f32⟩
  | .hbm, ⟨50, _⟩ => ⟨S8x8192x16x32, .f32⟩
  | .hbm, ⟨51, _⟩ => ⟨S8x8192x16x32, .f32⟩
  | .hbm, ⟨52, _⟩ => ⟨S1x8192x1x32, .f32⟩
  | .hbm, ⟨53, _⟩ => ⟨S1x8192x1x32, .f32⟩
  | .hbm, ⟨54, _⟩ => ⟨S8x8192x16x32, .f32⟩
  | .hbm, ⟨55, _⟩ => ⟨S8x8192x16x32, .f32⟩
  | .hbm, ⟨56, _⟩ => ⟨S8x8192x16x32, .f32⟩
  | .hbm, ⟨57, _⟩ => ⟨S8x8192x16x32, .f32⟩
  | .hbm, ⟨58, _⟩ => ⟨S8x8192x16x32, .f32⟩
  | .hbm, ⟨59, _⟩ => ⟨S8x8192x16x32, .f32⟩
  | .hbm, ⟨60, _⟩ => ⟨S8x8192x16x32, .f32⟩
  | .hbm, ⟨61, _⟩ => ⟨S8x8192x16x32, .f32⟩
  | .hbm, ⟨62, _⟩ => ⟨S8x8192x16x32, .f32⟩
  | .hbm, ⟨63, _⟩ => ⟨S8x8192x16x32, .f32⟩
  | .hbm, ⟨64, _⟩ => ⟨S8x8192x16x64, .f32⟩
  | .hbm, ⟨65, _⟩ => ⟨S8x16x512x8x128, .f32⟩
  | .hbm, ⟨66, _⟩ => ⟨S65536x1024, .f32⟩
  | .hbm, ⟨67, _⟩ => ⟨S65536x1024, .f32⟩
  | .hbm, ⟨68, _⟩ => ⟨S65536x2048, .f32⟩
  | .hbm, ⟨69, _⟩ => ⟨S65536x2048, .bf16⟩
  | .hbm, ⟨70, _⟩ => ⟨S8x8x16x128x512, .f32⟩
  | .hbm, ⟨71, _⟩ => ⟨S8x8x16x128x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024x1024 : Shape := ⟨2, ![1024, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S65536x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x8192x1024 : Shape := ⟨3, ![8, 8192, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x8192 : Shape := ⟨2, ![8, 8192]⟩
abbrev S8x8192x1 : Shape := ⟨3, ![8, 8192, 1]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x8192x1024, .f32⟩
  | .hbm, ⟨7, _⟩ => ⟨S1x1x1024, .f32⟩
  | .hbm, ⟨8, _⟩ => ⟨S8x8192x1024, .f32⟩
  | .hbm, ⟨9, _⟩ => ⟨S8x8192x1024, .f32⟩
  | .hbm, ⟨10, _⟩ => ⟨S_, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S8x8192x1024, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S_, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S8x8192x1, .f32⟩
  | .hbm, ⟨35, _⟩ => ⟨S8x8192x1024, .f32⟩
  | .hbm, ⟨36, _⟩ => ⟨S8x8192x1024, .f32⟩
  | .hbm, ⟨37, _⟩ => ⟨S1x1x1024, .f32⟩
  | .hbm, ⟨38, _⟩ => ⟨S8x8192x1024, .f32⟩
  | .hbm, ⟨39, _⟩ => ⟨S8x8192x1024, .f32⟩
  | .hbm, ⟨40, _⟩ => ⟨S1x1x1024, .f32⟩
  | .hbm, ⟨41, _⟩ => ⟨S8x8192x1024, .f32⟩
  | .hbm, ⟨42, _⟩ => ⟨S8x8192x1024, .f32⟩
  | .hbm, ⟨43, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024x1280 : Shape := ⟨2, ![1024, 1280]⟩
abbrev S1280 : Shape := ⟨1, ![1280]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S128 : Shape := ⟨1, ![128]⟩
abbrev S1x128 : Shape := ⟨2, ![1, 128]⟩
abbrev S65536x1024 : Shape := ⟨2, ![65536, 1024]⟩
abbrev S1024x1024 : Shape := ⟨2, ![1024, 1024]⟩
abbrev S1024x128 : Shape := ⟨2, ![1024, 128]⟩
abbrev S1024 : Shape := ⟨1, ![1024]⟩
abbrev S1024x64 : Shape := ⟨2, ![1024, 64]⟩
abbrev S1024x1536 : Shape := ⟨2, ![1024, 1536]⟩
abbrev S64 : Shape := ⟨1, ![64]⟩
abbrev S1536 : Shape := ⟨1, ![1536]⟩
abbrev S1x1536 : Shape := ⟨2, ![1, 1536]⟩
abbrev S65536x1280 : Shape := ⟨2, ![65536, 1280]⟩
abbrev S8x2x16x128x512 : Shape := ⟨5, ![8, 2, 16, 128, 512]⟩
abbrev S512x1024 : Shape := ⟨2, ![512, 1024]⟩
abbrev S512x128 : Shape := ⟨2, ![512, 128]⟩
abbrev S512x1280 : Shape := ⟨2, ![512, 1280]⟩
abbrev S1x2x1x128x512 : Shape := ⟨5, ![1, 2, 1, 128, 512]⟩
abbrev S1024x512 : Shape := ⟨2, ![1024, 512]⟩
abbrev S512x512 : Shape := ⟨2, ![512, 512]⟩
abbrev S1x512 : Shape := ⟨2, ![1, 512]⟩
abbrev S128x512 : Shape := ⟨2, ![128, 512]⟩
abbrev S1x1x1x128x512 : Shape := ⟨5, ![1, 1, 1, 128, 512]⟩

abbrev nBuf : Space → Nat
  | .hbm => 97
  | .vmem => 14
  | .smem => 0
  | _ => 0

abbrev bufTy : (tb : Table) → Fin (tcTables nBuf tb) → BufTy
  | .hbm, ⟨0, _⟩ => ⟨S8x8192x1024, .f32⟩
  | .hbm, ⟨1, _⟩ => ⟨S1024x1280, .f32⟩
  | .hbm, ⟨2, _⟩ => ⟨S1280, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S1x8192x1x32, .f32⟩
  | .hbm, ⟨27, _⟩ => ⟨S1x8192x4x32, .f32⟩
  | .hbm, ⟨28, _⟩ => ⟨S8192x128, .f32⟩
  | .hbm, ⟨29, _⟩ => ⟨S8192x32, .f32⟩
  | .hbm, ⟨30, _⟩ => ⟨S1x8192x1x32, .f32⟩
  | .hbm, ⟨31, _⟩ => ⟨S1x8192x4x32, .f32⟩
  | .hbm, ⟨32, _⟩ => ⟨S8192x128, .f32⟩
  | .hbm, ⟨33, _⟩ => ⟨S128, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S_, .i1⟩
  | .hbm, ⟨50, _⟩ => ⟨S128, .i1⟩
  | .hbm, ⟨51, _⟩ => ⟨S128, .i1⟩
  | .hbm, ⟨52, _⟩ => ⟨S128, .i1⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S1x128, .i1⟩
  | .hbm, ⟨60, _⟩ => ⟨S8192x128, .f32⟩
  | .hbm, ⟨61, _⟩ => ⟨S_, .f32⟩
  | .hbm, ⟨62, _⟩ => ⟨S_, .f32⟩
  | .hbm, ⟨63, _⟩ => ⟨S8192x128, .i1⟩
  | .hbm, ⟨64, _⟩ => ⟨S8192x128, .f32⟩
  | .hbm, ⟨65, _⟩ => ⟨S8192x128, .f32⟩
  | .hbm, ⟨66, _⟩ => ⟨S1x128, .i1⟩
  | .hbm, ⟨67, _⟩ => ⟨S_, .f32⟩
  | .hbm, ⟨68, _⟩ => ⟨S_, .f32⟩
  | .hbm, ⟨69, _⟩ => ⟨S8192x128, .i1⟩
  | .hbm, ⟨70, _⟩ => ⟨S8192x128, .f32⟩
  | .hbm, ⟨71, _⟩ => ⟨S8192x128, .f32⟩
  | .hbm, ⟨72, _⟩ => ⟨S65536x1024, .f32⟩
  | .hbm, ⟨73, _⟩ => ⟨S1024x1024, .f32⟩
  | .hbm, ⟨74, _⟩ => ⟨S1024x128, .f32⟩
  | .hbm, ⟨75, _⟩ => ⟨S1024x128, .f32⟩
  | .hbm, ⟨76, _⟩ => ⟨S1024, .f32⟩
  | .hbm, ⟨77, _⟩ => ⟨S128, .f32⟩
  | .hbm, ⟨78, _⟩ => ⟨S128, .f32⟩
  | .hbm, ⟨79, _⟩ => ⟨S1024x64, .f32⟩
  | .hbm, ⟨80, _⟩ => ⟨S1024x64, .f32⟩
  | .hbm, ⟨81, _⟩ => ⟨S1024x128, .f32⟩
  | .hbm, ⟨82, _⟩ => ⟨S1024x64, .f32⟩
  | .hbm, ⟨83, _⟩ => ⟨S1024x64, .f32⟩
  | .hbm, ⟨84, _⟩ => ⟨S1024x128, .f32⟩
  | .hbm, ⟨85, _⟩ => ⟨S1024x1536, .f32⟩
  | .hbm, ⟨86, _⟩ => ⟨S1024x1536, .bf16⟩
  | .hbm, ⟨87, _⟩ => ⟨S64, .f32⟩
  | .hbm, ⟨88, _⟩ => ⟨S64, .f32⟩
  | .hbm, ⟨89, _⟩ => ⟨S128, .f32⟩
  | .hbm, ⟨90, _⟩ => ⟨S64, .f32⟩
  | .hbm, ⟨91, _⟩ => ⟨S64, .f32⟩
  | .hbm, ⟨92, _⟩ => ⟨S128, .f32⟩
  | .hbm, ⟨93, _⟩ => ⟨S1536, .f32⟩
  | .hbm, ⟨94, _⟩ => ⟨S1x1536, .f32⟩
  | .hbm, ⟨95, _⟩ => ⟨S65536x1280, .bf16⟩
  | .hbm, ⟨96, _⟩ => ⟨S8x2x16x128x512, .bf16⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1x1536, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1280, .bf16⟩
  | .local _ .vmem, ⟨11, _⟩ => ⟨S512x1280, .bf16⟩
  | .local _ .vmem, ⟨12, _⟩ => ⟨S1x2x1x128x512, .bf16⟩
  | .local _ .vmem, ⟨13, _⟩ => ⟨S1x2x1x128x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57_0 : Ref sig .tc := ⟨.hbm, 95, rfl⟩
abbrev main_v57_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x8192x1024 : Shape := ⟨3, ![8, 8192, 1024]⟩
abbrev S1024x1280 : Shape := ⟨2, ![1024, 1280]⟩
abbrev S1280 : Shape := ⟨1, ![1280]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8x8192x1280 : Shape := ⟨3, ![8, 8192, 1280]⟩
abbrev S1x1x1280 : Shape := ⟨3, ![1, 1, 1280]⟩
abbrev S8x8192x128 : Shape := ⟨3, ![8, 8192, 128]⟩
abbrev S8x8192x16x64 : Shape := ⟨4, ![8, 8192, 16, 64]⟩
abbrev S8x8192x16x32 : Shape := ⟨4, ![8, 8192, 16, 32]⟩
abbrev S1x8192x1x32 : Shape := ⟨4, ![1, 8192, 1, 32]⟩
abbrev S8x8192x2x64 : Shape := ⟨4, ![8, 8192, 2, 64]⟩
abbrev S8x8192x2x32 : Shape := ⟨4, ![8, 8192, 2, 32]⟩
abbrev S8x8192x1x64 : Shape := ⟨4, ![8, 8192, 1, 64]⟩
abbrev S8x8192x4x64 : Shape := ⟨4, ![8, 8192, 4, 64]⟩
abbrev S65536x1024 : Shape := ⟨2, ![65536, 1024]⟩
abbrev S65536x256 : Shape := ⟨2, ![65536, 256]⟩
abbrev S65536x1280 : Shape := ⟨2, ![65536, 1280]⟩
abbrev S8x16x512x2x128 : Shape := ⟨5, ![8, 16, 512, 2, 128]⟩
abbrev S8x2x16x128x512 : Shape := ⟨5, ![8, 2, 16, 128, 512]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1280, .f32⟩
  | .hbm, ⟨2, _⟩ => ⟨S1280, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8x8192x1280, .f32⟩
  | .hbm, ⟨28, _⟩ => ⟨S1x1x1280, .f32⟩
  | .hbm, ⟨29, _⟩ => ⟨S8x8192x1280, .f32⟩
  | .hbm, ⟨30, _⟩ => ⟨S8x8192x1280, .f32⟩
  | .hbm, ⟨31, _⟩ => ⟨S8x8192x1024, .f32⟩
  | .hbm, ⟨32, _⟩ => ⟨S8x8192x128, .f32⟩
  | .hbm, ⟨33, _⟩ => ⟨S8x8192x128, .f32⟩
  | .hbm, ⟨34, _⟩ => ⟨S8x8192x16x64, .f32⟩
  | .hbm, ⟨35, _⟩ => ⟨S8x8192x16x32, .f32⟩
  | .hbm, ⟨36, _⟩ => ⟨S8x8192x16x32, .f32⟩
  | .hbm, ⟨37, _⟩ => ⟨S1x8192x1x32, .f32⟩
  | .hbm, ⟨38, _⟩ => ⟨S1x8192x1x32, .f32⟩
  | .hbm, ⟨39, _⟩ => ⟨S8x8192x16x32, .f32⟩
  | .hbm, ⟨40, _⟩ => ⟨S8x8192x16x32, .f32⟩
  | .hbm, ⟨41, _⟩ => ⟨S8x8192x16x32, .f32⟩
  | .hbm, ⟨42, _⟩ => ⟨S8x8192x16x32, .f32⟩
  | .hbm, ⟨43, _⟩ => ⟨S8x8192x16x32, .f32⟩
  | .hbm, ⟨44, _⟩ => ⟨S8x8192x16x32, .f32⟩
  | .hbm, ⟨45, _⟩ => ⟨S8x8192x16x32, .f32⟩
  | .hbm, ⟨46, _⟩ => ⟨S8x8192x16x32, .f32⟩
  | .hbm, ⟨47, _⟩ => ⟨S8x8192x16x32, .f32⟩
  | .hbm, ⟨48, _⟩ => ⟨S8x8192x16x32, .f32⟩
  | .hbm, ⟨49, _⟩ => ⟨S8x8192x16x64, .f32⟩
  | .hbm, ⟨50, _⟩ => ⟨S_, .f32⟩
  | .hbm, ⟨51, _⟩ => ⟨S8x8192x16x64, .f32⟩
  | .hbm, ⟨52, _⟩ => ⟨S8x8192x16x64, .f32⟩
  | .hbm, ⟨53, _⟩ => ⟨S8x8192x2x64, .f32⟩
  | .hbm, ⟨54, _⟩ => ⟨S8x8192x2x32, .f32⟩
  | .hbm, ⟨55, _⟩ => ⟨S8x8192x2x32, .f32⟩
  | .hbm, ⟨56, _⟩ => ⟨S1x8192x1x32, .f32⟩
  | .hbm, ⟨57, _⟩ => ⟨S1x8192x1x32, .f32⟩
  | .hbm, ⟨58, _⟩ => ⟨S8x8192x2x32, .f32⟩
  | .hbm, ⟨59, _⟩ => ⟨S8x8192x2x32, .f32⟩
  | .hbm, ⟨60, _⟩ => ⟨S8x8192x2x32, .f32⟩
  | .hbm, ⟨61, _⟩ => ⟨S8x8192x2x32, .f32⟩
  | .hbm, ⟨62, _⟩ => ⟨S8x8192x2x32, .f32⟩
  | .hbm, ⟨63, _⟩ => ⟨S8x8192x2x32, .f32⟩
  | .hbm, ⟨64, _⟩ => ⟨S8x8192x2x32, .f32⟩
  | .hbm, ⟨65, _⟩ => ⟨S8x8192x2x32, .f32⟩
  | .hbm, ⟨66, _⟩ => ⟨S8x8192x2x32, .f32⟩
  | .hbm, ⟨67, _⟩ => ⟨S8x8192x2x32, .f32⟩
  | .hbm, ⟨68, _⟩ => ⟨S8x8192x2x64, .f32⟩
  | .hbm, ⟨69, _⟩ => ⟨S8x8192x2x64, .f32⟩
  | .hbm, ⟨70, _⟩ => ⟨S8x8192x1x64, .f32⟩
  | .hbm, ⟨71, _⟩ => ⟨S8x8192x1x64, .f32⟩
  | .hbm, ⟨72, _⟩ => ⟨S8x8192x2x64, .f32⟩
  | .hbm, ⟨73, _⟩ => ⟨S8x8192x4x64, .f32⟩
  | .hbm, ⟨74, _⟩ => ⟨S8x8192x1x64, .f32⟩
  | .hbm, ⟨75, _⟩ => ⟨S8x8192x1x64, .f32⟩
  | .hbm, ⟨76, _⟩ => ⟨S8x8192x2x64, .f32⟩
  | .hbm, ⟨77, _⟩ => ⟨S8x8192x4x64, .f32⟩
  | .hbm, ⟨78, _⟩ => ⟨S65536x1024, .f32⟩
  | .hbm, ⟨79, _⟩ => ⟨S65536x256, .f32⟩
  | .hbm, ⟨80, _⟩ => ⟨S65536x1280, .f32⟩
  | .hbm, ⟨81, _⟩ => ⟨S8x16x512x2x128, .f32⟩
  | .hbm, ⟨82, _⟩ => ⟨S65536x1280, .bf16⟩
  | .hbm, ⟨83, _⟩ => ⟨S8x2x16x128x512, .f32⟩
  | .hbm, ⟨84, _⟩ => ⟨S8x2x16x128x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩

abbrev nD : Nat := 1
abbrev τ : Topo := Topo.v7x

variable {F : FTy → Type} [FloatOps F]
-- ==== Proof.Steps.lean ====
/-
  The values of the attention kernel's body: the scores of one key block, the online-softmax step they go through
  (unmasked and masked), the fold of the unmasked steps, and the block the body stores; with the closed forms of the
  loops' trip counts, of the offsets they load at and of what is read of the two-slot scratch after stores to it.
-/
module

public import proofs.«01_k».proof.Proof.Gen.KernelIdeal.Skeleton
public import Idealize.ShloMosaic.Lib.Pipeline.FrameBody
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- What a step carries: the column maxima, the column sums and the accumulator. -/
abbrev Acc (F : FTy → Type) [FloatOps F] : Type := FVec F S1x1024 .f32 × FVec F S1x1024 .f32 × FVec F S128x1024 .f32

/-- The scores of one key block against the stacked queries. -/
def sc (q : FVec F S1024x128 .bf16) (kb : Vec F S1x512x128 .bf16) : Vec F S1x512x1024 .f32 := k0_pay2 q kb

/-- One unmasked step of the online softmax. -/
def upd (a : Acc F) (s : Vec F S1x512x1024 .f32) (v : Vec F S1x1x1x128x512 .bf16) : Acc F :=
  (k0_pay4 a.1 s, k0_pay7 a.1 a.2.1 s, k0_pay8 a.1 a.2.2 s v)

/-- The masked last step, of query block `n`. -/
def updM (n : BitVec 32) (a : Acc F) (s : Vec F S1x512x1024 .f32) (v : Vec F S1x1x1x128x512 .bf16) :
    FVec F S1x1024 .f32 × FVec F S128x1024 .f32 :=
  (k0_pay54 n n a.1 a.2.1 s, k0_pay55 n n a.1 a.2.2 s v)

/-- The offsets of key block `j` lie inside the window. -/
theorem kblk_inb (j : ℕ) (a : Fin 3) : (![0, 512 * (j % 16), 0] : Fin 3 → ℕ) a + S1x512x128.size a ≤ S1x8192x128.size a := by
  have h : j % 16 < 16 := Nat.mod_lt _ (by norm_num)
  fin_cases a
  · exact (by decide : (0 : ℕ) + 1 ≤ 1)
  · show 512 * (j % 16) + 512 ≤ 8192
    omega
  · exact (by decide : (0 : ℕ) + 128 ≤ 128)

/-- The offsets of value block `j` lie inside the window. -/
theorem vblk_inb (j : ℕ) (a : Fin 5) : (![0, 0, j % 16, 0, 0] : Fin 5 → ℕ) a + S1x1x1x128x512.size a ≤ S1x1x16x128x512.size a := by
  have h : j % 16 < 16 := Nat.mod_lt _ (by norm_num)
  fin_cases a
  · exact (by decide : (0 : ℕ) + 1 ≤ 1)
  · exact (by decide : (0 : ℕ) + 1 ≤ 1)
  · show (j % 16) + 1 ≤ 16
    omega
  · exact (by decide : (0 : ℕ) + 128 ≤ 128)
  · exact (by decide : (0 : ℕ) + 512 ≤ 512)

/-- Key block `j` of a key window. -/
def kblk (x : Vec F S1x8192x128 .bf16) (j : ℕ) : Vec F S1x512x128 .bf16 :=
  View.ld x (Rect.unit (s := S1x8192x128) ![0, 512 * (j % 16), 0] S1x512x128.size (kblk_inb j))

/-- Value block `j` of a value window. -/
def vblk (x : Vec F S1x1x16x128x512 .bf16) (j : ℕ) : Vec F S1x1x1x128x512 .bf16 :=
  View.ld x (Rect.unit (s := S1x1x16x128x512) ![0, 0, j % 16, 0, 0] S1x1x1x128x512.size (vblk_inb j))

/-- What is carried after the first `n` unmasked blocks. -/
def fold (q : FVec F S1024x128 .bf16) (xk : Vec F S1x8192x128 .bf16) (xv : Vec F S1x1x16x128x512 .bf16) : ℕ → Acc F
  | 0 => (k0_pay26, k0_pay27, k0_pay28)
  | n + 1 => upd (fold q xk xv n) (sc q (kblk xk n)) (vblk xv n)

theorem fold_succ (q : FVec F S1024x128 .bf16) (xk : Vec F S1x8192x128 .bf16) (xv : Vec F S1x1x16x128x512 .bf16) (n : ℕ) :
    fold q xk xv (n + 1) = upd (fold q xk xv n) (sc q (kblk xk n)) (vblk xv n) := rfl

/-- The sums and the accumulator after query block `n`'s masked step. -/
def last (n : ℕ) (q : FVec F S1024x128 .bf16) (xk : Vec F S1x8192x128 .bf16) (xv : Vec F S1x1x16x128x512 .bf16) :
    FVec F S1x1024 .f32 × FVec F S128x1024 .f32 :=
  updM (BitVec.ofNat 32 n) (fold q xk xv n) (sc q (kblk xk n)) (vblk xv n)

/-- The block the body stores at query block `n`. -/
def outv (n : ℕ) (lam : Vec F S4x64 .f32) (g : Vec F S128x1 .f32) (q : Vec F S1x512x128 .bf16)
    (xk : Vec F S1x8192x128 .bf16) (xv : Vec F S1x1x16x128x512 .bf16) : Vec F S1x512x128 .bf16 :=
  k0_pay1 (k0_pay57 lam) (k0_pay58 (last n (k0_pay25 q) xk xv).1 (last n (k0_pay25 q) xk xv).2) g

/-! ## Closed forms -/

/-- A point of the grid at query block `n`. -/
def pt (n : Fin 16) : grid0.Coords := fun a => match a with
  | ⟨0, _⟩ => (⟨0, by decide⟩ : Fin 8)
  | ⟨1, _⟩ => (⟨0, by decide⟩ : Fin 8)
  | ⟨2, _⟩ => n

/-- The first loop runs over the pairs of unmasked blocks. -/
theorem trips1 (i : grid0.Coords) : (k0_t1_loop i).trips = (i 2).val / 2 := by
  have h : ∀ n : Fin 16, (k0_t1_loop (pt n)).trips = n.val / 2 := by decide +kernel
  exact h (i 2)

/-- The remainder loop makes no trip. -/
theorem trips2 (i : grid0.Coords) : (k0_t2_loop i).trips = 0 := by
  have h : ∀ n : Fin 16, (k0_t2_loop (pt n)).trips = 0 := by decide +kernel
  exact h (i 2)

/-- The first conditional is taken at the first query block. -/
theorem cond1_iff (i : grid0.Coords) : k0_cond1 i = 1#1 ↔ (i 2).val = 0 := by
  have h : ∀ n : Fin 16, k0_cond1 (pt n) = 1#1 ↔ n.val = 0 := by decide +kernel
  exact h (i 2)

/-- The second conditional is taken at the odd query blocks. -/
theorem cond2_iff (i : grid0.Coords) : k0_cond2 i = 1#1 ↔ (i 2).val % 2 = 1 := by
  have h : ∀ n : Fin 16, k0_cond2 (pt n) = 1#1 ↔ n.val % 2 = 1 := by decide +kernel
  exact h (i 2)

theorem lt7 (i : grid0.Coords) (k : Fin (k0_t1_loop i).trips) : k.val < 7 :=
  lt_of_lt_of_le k.isLt (k0_t1_abs i).2.1

/-- The second key block a trip loads. -/
theorem off1_1 (i : grid0.Coords) (k : Fin (k0_t1_loop i).trips) : k0_off1 i k 1#32 = ![0, 512 * ((2 * k.val + 1) % 16), 0] := by
  have h : ∀ n : Fin 7, (![0, (Scalar.indexCast (Scalar.muli (Scalar.addi (Scalar.muli 2#32 (Scf.iv 0#32 1#32 n.val)) 1#32) 512#32)).toNat, 0] : Fin 3 → ℕ)
      = ![0, 512 * ((2 * n.val + 1) % 16), 0] := by decide +kernel
  exact h ⟨k.val, lt7 i k⟩

/-- The third key block a trip loads. -/
theorem off1_2 (i : grid0.Coords) (k : Fin (k0_t1_loop i).trips) : k0_off1 i k 2#32 = ![0, 512 * ((2 * k.val + 2) % 16), 0] := by
  have h : ∀ n : Fin 7, (![0, (Scalar.indexCast (Scalar.muli (Scalar.addi (Scalar.muli 2#32 (Scf.iv 0#32 1#32 n.val)) 2#32) 512#32)).toNat, 0] : Fin 3 → ℕ)
      = ![0, 512 * ((2 * n.val + 2) % 16), 0] := by decide +kernel
  exact h ⟨k.val, lt7 i k⟩

/-- The first value block a trip loads. -/
theorem off2 (i : grid0.Coords) (k : Fin (k0_t1_loop i).trips) : k0_off2 i k = ![0, 0, (2 * k.val) % 16, 0, 0] := by
  have h : ∀ n : Fin 7, (![0, 0, (Scalar.indexCast (Scalar.muli 2#32 (Scf.iv 0#32 1#32 n.val))).toNat, 0, 0] : Fin 5 → ℕ)
      = ![0, 0, (2 * n.val) % 16, 0, 0] := by decide +kernel
  exact h ⟨k.val, lt7 i k⟩

/-- The second value block a trip loads. -/
theorem off3 (i : grid0.Coords) (k : Fin (k0_t1_loop i).trips) : k0_off3 i k = ![0, 0, (2 * k.val + 1) % 16, 0, 0] := by
  have h : ∀ n : Fin 7, (![0, 0, (Scalar.indexCast (Scalar.addi (Scalar.muli 2#32 (Scf.iv 0#32 1#32 n.val)) 1#32)).toNat, 0, 0] : Fin 5 → ℕ)
      = ![0, 0, (2 * n.val + 1) % 16, 0, 0] := by decide +kernel
  exact h ⟨k.val, lt7 i k⟩

theorem off7 (i : grid0.Coords) : k0_off7 i = ![0, 512 * ((i 2).val % 16), 0] := by
  rw [k0_off7_eq, Nat.mod_eq_of_lt (show (i 2).val < 16 from (i 2).isLt)]

theorem off9 (i : grid0.Coords) : k0_off9 i = ![0, 0, (i 2).val % 16, 0, 0] := by
  rw [k0_off9_eq, Nat.mod_eq_of_lt (show (i 2).val < 16 from (i 2).isLt)]

theorem off10 (i : grid0.Coords) : k0_off10 i = ![0, 0, (i 2).val % 16, 0, 0] := by
  rw [k0_off10_eq, Nat.mod_eq_of_lt (show (i 2).val < 16 from (i 2).isLt)]

/-- The value block before the diagonal, loaded at an odd query block. -/
theorem off8 (i : grid0.Coords) (h : (i 2).val % 2 = 1) : k0_off8 i = ![0, 0, ((i 2).val - 1) % 16, 0, 0] := by
  have h' : ∀ n : Fin 16, n.val % 2 = 1 → k0_off8 (pt n) = ![0, 0, (n.val - 1) % 16, 0, 0] := by decide +kernel
  exact h' (i 2) h

/-! ## Loads -/

/-- A load of a key block through any offsets that are its own. -/
theorem ld_k {off : Fin 3 → ℕ} (inb : ∀ a, off a + S1x512x128.size a ≤ S1x8192x128.size a) (j : ℕ)
    (h : off = ![0, 512 * (j % 16), 0]) {sig' : RefSig} {κ : Kind} {sp : Space}
    (v : View sig' κ sp S1x8192x128 .bf16) (f : v.ty.Contents (Elt F)) :
    v.readAt (Elt F) (Rect.unit (s := S1x8192x128) off S1x512x128.size inb).toLoadRect f = kblk (v.read (Elt F) f) j := by
  subst h; rfl

/-- A load of a value block through any offsets that are its own. -/
theorem ld_v {off : Fin 5 → ℕ} (inb : ∀ a, off a + S1x1x1x128x512.size a ≤ S1x1x16x128x512.size a) (j : ℕ)
    (h : off = ![0, 0, j % 16, 0, 0]) {sig' : RefSig} {κ : Kind} {sp : Space}
    (v : View sig' κ sp S1x1x16x128x512 .bf16) (f : v.ty.Contents (Elt F)) :
    v.readAt (Elt F) (Rect.unit (s := S1x1x16x128x512) off S1x1x1x128x512.size inb).toLoadRect f = vblk (v.read (Elt F) f) j := by
  subst h; rfl

/-- The rectangle of slot 0 of the scratch. -/
abbrev R0 : Rect S2x512x1024 := Rect.unit (s := S2x512x1024) ![0, 0, 0] S1x512x1024.size inb_S2x512x1024_S1x512x1024_0_0_0
/-- The rectangle of slot 1 of the scratch. -/
abbrev R1 : Rect S2x512x1024 := Rect.unit (s := S2x512x1024) ![1, 0, 0] S1x512x1024.size inb_S2x512x1024_S1x512x1024_1_0_0

section Slots
variable {sig' : RefSig} {κ : Kind} {sp : Space} (v : View sig' κ sp S2x512x1024 .f32) (f : v.ty.Contents (Elt F))

/-- Slot 0 after a store to slot 0 is the payload. -/
theorem slot0_cons0 (w : Vec F S1x512x1024 .f32) (L : List (View.Piece (Elt F) S2x512x1024 .f32)) :
    v.readAt (Elt F) R0.toLoadRect (v.writes (Elt F) f ((⟨R0, w⟩ : View.Piece (Elt F) S2x512x1024 .f32) :: L)) = w := by
  funext x
  exact View.read_writes_cons_emb v f R0 w L x

/-- Slot 1 after a store to slot 1 is the payload. -/
theorem slot1_cons1 (w : Vec F S1x512x1024 .f32) (L : List (View.Piece (Elt F) S2x512x1024 .f32)) :
    v.readAt (Elt F) R1.toLoadRect (v.writes (Elt F) f ((⟨R1, w⟩ : View.Piece (Elt F) S2x512x1024 .f32) :: L)) = w := by
  funext x
  exact View.read_writes_cons_emb v f R1 w L x

/-- A store to slot 1 leaves slot 0. -/
theorem slot0_cons1 (w : Vec F S1x512x1024 .f32) (L : List (View.Piece (Elt F) S2x512x1024 .f32)) :
    v.readAt (Elt F) R0.toLoadRect (v.writes (Elt F) f ((⟨R1, w⟩ : View.Piece (Elt F) S2x512x1024 .f32) :: L))
      = v.readAt (Elt F) R0.toLoadRect (v.writes (Elt F) f L) := by
  funext x
  exact View.read_writes_cons_unit_of_not_mem v f _ w L _ rfl 0 (Or.inl (by
    show 0 + 1 * (x 0).val < 1
    have : (x 0).val < 1 := (x 0).isLt
    omega))

/-- A store to slot 0 leaves slot 1. -/
theorem slot1_cons0 (w : Vec F S1x512x1024 .f32) (L : List (View.Piece (Elt F) S2x512x1024 .f32)) :
    v.readAt (Elt F) R1.toLoadRect (v.writes (Elt F) f ((⟨R0, w⟩ : View.Piece (Elt F) S2x512x1024 .f32) :: L))
      = v.readAt (Elt F) R1.toLoadRect (v.writes (Elt F) f L) := by
  funext x
  exact View.read_writes_cons_unit_of_not_mem v f _ w L _ rfl 0 (Or.inr (by
    show 0 + 1 ≤ 1 + 1 * (x 0).val
    omega))

end Slots

/-! ## The printed spellings of the steps -/

omit [Named F] in
theorem Acc.ext' {a b : Acc F} (h1 : a.1 = b.1) (h2 : a.2.1 = b.2.1) (h3 : a.2.2 = b.2.2) : a = b :=
  Prod.ext h1 (Prod.ext h2 h3)

theorem sc_pay30 : (k0_pay30 (F := F)) = sc := rfl
theorem sc_pay29 : (k0_pay29 (F := F)) = sc := rfl
theorem sc_pay16 : (k0_pay16 (F := F)) = sc := rfl

/-- The next query block's scores are `sc` of its stacked queries. -/
theorem sc_pay56 (qn kb : Vec F S1x512x128 .bf16) :
    k0_pay56 (iota .tc S512x128 32 [1] iota_S512x128_d1_w32) qn kb = sc (k0_pay25 qn) kb := rfl

/-- The masked scores of the odd arm are the even arm's. -/
theorem pay44_eq (n : BitVec 32) (s : Vec F S1x512x1024 .f32) :
    k0_pay44 n (k0_pay23 s) (iota .tc S512x1024 32 [0] iota_S512x1024_d0_w32) (k0_pay24 n) = k0_pay50 n n s := rfl

/-- The masked step of the odd arm is the even arm's: the column maxima. -/
theorem pay45_eq (n : BitVec 32) (m : FVec F S1x1024 .f32) (s : Vec F S1x512x1024 .f32) :
    k0_pay45 n m (k0_pay23 s) (iota .tc S512x1024 32 [0] iota_S512x1024_d0_w32) (k0_pay24 n) = k0_pay51 n n m s := by
  unfold k0_pay45 k0_pay51
  rw [pay44_eq]

theorem pay46_eq (n : BitVec 32) (m : FVec F S1x1024 .f32) (s : Vec F S1x512x1024 .f32) :
    k0_pay46 n m (k0_pay23 s) (iota .tc S512x1024 32 [0] iota_S512x1024_d0_w32) (k0_pay24 n) = k0_pay52 n n m s := by
  unfold k0_pay46 k0_pay52
  rw [pay45_eq]

theorem pay47_eq (n : BitVec 32) (m : FVec F S1x1024 .f32) (s : Vec F S1x512x1024 .f32) :
    k0_pay47 n m (k0_pay23 s) (iota .tc S512x1024 32 [0] iota_S512x1024_d0_w32) (k0_pay24 n) = k0_pay53 n n m s := by
  unfold k0_pay47 k0_pay53
  rw [pay44_eq, pay45_eq]

/-- The masked step of the odd arm is the even arm's: the sums. -/
theorem pay48_eq (n : BitVec 32) (m l : FVec F S1x1024 .f32) (s : Vec F S1x512x1024 .f32) :
    k0_pay48 n m l (k0_pay23 s) (iota .tc S512x1024 32 [0] iota_S512x1024_d0_w32) (k0_pay24 n)
      = k0_pay54 n n m l s := by
  unfold k0_pay48 k0_pay54
  rw [pay46_eq, pay47_eq]

/-- The masked step of the odd arm is the even arm's: the accumulator. -/
theorem pay49_eq (n : BitVec 32) (m : FVec F S1x1024 .f32) (a : FVec F S128x1024 .f32) (s : Vec F S1x512x1024 .f32)
    (v : Vec F S1x1x1x128x512 .bf16) :
    k0_pay49 n m a (k0_pay23 s) (iota .tc S512x1024 32 [0] iota_S512x1024_d0_w32) (k0_pay24 n) v
      = k0_pay55 n n m a s v := by
  unfold k0_pay49 k0_pay55
  rw [pay46_eq, pay47_eq]

end Cert.KernelIdeal.Hand

end
-- ==== Proof.Trip.lean ====
/-
  One trip of the attention kernel's counted loop, at the values it carries: two unmasked online-softmax steps, on the
  scores the scratch's slot 0 holds and on the next key block's, leaving in slot 0 the scores of the key block after
  those; and the loop invariant over the trips.
-/
module

public import proofs.«01_k».proof.Proof.Steps
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Two steps whose loads are known are two steps of the known blocks. -/
theorem two_steps {a : Acc F} {s s' t t' : Vec F S1x512x1024 .f32} {v v' w w' : Vec F S1x1x1x128x512 .bf16}
    (hs : s' = s) (hv : v' = v) (ht : t' = t) (hw : w' = w) :
    ((k0_pay32 (k0_pay4 a.1 s') t', k0_pay35 (k0_pay4 a.1 s') (k0_pay7 a.1 a.2.1 s') t',
      k0_pay36 (k0_pay4 a.1 s') (k0_pay8 a.1 a.2.2 s' v') t' w') : Acc F) = upd (upd a s v) t w := by
  subst hs hv ht hw; rfl

/-- One trip: from slot 0 holding block `2k`'s scores, the carried value goes through blocks `2k` and `2k+1`, and slot 0
    is left with block `2k+2`'s scores. -/
theorem trip1 (𝒱 : Variants) (c : Dev nD) (bd : Option 𝒱.V) (i : grid0.Coords) (arg3 : Memref sig .tc .vmem S4x64 .f32) (harg3 : arg3.IsWhole) (arg4 : Memref sig .tc .vmem S128x1 .f32) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x8192x128 .bf16) (harg7 : arg7.IsWhole) (arg8 : Memref sig .tc .vmem S1x1x16x128x512 .bf16) (harg8 : arg8.IsWhole) (arg9 : Memref sig .tc .vmem S1x512x128 .bf16) (harg9 : arg9.IsWhole) (arg10 : Memref sig .tc .vmem S2x512x1024 .f32) (harg10 : arg10.IsWhole) (arg2 : BitVec 32) (v14 : FVec F S1024x128 .bf16) (v15 : FVec F S1x1024 .f32) (v16 : FVec F S1x1024 .f32) (v17 : FVec F S128x1024 .f32) (v35 : BitVec 32) (v37 : BitVec 32) (X_arg7 : BufTy.Contents (Elt F) arg7.view.ty) (X_arg8 : BufTy.Contents (Elt F) arg8.view.ty) (k : Fin (k0_t1_loop i).trips)
    (E : Set ℕ) (acc : Acc F) (f_arg10 : BufTy.Contents (Elt F) arg10.view.ty)
    (hs : arg10.view.readAt (Elt F) R0.toLoadRect f_arg10 = sc v14 (kblk (arg7.view.read (Elt F) X_arg7) (2 * k.val))) :
    (iprop((arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} f_arg10)) : sProp 𝕄)
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg2 v14 v15 v16 v17 v35 v37 k acc)
        (fun yld => iprop((arg7.view.loc (c : Thread nD τ) ↦[arg7.view.set]{fullShare} X_arg7) ∗ (arg8.view.loc (c : Thread nD τ) ↦[arg8.view.set]{fullShare} X_arg8)
          ∗ (∃ f, (arg10.view.loc (c : Thread nD τ) ↦[arg10.view.set]{fullShare} f)
              ∗ ⌜arg10.view.readAt (Elt F) R0.toLoadRect f = sc v14 (kblk (arg7.view.read (Elt F) X_arg7) (2 * k.val + 2))⌝)
          ∗ ⌜yld = upd (upd acc (sc v14 (kblk (arg7.view.read (Elt F) X_arg7) (2 * k.val))) (vblk (arg8.view.read (Elt F) X_arg8) (2 * k.val)))
              (sc v14 (kblk (arg7.view.read (Elt F) X_arg7) (2 * k.val + 1))) (vblk (arg8.view.read (Elt F) X_arg8) (2 * k.val + 1))⌝)) := by
  unfold k0_t1_body
  iintro ⟨HR_arg7, HR_arg8, HW_arg10⟩
  sl_exec
  sl_step
  isplitl [HR_arg7]; · iexact HR_arg7
  isplitl [HR_arg8]; · iexact HR_arg8
  isplitl [HW_arg10]
  · iexists _; isplitl [HW_arg10]; · iexact HW_arg10
    ipureintro
    refine (slot0_cons0 (F := F) _ _ _ _).trans ?_
    rw [sc_pay30 (F := F)]
    exact congrArg (sc v14) (ld_k (F := F) _ _ (off1_2 i k) _ _)
  · ipureintro
    refine two_steps (hs := ?_) (hv := ?_) (ht := ?_) (hw := ?_)
    · rfl
    · exact ld_v (F := F) _ _ (off2 i k) _ _
    · refine (slot1_cons0 (F := F) _ _ _ _).trans ((slot1_cons1 (F := F) _ _ _ _).trans ?_)
      exact congrArg (sc v14) (ld_k (F := F) _ _ (off1_1 i k) _ _)
    · exact ld_v (F := F) _ _ (off3 i k) _ _

end Cert.KernelIdeal.Hand

end
-- ==== Proof.Body.lean ====
/-
  The attention kernel's body at any point of the grid, on any memrefs: from the input blocks and a scratch whose slot 0
  holds the first key block's scores (but at the first query block, where the body computes them), the output block is
  `outv` and slot 0 is left with the next query block's scores against the first key block.
-/
module

public import proofs.«01_k».proof.Proof.Trip
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first loop's invariant before trip `k`: slot 0 of the scratch holds key block `2k`'s scores and the carried value
    has gone through the `2k` blocks before it. -/
abbrev inv1 (c : Dev nD) (arg7 : Memref sig .tc .vmem S1x8192x128 .bf16) (arg8 : Memref sig .tc .vmem S1x1x16x128x512 .bf16)
    (arg10 : Memref sig .tc .vmem S2x512x1024 .f32) (v14 : FVec F S1024x128 .bf16)
    (X_arg7 : BufTy.Contents (Elt F) arg7.view.ty) (X_arg8 : BufTy.Contents (Elt F) arg8.view.ty) (k : ℕ) (acc : Acc F) : sProp 𝕄 :=
  iprop((arg7.view.loc (c : Thread nD τ) ↦[arg7.view.set]{fullShare} X_arg7) ∗ (arg8.view.loc (c : Thread nD τ) ↦[arg8.view.set]{fullShare} X_arg8)
    ∗ (∃ f, (arg10.view.loc (c : Thread nD τ) ↦[arg10.view.set]{fullShare} f)
        ∗ ⌜arg10.view.readAt (Elt F) R0.toLoadRect f = sc v14 (kblk (arg7.view.read (Elt F) X_arg7) (2 * k))⌝)
    ∗ ⌜acc = fold v14 (arg7.view.read (Elt F) X_arg7) (arg8.view.read (Elt F) X_arg8) (2 * k)⌝)

/-- The first loop by its invariant. -/
@[reducible] def loop1 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x8192x128 .bf16) (harg7 : arg7.IsWhole) (arg8 : Memref sig .tc .vmem S1x1x16x128x512 .bf16) (harg8 : arg8.IsWhole) (arg9 : Memref sig .tc .vmem S1x512x128 .bf16) (harg9 : arg9.IsWhole) (arg10 : Memref sig .tc .vmem S2x512x1024 .f32) (harg10 : arg10.IsWhole) (arg2 : BitVec 32) (v14 : FVec F S1024x128 .bf16) (v15 : FVec F S1x1024 .f32) (v16 : FVec F S1x1024 .f32) (v17 : FVec F S128x1024 .f32) (v35 : BitVec 32) (v37 : BitVec 32)
    (X_arg7 : BufTy.Contents (Elt F) arg7.view.ty) (X_arg8 : BufTy.Contents (Elt F) arg8.view.ty) (E : Set ℕ) (init : Acc F) :
    Idealize.ShloMosaic.LoopInv (M := 𝕄) Idealize.ShloMosaic.frame (wpE (defs₀ (F := F)) Variants.none (c : Thread nD τ) none) E (k0_t1_loop i).lb (k0_t1_loop i).ub (k0_t1_loop i).st (k0_t1_ok i) init
      (k0_t1_body (F := F) i arg3 harg3 arg4 harg4 arg5 harg5 arg6 harg6 arg7 harg7 arg8 harg8 arg9 harg9 arg10 harg10 arg2 v14 v15 v16 v17 v35 v37) where
  inv := inv1 c arg7 arg8 arg10 v14 X_arg7 X_arg8
  step := by
    intro k acc
    iintro ⟨HR_arg7, HR_arg8, ⟨%f, HW, %hf⟩, %hacc⟩
    subst hacc
    iapply (wp_wand_r Idealize.ShloMosaic.frame (wpE (defs₀ (F := F)) Variants.none (c : Thread nD τ) none) E)
    isplitl [HR_arg7 HR_arg8 HW]
    · iapply (trip1 Variants.none c none i arg3 harg3 arg4 harg4 arg5 harg5 arg6 harg6 arg7 harg7 arg8 harg8 arg9 harg9 arg10 harg10 arg2 v14 v15 v16 v17 v35 v37 X_arg7 X_arg8 k E _ f hf)
      isplitl [HR_arg7]; · iexact HR_arg7
      isplitl [HR_arg8]; · iexact HR_arg8
      iexact HW
    · iintro %yld ⟨HR_arg7, HR_arg8, HW, %hy⟩
      isplitl [HR_arg7]; · iexact HR_arg7
      isplitl [HR_arg8]; · iexact HR_arg8
      isplitl [HW]; · iexact HW
      ipureintro
      exact hy

/-- Key block 0 as loaded. -/
theorem ld_k0 (v : Memref sig .tc .vmem S1x8192x128 .bf16) (f : BufTy.Contents (Elt F) v.view.ty) :
    v.view.readAt (Elt F) (Rect.unit (s := S1x8192x128) ![0, 0, 0] S1x512x128.size inb_S1x8192x128_S1x512x128_0_0_0).toLoadRect f
      = kblk (v.view.read (Elt F) f) (2 * 0) :=
  ld_k (F := F) inb_S1x8192x128_S1x512x128_0_0_0 0 (by norm_num) v.view f

/-- Slot 0 once the first query block's body has stored the scores of key block 0. -/
theorem init0 (v : Memref sig .tc .vmem S2x512x1024 .f32) (w : Memref sig .tc .vmem S1x8192x128 .bf16)
    (f : BufTy.Contents (Elt F) v.view.ty) (g : BufTy.Contents (Elt F) w.view.ty) (q : FVec F S1024x128 .bf16) :
    v.view.readAt (Elt F) R0.toLoadRect (v.view.writes (Elt F) f [⟨R0, k0_pay29 q
        (w.view.readAt (Elt F) (Rect.unit (s := S1x8192x128) ![0, 0, 0] S1x512x128.size inb_S1x8192x128_S1x512x128_0_0_0).toLoadRect g)⟩])
      = sc q (kblk (w.view.read (Elt F) g) (2 * 0)) := by
  refine (slot0_cons0 (F := F) _ _ _ _).trans ?_
  rw [sc_pay29 (F := F), ld_k0 (F := F)]

/-- The even arm's last step. -/
theorem even_last (n : ℕ) (m l : FVec F S1x1024 .f32) (a : FVec F S128x1024 .f32) (q : FVec F S1024x128 .bf16)
    (xk : Vec F S1x8192x128 .bf16) (xv : Vec F S1x1x16x128x512 .bf16) (h : (m, l, a) = fold q xk xv n) :
    k0_pay54 (BitVec.ofNat 32 n) (BitVec.ofNat 32 n) m l (sc q (kblk xk n)) = (last n q xk xv).1
      ∧ k0_pay55 (BitVec.ofNat 32 n) (BitVec.ofNat 32 n) m a (sc q (kblk xk n)) (vblk xv n) = (last n q xk xv).2 := by
  unfold last updM
  rw [← h]
  exact ⟨rfl, rfl⟩

theorem pay18_eq : (k0_pay18 (F := F)) = k0_pay4 := rfl
theorem pay21_eq : (k0_pay21 (F := F)) = k0_pay7 := rfl
theorem pay22_eq : (k0_pay22 (F := F)) = k0_pay8 := rfl

/-- The odd arm's two last steps. -/
theorem odd_last (n : ℕ) (m l : FVec F S1x1024 .f32) (a : FVec F S128x1024 .f32) (q : FVec F S1024x128 .bf16)
    (xk : Vec F S1x8192x128 .bf16) (xv : Vec F S1x1x16x128x512 .bf16) (h : (m, l, a) = fold q xk xv n) (N : ℕ) (hN : N = n + 1)
    (s s2 : Vec F S1x512x1024 .f32) (hs : s = sc q (kblk xk n)) (hs2 : s2 = sc q (kblk xk N))
    (v v2 : Vec F S1x1x1x128x512 .bf16) (hv : v = vblk xv n) (hv2 : v2 = vblk xv N) :
    k0_pay48 (BitVec.ofNat 32 N) (k0_pay18 m s) (k0_pay21 m l s) (k0_pay23 s2) (iota .tc S512x1024 32 [0] iota_S512x1024_d0_w32) (k0_pay24 (BitVec.ofNat 32 N))
        = (last N q xk xv).1
      ∧ k0_pay49 (BitVec.ofNat 32 N) (k0_pay18 m s) (k0_pay22 m a s v) (k0_pay23 s2) (iota .tc S512x1024 32 [0] iota_S512x1024_d0_w32) (k0_pay24 (BitVec.ofNat 32 N)) v2
        = (last N q xk xv).2 := by
  subst hN hs hs2 hv hv2
  rw [pay48_eq, pay49_eq, pay18_eq, pay21_eq, pay22_eq]
  unfold last updM
  rw [fold_succ, ← h]
  exact ⟨rfl, rfl⟩

/-- The first loop's trips. -/
theorem two_trips (i : grid0.Coords) : 2 * Scf.trips (k0_t1_loop i).lb (k0_t1_loop i).ub (k0_t1_loop i).st = 2 * ((i 2).val / 2) :=
  congrArg (2 * ·) (trips1 i)

/-- The body's run. -/
theorem kernelRun (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x8192x128 .bf16) (harg7 : arg7.IsWhole) (arg8 : Memref sig .tc .vmem S1x1x16x128x512 .bf16) (harg8 : arg8.IsWhole) (arg9 : Memref sig .tc .vmem S1x512x128 .bf16) (harg9 : arg9.IsWhole) (arg10 : Memref sig .tc .vmem S2x512x1024 .f32) (harg10 : arg10.IsWhole)
    (lam : Vec F S4x64 .f32) (g : Vec F S128x1 .f32) (q qn : Vec F S1x512x128 .bf16) (xk : Vec F S1x8192x128 .bf16)
    (xv : Vec F S1x1x16x128x512 .bf16) (f10 : BufTy.Contents (Elt F) arg10.view.ty)
    (hs : (i 2).val ≠ 0 → arg10.view.readAt (Elt F) R0.toLoadRect f10 = sc (k0_pay25 q) (kblk xk 0))
    (E : Set ℕ) (K : PUnit → sProp 𝕄) :
    (iprop(owns (c : Thread nD τ) arg3 fullShare lam ∗ owns (c : Thread nD τ) arg4 fullShare g ∗ owns (c : Thread nD τ) arg5 fullShare q
        ∗ owns (c : Thread nD τ) arg6 fullShare qn ∗ owns (c : Thread nD τ) arg7 fullShare xk ∗ owns (c : Thread nD τ) arg8 fullShare xv
        ∗ (∃ d, owns (c : Thread nD τ) arg9 fullShare d) ∗ (arg10.view.loc (c : Thread nD τ) ↦[arg10.view.set]{fullShare} f10)
        ∗ (iprop(owns (c : Thread nD τ) arg3 fullShare lam ∗ owns (c : Thread nD τ) arg4 fullShare g ∗ owns (c : Thread nD τ) arg5 fullShare q
            ∗ owns (c : Thread nD τ) arg6 fullShare qn ∗ owns (c : Thread nD τ) arg7 fullShare xk ∗ owns (c : Thread nD τ) arg8 fullShare xv
            ∗ owns (c : Thread nD τ) arg9 fullShare (outv (i 2).val lam g q xk xv)
            ∗ (∃ f, (arg10.view.loc (c : Thread nD τ) ↦[arg10.view.set]{fullShare} f)
                ∗ ⌜arg10.view.readAt (Elt F) R0.toLoadRect f = sc (k0_pay25 qn) (kblk xk 0)⌝)) -∗ K ⟨⟩)) : sProp 𝕄)
      ⊢ wp frame (wpE (defs₀ (F := F)) Variants.none c none) E (cc0_diff_attention i arg3 harg3 arg4 harg4 arg5 harg5 arg6 harg6 arg7 harg7 arg8 harg8 arg9 harg9 arg10 harg10) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, H10, Hk⟩
  obtain rfl := harg3.eq_unread h3; obtain rfl := harg4.eq_unread h4; obtain rfl := harg5.eq_unread h5; obtain rfl := harg6.eq_unread h6
  obtain rfl := harg7.eq_unread h7; obtain rfl := harg8.eq_unread h8
  by_cases hc1 : ¬ k0_cond1 i = 1#1
  · skip
    sl_unfold [cc0_diff_attention]
    sl_exec
    have hr : kernelRun.sl.r c arg5 harg5 q = k0_pay25 q := by
      unfold kernelRun.sl.r
      rw [View.readAt_full, h5]
    sl_for (inv1 c arg7 arg8 arg10 (kernelRun.sl.r c arg5 harg5 q) (harg7.unread xk) (harg8.unread xv)) $$ [H7 H8 H10]
    · exact (loop1 c i arg3 harg3 arg4 harg4 arg5 harg5 arg6 harg6 arg7 harg7 arg8 harg8 arg9 harg9 arg10 harg10 (BitVec.ofNat 32 (i 2).val) (kernelRun.sl.r c arg5 harg5 q) k0_pay26 k0_pay27 k0_pay28 (kernelRun.sl.v35 i) (kernelRun.sl.v37 i) (harg7.unread xk) (harg8.unread xv) E (k0_pay26, k0_pay27, k0_pay28)).step
    · unfold inv1
      isplitl [H7]; · iexact H7
      isplitl [H8]; · iexact H8
      isplitl [H10]
      · iexists f10; isplitl [H10]; · iexact H10
        ipureintro
        rw [hr, h7]
        exact hs (fun h => hc1 ((cond1_iff i).mpr h))
      · ipureintro; rfl
    · iintro %acc
      obtain ⟨m, l, a⟩ := acc
      iintro ⟨H7, H8, ⟨%f10', H10, %hf⟩, %hacc⟩
      first
        | sl_for0 (trips2 i)
        | (sl_exec; sl_for0 (trips2 i))
      rw [two_trips, hr, h7] at hf
      rw [two_trips, hr, h7, h8] at hacc
      have hv35 : kernelRun.sl.v35 i = BitVec.ofNat 32 (i 2).val := by
        have h : ∀ n : Fin 16, kernelRun.sl.v35 (pt n) = BitVec.ofNat 32 n.val := by decide +kernel
        exact h (i 2)
      by_cases hc2 : k0_cond2 i = 1#1
      · have hn : 2 * ((i 2).val / 2) = (i 2).val - 1 := by
          have := (cond2_iff i).mp hc2
          omega
        sl_exec
        have hodd := (cond2_iff i).mp hc2
        have e157 : kernelRun.sl.v157 i q xk m = k0_pay18 m (sc (k0_pay25 q) (kblk xk (2 * ((i 2).val / 2)))) := rfl
        have e166 : kernelRun.sl.v166 i q xk m l = k0_pay21 m l (sc (k0_pay25 q) (kblk xk (2 * ((i 2).val / 2)))) := rfl
        have e174 : kernelRun.sl.v174 i arg8 harg8 q xk xv m a hc2 = k0_pay22 m a (sc (k0_pay25 q) (kblk xk (2 * ((i 2).val / 2))))
            (arg8.view.readAt (Elt F) (Rect.unit (s := S1x1x16x128x512) (k0_off8 i) S1x1x1x128x512.size (k0_off8_inb i hc2)).toLoadRect (harg8.unread xv)) := rfl
        have e176 : kernelRun.sl.v176 c i arg5 harg5 arg7 harg7 arg10 q xk hc2 = k0_pay23 (kernelRun.sl.v175 c i arg5 harg5 arg7 harg7 arg10 q xk hc2) := rfl
        have e178 : kernelRun.sl.v178 = iota .tc S512x1024 32 [0] iota_S512x1024_d0_w32 := rfl
        have e179 : kernelRun.sl.v179 i = k0_pay24 (BitVec.ofNat 32 (i 2).val) := by
          rw [← hv35]; rfl
        have e8 := ld_v (F := F) (k0_off8_inb i hc2) _ (off8 i hodd) arg8.view (harg8.unread xv)
        rw [h8, ← hn] at e8
        have e9 := ld_v (F := F) (k0_off9_inb i hc2) _ (off9 i) arg8.view (harg8.unread xv)
        rw [h8] at e9
        have e175 : kernelRun.sl.v175 c i arg5 harg5 arg7 harg7 arg10 q xk hc2 = sc (k0_pay25 q) (kblk xk (i 2).val) := by
          unfold kernelRun.sl.v175
          unfold kernelRun.sl.H10_1
          refine (slot1_cons1 (F := F) _ _ _ _).trans ?_
          have e151 : kernelRun.sl.v151 c i arg5 harg5 arg7 harg7 q xk hc2 = sc (kernelRun.sl.r c arg5 harg5 q) (arg7.view.readAt (Elt F)
              (Rect.unit (s := S1x8192x128) (k0_off7 i) S1x512x128.size (k0_off7_inb i hc2)).toLoadRect (harg7.unread xk)) := rfl
          rw [e151, hr, ld_k (F := F) _ _ (off7 i), h7]
        sl_step
        iapply Hk
        isplitl [H3]
        · iexists _; isplitr; swap; · iexact H3
          ipureintro; exact h3
        isplitl [H4]
        · iexists _; isplitr; swap; · iexact H4
          ipureintro; exact h4
        isplitl [H5]
        · iexists _; isplitr; swap; · iexact H5
          ipureintro; exact h5
        isplitl [H6]
        · iexists _; isplitr; swap; · iexact H6
          ipureintro; exact h6
        isplitl [H7]
        · iexists _; isplitr; swap; · iexact H7
          ipureintro; exact h7
        isplitl [H8]
        · iexists _; isplitr; swap; · iexact H8
          ipureintro; exact h8
        isplitl [H9]
        · iexists _; isplitr; swap; · iexact H9
          ipureintro
          refine (View.read_writes_full (Val := Elt F) _ _ _ _ _).trans ?_
          rw [View.readAt_full, h4]
          unfold kernelRun.sl.r_3 kernelRun.sl.r_4
          rw [View.readAt_full, h3]
          refine congrArg (fun z => k0_pay1 (k0_pay57 lam) z g) ?_
          refine congrArg₂ k0_pay58 ?_ ?_
          · unfold kernelRun.sl.r_1
            rw [e157, e166, e176, e178, e179]
            exact (odd_last (F := F) _ m l a _ xk xv hacc _ (by omega) _ _ rfl e175 _ _ rfl rfl).1
          · unfold kernelRun.sl.r_2
            rw [e157, e174, e176, e178, e179]
            exact (odd_last (F := F) _ m l a _ xk xv hacc _ (by omega) _ _ rfl e175 _ _ e8 e9).2
        · iexists _; isplitl [H10]; · iexact H10
          ipureintro
          refine (slot0_cons0 (F := F) _ _ _ _).trans ?_
          rw [View.readAt_full, ld_k0 (F := F), h6, h7]
          exact sc_pay56 (F := F) _ _
      · have hn : 2 * ((i 2).val / 2) = (i 2).val := by
          have h := mt (cond2_iff i).mpr hc2
          omega
        rw [hn] at hf hacc
        sl_exec
        sl_step
        iapply Hk
        isplitl [H3]
        · iexists _; isplitr; swap; · iexact H3
          ipureintro; exact h3
        isplitl [H4]
        · iexists _; isplitr; swap; · iexact H4
          ipureintro; exact h4
        isplitl [H5]
        · iexists _; isplitr; swap; · iexact H5
          ipureintro; exact h5
        isplitl [H6]
        · iexists _; isplitr; swap; · iexact H6
          ipureintro; exact h6
        isplitl [H7]
        · iexists _; isplitr; swap; · iexact H7
          ipureintro; exact h7
        isplitl [H8]
        · iexists _; isplitr; swap; · iexact H8
          ipureintro; exact h8
        isplitl [H9]
        · iexists _; isplitr; swap; · iexact H9
          ipureintro
          refine (View.read_writes_full (Val := Elt F) _ _ _ _ _).trans ?_
          rw [View.readAt_full, h4]
          unfold kernelRun.sl.r_7 kernelRun.sl.r_8
          rw [View.readAt_full, h3]
          refine congrArg (fun z => k0_pay1 (k0_pay57 lam) z g) ?_
          refine congrArg₂ k0_pay58 ?_ ?_
          · unfold kernelRun.sl.r_5
            rw [hv35]
            exact (even_last (F := F) _ m l a _ xk xv hacc).1
          · unfold kernelRun.sl.r_6
            rw [hv35, ld_v (F := F) _ _ (off10 i), h8]
            exact (even_last (F := F) _ m l a _ xk xv hacc).2
        · iexists _; isplitl [H10]; · iexact H10
          ipureintro
          refine (slot0_cons0 (F := F) _ _ _ _).trans ?_
          rw [View.readAt_full, ld_k0 (F := F), h6, h7]
          exact sc_pay56 (F := F) _ _
  · rw [not_not] at hc1
    sl_unfold [cc0_diff_attention]
    sl_exec
    have hr : kernelRun.sl.r c arg5 harg5 q = k0_pay25 q := by
      unfold kernelRun.sl.r
      rw [View.readAt_full, h5]
    sl_for (inv1 c arg7 arg8 arg10 (kernelRun.sl.r c arg5 harg5 q) (harg7.unread xk) (harg8.unread xv)) $$ [H7 H8 H10]
    · exact (loop1 c i arg3 harg3 arg4 harg4 arg5 harg5 arg6 harg6 arg7 harg7 arg8 harg8 arg9 harg9 arg10 harg10 (BitVec.ofNat 32 (i 2).val) (kernelRun.sl.r c arg5 harg5 q) k0_pay26 k0_pay27 k0_pay28 (kernelRun.sl.v35_1 i) (kernelRun.sl.v37_1 i) (harg7.unread xk) (harg8.unread xv) E (k0_pay26, k0_pay27, k0_pay28)).step
    · unfold inv1
      isplitl [H7]; · iexact H7
      isplitl [H8]; · iexact H8
      isplitl [H10]
      · iexists _; isplitl [H10]; · iexact H10
        ipureintro
        exact init0 (F := F) arg10 arg7 f10 _ _
      · ipureintro; rfl
    · iintro %acc
      obtain ⟨m, l, a⟩ := acc
      iintro ⟨H7, H8, ⟨%f10', H10, %hf⟩, %hacc⟩
      first
        | sl_for0 (trips2 i)
        | (sl_exec; sl_for0 (trips2 i))
      rw [two_trips, hr, h7] at hf
      rw [two_trips, hr, h7, h8] at hacc
      have hv35 : kernelRun.sl.v35_1 i = BitVec.ofNat 32 (i 2).val := by
        have h : ∀ n : Fin 16, kernelRun.sl.v35_1 (pt n) = BitVec.ofNat 32 n.val := by decide +kernel
        exact h (i 2)
      by_cases hc2 : k0_cond2 i = 1#1
      · have hn : 2 * ((i 2).val / 2) = (i 2).val - 1 := by
          have := (cond2_iff i).mp hc2
          omega
        sl_exec
        have hodd := (cond2_iff i).mp hc2
        have e157 : kernelRun.sl.v157_1 i q xk m = k0_pay18 m (sc (k0_pay25 q) (kblk xk (2 * ((i 2).val / 2)))) := rfl
        have e166 : kernelRun.sl.v166_1 i q xk m l = k0_pay21 m l (sc (k0_pay25 q) (kblk xk (2 * ((i 2).val / 2)))) := rfl
        have e174 : kernelRun.sl.v174_1 i arg8 harg8 q xk xv m a hc2 = k0_pay22 m a (sc (k0_pay25 q) (kblk xk (2 * ((i 2).val / 2))))
            (arg8.view.readAt (Elt F) (Rect.unit (s := S1x1x16x128x512) (k0_off8 i) S1x1x1x128x512.size (k0_off8_inb i hc2)).toLoadRect (harg8.unread xv)) := rfl
        have e176 : kernelRun.sl.v176_1 c i arg5 harg5 arg7 harg7 arg10 q xk hc2 = k0_pay23 (kernelRun.sl.v175_1 c i arg5 harg5 arg7 harg7 arg10 q xk hc2) := rfl
        have e178 : kernelRun.sl.v178_1 = iota .tc S512x1024 32 [0] iota_S512x1024_d0_w32 := rfl
        have e179 : kernelRun.sl.v179_1 i = k0_pay24 (BitVec.ofNat 32 (i 2).val) := by
          rw [← hv35]; rfl
        have e8 := ld_v (F := F) (k0_off8_inb i hc2) _ (off8 i hodd) arg8.view (harg8.unread xv)
        rw [h8, ← hn] at e8
        have e9 := ld_v (F := F) (k0_off9_inb i hc2) _ (off9 i) arg8.view (harg8.unread xv)
        rw [h8] at e9
        have e175 : kernelRun.sl.v175_1 c i arg5 harg5 arg7 harg7 arg10 q xk hc2 = sc (k0_pay25 q) (kblk xk (i 2).val) := by
          unfold kernelRun.sl.v175_1
          unfold kernelRun.sl.H10_1_1
          refine (slot1_cons1 (F := F) _ _ _ _).trans ?_
          have e151 : kernelRun.sl.v151_1 c i arg5 harg5 arg7 harg7 q xk hc2 = sc (kernelRun.sl.r c arg5 harg5 q) (arg7.view.readAt (Elt F)
              (Rect.unit (s := S1x8192x128) (k0_off7 i) S1x512x128.size (k0_off7_inb i hc2)).toLoadRect (harg7.unread xk)) := rfl
          rw [e151, hr, ld_k (F := F) _ _ (off7 i), h7]
        sl_step
        iapply Hk
        isplitl [H3]
        · iexists _; isplitr; swap; · iexact H3
          ipureintro; exact h3
        isplitl [H4]
        · iexists _; isplitr; swap; · iexact H4
          ipureintro; exact h4
        isplitl [H5]
        · iexists _; isplitr; swap; · iexact H5
          ipureintro; exact h5
        isplitl [H6]
        · iexists _; isplitr; swap; · iexact H6
          ipureintro; exact h6
        isplitl [H7]
        · iexists _; isplitr; swap; · iexact H7
          ipureintro; exact h7
        isplitl [H8]
        · iexists _; isplitr; swap; · iexact H8
          ipureintro; exact h8
        isplitl [H9]
        · iexists _; isplitr; swap; · iexact H9
          ipureintro
          refine (View.read_writes_full (Val := Elt F) _ _ _ _ _).trans ?_
          rw [View.readAt_full, h4]
          unfold kernelRun.sl.r_12 kernelRun.sl.r_13
          rw [View.readAt_full, h3]
          refine congrArg (fun z => k0_pay1 (k0_pay57 lam) z g) ?_
          refine congrArg₂ k0_pay58 ?_ ?_
          · unfold kernelRun.sl.r_10
            rw [e157, e166, e176, e178, e179]
            exact (odd_last (F := F) _ m l a _ xk xv hacc _ (by omega) _ _ rfl e175 _ _ rfl rfl).1
          · unfold kernelRun.sl.r_11
            rw [e157, e174, e176, e178, e179]
            exact (odd_last (F := F) _ m l a _ xk xv hacc _ (by omega) _ _ rfl e175 _ _ e8 e9).2
        · iexists _; isplitl [H10]; · iexact H10
          ipureintro
          refine (slot0_cons0 (F := F) _ _ _ _).trans ?_
          rw [View.readAt_full, ld_k0 (F := F), h6, h7]
          exact sc_pay56 (F := F) _ _
      · have hn : 2 * ((i 2).val / 2) = (i 2).val := by
          have h := mt (cond2_iff i).mpr hc2
          omega
        rw [hn] at hf hacc
        sl_exec
        sl_step
        iapply Hk
        isplitl [H3]
        · iexists _; isplitr; swap; · iexact H3
          ipureintro; exact h3
        isplitl [H4]
        · iexists _; isplitr; swap; · iexact H4
          ipureintro; exact h4
        isplitl [H5]
        · iexists _; isplitr; swap; · iexact H5
          ipureintro; exact h5
        isplitl [H6]
        · iexists _; isplitr; swap; · iexact H6
          ipureintro; exact h6
        isplitl [H7]
        · iexists _; isplitr; swap; · iexact H7
          ipureintro; exact h7
        isplitl [H8]
        · iexists _; isplitr; swap; · iexact H8
          ipureintro; exact h8
        isplitl [H9]
        · iexists _; isplitr; swap; · iexact H9
          ipureintro
          refine (View.read_writes_full (Val := Elt F) _ _ _ _ _).trans ?_
          rw [View.readAt_full, h4]
          unfold kernelRun.sl.r_16 kernelRun.sl.r_17
          rw [View.readAt_full, h3]
          refine congrArg (fun z => k0_pay1 (k0_pay57 lam) z g) ?_
          refine congrArg₂ k0_pay58 ?_ ?_
          · unfold kernelRun.sl.r_14
            rw [hv35]
            exact (even_last (F := F) _ m l a _ xk xv hacc).1
          · unfold kernelRun.sl.r_15
            rw [hv35, ld_v (F := F) _ _ (off10 i), h8]
            exact (even_last (F := F) _ m l a _ xk xv hacc).2
        · iexists _; isplitl [H10]; · iexact H10
          ipureintro
          refine (slot0_cons0 (F := F) _ _ _ _).trans ?_
          rw [View.readAt_full, ld_k0 (F := F), h6, h7]
          exact sc_pay56 (F := F) _ _

end Cert.KernelIdeal.Hand

end
-- ==== Proof.Blocks.lean ====
/-
  The blocks the attention kernel's windows stage, and how they move from one grid point to the next.
-/
module

public import proofs.«01_k».proof.Proof.Body
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-! ## The blocks -/

/-- The query block at point `t`. -/
abbrev qb (c : Dev nD) (t : Fin cfg0.N) : Vec F S1x512x128 .bf16 := iblk m c 2 t
/-- The next query block at point `t`. -/
abbrev qnb (c : Dev nD) (t : Fin cfg0.N) : Vec F S1x512x128 .bf16 := iblk m c 3 t
/-- The keys at point `t`. -/
abbrev kb (c : Dev nD) (t : Fin cfg0.N) : Vec F S1x8192x128 .bf16 := iblk m c 4 t
/-- The values at point `t`. -/
abbrev vb (c : Dev nD) (t : Fin cfg0.N) : Vec F S1x1x16x128x512 .bf16 := iblk m c 5 t
/-- The block the body stores at point `t`. -/
def outsAt (c : Dev nD) (t : Fin cfg0.N) : Vec F S1x512x128 .bf16 :=
  outv (grid0.coords t 2).val (iblk m c 0 t : Vec F S4x64 .f32) (iblk m c 1 t : Vec F S128x1 .f32) (qb m c t) (kb m c t) (vb m c t)

/-- Off a first query block, the query window is where the window of next queries was one point before. -/
theorem idx_q (t : Fin 1023) : (grid0.coords (⟨t.val + 1, by have := t.isLt; show _ < 1024; omega⟩ : Fin grid0.N) 2).val ≠ 0 →
    ∀ a, cc0_transform_2 (grid0.coords (⟨t.val + 1, by have := t.isLt; show _ < 1024; omega⟩ : Fin grid0.N)) a
      = cc0_transform_3 (grid0.coords (⟨t.val, by have := t.isLt; show _ < 1024; omega⟩ : Fin grid0.N)) a := by
  revert t; decide +kernel

/-- Off a first query block, the key window has not moved. -/
theorem idx_k (t : Fin 1023) : (grid0.coords (⟨t.val + 1, by have := t.isLt; show _ < 1024; omega⟩ : Fin grid0.N) 2).val ≠ 0 →
    ∀ a, cc0_transform_4 (grid0.coords (⟨t.val + 1, by have := t.isLt; show _ < 1024; omega⟩ : Fin grid0.N)) a
      = cc0_transform_4 (grid0.coords (⟨t.val, by have := t.isLt; show _ < 1024; omega⟩ : Fin grid0.N)) a := by
  revert t; decide +kernel

/-- Two blocks of one array at equal block indices are equal. -/
theorem read_23 (X : Vec F S8x8192x2048 .bf16) (t t' : Fin grid0.N)
    (hi : ∀ a, cc0_transform_2 (grid0.coords t') a = cc0_transform_3 (grid0.coords t) a) :
    (win0_2.blk t').view.read (Elt F) X = (win0_3.blk t).view.read (Elt F) X := by
  funext y
  refine congrArg X (funext fun a => Fin.ext ?_)
  show cc0_transform_2 _ a * _ + 1 * (y a).val = cc0_transform_3 _ a * _ + 1 * (y a).val
  exact congrArg (fun z => z * _ + 1 * (y a).val) (hi a)

/-- Two blocks of keys at equal block indices are equal. -/
theorem read_44 (X : Vec F S8x8192x2048 .bf16) (t t' : Fin grid0.N)
    (hi : ∀ a, cc0_transform_4 (grid0.coords t') a = cc0_transform_4 (grid0.coords t) a) :
    (win0_4.blk t').view.read (Elt F) X = (win0_4.blk t).view.read (Elt F) X := by
  funext y
  refine congrArg X (funext fun a => Fin.ext ?_)
  show cc0_transform_4 _ a * _ + 1 * (y a).val = cc0_transform_4 _ a * _ + 1 * (y a).val
  exact congrArg (fun z => z * _ + 1 * (y a).val) (hi a)

theorem qb_succ (c : Dev nD) (t t' : Fin cfg0.N) (h : t'.val = t.val + 1) (h0 : (grid0.coords t' 2).val ≠ 0) :
    qb m c t' = qnb m c t := by
  have ht' : t'.val < 1024 := t'.isLt
  obtain ⟨n, hn⟩ := t'
  simp only at h; subst h
  have ht1 : t.val + 1 < 1024 := ht'
  exact read_23 (V m c main_v8) t _ (idx_q ⟨t.val, by omega⟩ h0)

theorem kb_succ (c : Dev nD) (t t' : Fin cfg0.N) (h : t'.val = t.val + 1) (h0 : (grid0.coords t' 2).val ≠ 0) :
    kb m c t' = kb m c t := by
  have ht' : t'.val < 1024 := t'.isLt
  obtain ⟨n, hn⟩ := t'
  simp only at h; subst h
  have ht1 : t.val + 1 < 1024 := ht'
  exact read_44 (V m c main_v8) t _ (idx_k ⟨t.val, by omega⟩ h0)

end Cert.KernelIdeal.Hand

end
-- ==== Proof.Run.lean ====
/-
  The attention kernel's run: the scratch carries the next query block's first scores from one grid point to the next
  (`Φ`), the body's triple at every point, and the launch over the windows that share the concatenated queries and keys.
-/
module

public import proofs.«01_k».proof.Proof.Body
public import proofs.«01_k».proof.Proof.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The scratch as the body takes it. -/
abbrev scr : Memref sig .tc .vmem S2x512x1024 .f32 := Memref.whole cc0_scratch0

/-- What slot 0 of the scratch holds before point `n`. -/
def Held (c : Dev nD) (n : ℕ) (f : BufTy.Contents (Elt F) scr.view.ty) : Prop :=
  ∀ h : n < cfg0.N, (grid0.coords (⟨n, h⟩ : Fin cfg0.N) 2).val ≠ 0 →
    scr.view.readAt (Elt F) R0.toLoadRect f = sc (k0_pay25 (qb m c ⟨n, h⟩)) (kblk (kb m c ⟨n, h⟩) 0)

/-- What is kept between points: the scratch with its first slot, and the generator's register. -/
def ΦS (c : Dev nD) (n : ℕ) : sProp 𝕄 :=
  iprop((∃ f, (scr.view.loc (c : Thread nD τ) ↦[scr.view.set]{fullShare} f) ∗ ⌜Held m c n f⌝) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ t := ΦS m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at every point -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.castSucc = ΦS m c t.val from rfl, show (dats m 0 c).Φ t.succ = ΦS m c (t.val + 1) from rfl,
    show (dats m 0 c).owesAt () t.succ = (dats m 0 c).owesAt () t.castSucc from rfl, after0_0, after0_1, after0_2, after0_3, after0_4, after0_5, after0_6]
  unfold ΦS outsAt
  iintro ⟨⟨⟨%f, Hs, %hf⟩, Hr⟩, Ho, ⟨%d0, H0⟩, ⟨%d1, H1⟩, ⟨%d2, H2⟩, ⟨%d3, H3⟩, ⟨%d4, H4⟩, ⟨%d5, H5⟩, ⟨%d6, H6⟩⟩
  iapply (kernelRun c (grid0.coords t) _ _ _ _ _ _ _ _ _ _ _ _ _ _ _ _ (iblk m c 0 t) (iblk m c 1 t) (qb m c t) (qnb m c t) (kb m c t) (vb m c t) f (hf t.isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hs]; · iexact Hs
  iintro ⟨H0, H1, H2, H3, H4, H5, H6, ⟨%f', Hs, %hf'⟩⟩
  isplitl [Hs Hr]
  · isplitl [Hs]
    · iexists f'
      isplitl [Hs]; · iexact Hs
      ipureintro
      intro h h0
      rw [qb_succ m c t ⟨t.val + 1, h⟩ rfl h0, kb_succ m c t ⟨t.val + 1, h⟩ rfl h0]
      exact hf'
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run -/

theorem scr_set : scr.view.set = Finset.univ := View.set_whole _

/-- Before the first point. -/
theorem phi_in (c : Dev nD) : Pipeline.ΦA (Val := Elt F) (U := UR sig nD τ) spec0 c ⊢ (dats m 0 c).Φ 0 := by
  rw [show (dats m 0 c).Φ 0 = ΦS m c 0 from rfl]
  unfold Pipeline.ΦA ΦS
  rw [scopedRest0_eq]
  iintro ⟨⟨%f, H⟩, Hr⟩
  isplitl [H]
  · iexists f
    isplitl [H]
    · rw [scr_set]; iexact H
    · ipureintro
      intro h h0
      exact absurd ((by decide : ∀ h : 0 < grid0.N, (grid0.coords (⟨0, h⟩ : Fin grid0.N) 2).val = 0) h) h0
  · iexact Hr

/-- After the last point. -/
theorem phi_out (c : Dev nD) : (dats m 0 c).Φ (Fin.last cfg0.N) ⊢ Pipeline.ΦA (Val := Elt F) (U := UR sig nD τ) spec0 c := by
  rw [show (dats m 0 c).Φ (Fin.last cfg0.N) = ΦS m c cfg0.N from rfl]
  unfold Pipeline.ΦA ΦS
  rw [scopedRest0_eq, scr_set]
  iintro ⟨⟨%f, H, -⟩, Hr⟩
  isplitl [H]
  · iexists f; iexact H
  · iexact Hr

set_option backward.isDefEq.respectTransparency.types false in
/-- Every weakly fair execution of @main terminates with every array of the pipeline at what the library computes from the
    proof data and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hin := phi_in m) (hout := phi_out m)

end Cert.KernelIdeal.Hand

end
-- ==== Proof.Frames.lean ====
/-
  The frame claims of the printed and of the idealized kernel, from one run: at machine words a named constant read as its
  word makes the idealized kernel's program the printed one.
-/
module

public import proofs.«01_k».proof.Proof.Run
public import proofs.«01_k».proof.Proof.Gen.Kernel.Frame
public import proofs.«01_k».proof.Defs
@[expose] public section
noncomputable section
namespace Cert.KernelIdeal.Hand
open Idealize.ShloMosaic Idealize.SL.Sem Idealize.ShloMosaic.TcCoe
open Cert.KernelIdeal Cert.KernelIdeal.Gen

/-- What the frame claim of the idealized kernel's program says, at any instance. -/
theorem frame_any {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

/-- At machine words a named constant is its word: the idealized kernel's program is then the printed kernel's. -/
local instance namedBits : Named Bits := ⟨fun _ _ _ b => FloatOps.ofBits _ b⟩

theorem main_eq : Cert.Kernel.main (F := Bits) = Cert.KernelIdeal.main (F := Bits) := rfl
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : Cert.Kernel.defs (F := Bits) = Cert.KernelIdeal.defs (F := Bits) :=
  congrArg (Pipeline.defs (Cert.KernelIdeal.pcfgs (F := Bits))) defs₀_eq

theorem frame_printed : Cert.quiescent_Kernel := by
  intro m ρ _
  have h := frame_any (F := Bits) m ρ
  rw [← defs_eq] at h
  exact h

theorem frame_ideal : Cert.quiescent_KernelIdeal :=
  fun m ρ _ => frame_any (F := Ideal) m ρ

end Cert.KernelIdeal.Hand
end
-- ==== Proof.Soft.lean ====
/-
  The weights of a base-two softmax over extended-real scores, how they rescale when the running maximum grows, and the
  running sums they give.
-/
module

public import Idealize.ShloMosaic.PureOps.Ideal.Laws

@[expose] public section

noncomputable section

namespace Cert.Soft

open Idealize.ShloMosaic
open scoped BigOperators

/-- The weight of a score against a maximum: a real, zero where the score or the maximum is infinite. -/
def wt (s m : EReal) : ℝ := (Ideal.exp2 (s - m)).toReal

theorem exp2_bot : Ideal.exp2 ⊥ = 0 := rfl
theorem exp_bot : Ideal.exp ⊥ = 0 := rfl

theorem wt_coe_coe (a b : ℝ) : wt a b = (2 : ℝ) ^ (a - b) := by
  unfold wt
  rw [← EReal.coe_sub]
  rfl

theorem wt_top (s : EReal) : wt s ⊤ = 0 := by
  unfold wt
  have h : s - ⊤ = ⊥ := by
    induction s <;> simp [sub_eq_add_neg]
  rw [h, exp2_bot]; rfl

theorem wt_bot (m : EReal) : wt ⊥ m = 0 := by
  unfold wt
  have h : (⊥ : EReal) - m = ⊥ := by simp [sub_eq_add_neg]
  rw [h, exp2_bot]; rfl

theorem wt_nonneg (s m : EReal) (h : s ≤ m) : 0 ≤ wt s m := by
  induction m with
  | top => rw [wt_top]
  | bot => rw [le_bot_iff.1 h, wt_bot]
  | coe b =>
    induction s with
    | top => exact absurd (top_le_iff.1 h) (EReal.coe_ne_top b)
    | bot => rw [wt_bot]
    | coe a => rw [wt_coe_coe]; positivity

/-- The exponential of a score less a maximum above it is its weight. -/
theorem exp2_sub (s m : EReal) (h : s ≤ m) : Ideal.exp2 (s - m) = ((wt s m : ℝ) : EReal) := by
  induction m with
  | top =>
    have h' : s - ⊤ = ⊥ := by induction s <;> simp [sub_eq_add_neg]
    rw [wt_top, h', exp2_bot]; rfl
  | bot =>
    rw [le_bot_iff.1 h, wt_bot]
    simp [sub_eq_add_neg, exp2_bot]
  | coe b =>
    induction s with
    | top => exact absurd (top_le_iff.1 h) (EReal.coe_ne_top b)
    | bot => rw [wt_bot]; simp [sub_eq_add_neg, exp2_bot]
    | coe a => rw [wt_coe_coe, ← EReal.coe_sub]; rfl

/-- Weights rescale: against a larger maximum, a weight is multiplied by the old maximum's weight. -/
theorem wt_mul (s m m' : EReal) (h : s ≤ m) (h' : m ≤ m') : wt m m' * wt s m = wt s m' := by
  induction m' with
  | top => rw [wt_top, wt_top, zero_mul]
  | bot =>
    have hm := le_bot_iff.1 h'
    subst hm
    rw [le_bot_iff.1 h, wt_bot, zero_mul]
  | coe c =>
    induction m with
    | top => exact absurd (top_le_iff.1 h') (EReal.coe_ne_top c)
    | bot => rw [le_bot_iff.1 h, wt_bot, wt_bot, zero_mul]
    | coe b =>
      induction s with
      | top => exact absurd (top_le_iff.1 h) (EReal.coe_ne_top b)
      | bot => rw [wt_bot, wt_bot, mul_zero]
      | coe a =>
        rw [wt_coe_coe, wt_coe_coe, wt_coe_coe, ← Real.rpow_add (by norm_num)]
        congr 1; ring

/-- The factor that takes a score to base two. -/
def cq : ℝ := (1 / 8) * (Real.log 2)⁻¹

theorem cq_pos : 0 < cq := by
  unfold cq
  have := Real.log_pos (show (1 : ℝ) < 2 by norm_num)
  positivity

/-- Scaling by the factor keeps the order. -/
theorem cq_mono {a b : EReal} (h : a ≤ b) : (cq : EReal) * a ≤ cq * b :=
  mul_le_mul_of_nonneg_left h (by exact_mod_cast cq_pos.le)

theorem cq_bot : (cq : EReal) * ⊥ = ⊥ := EReal.coe_mul_bot_of_pos cq_pos

/-- The natural exponential of a score over eight is the base-two weight of the scaled score. -/
theorem exp_sub (x m : EReal) (h : x ≤ m) :
    Ideal.exp (x * ((1 / 8 : ℝ) : EReal) - m * ((1 / 8 : ℝ) : EReal)) = ((wt (cq * x) (cq * m) : ℝ) : EReal) := by
  have h8 : (0 : ℝ) < 1 / 8 := by norm_num
  induction m with
  | top =>
    rw [EReal.top_mul_coe_of_pos h8, EReal.coe_mul_top_of_pos cq_pos, wt_top]
    have h' : x * ((1 / 8 : ℝ) : EReal) - ⊤ = ⊥ := by
      generalize x * ((1 / 8 : ℝ) : EReal) = y
      induction y <;> simp [sub_eq_add_neg]
    rw [h', exp_bot]; rfl
  | bot =>
    rw [le_bot_iff.1 h, EReal.bot_mul_coe_of_pos h8, cq_bot, wt_bot]
    simp [sub_eq_add_neg, exp_bot]
  | coe b =>
    induction x with
    | top => exact absurd (top_le_iff.1 h) (EReal.coe_ne_top b)
    | bot => rw [EReal.bot_mul_coe_of_pos h8, cq_bot, wt_bot]; simp [sub_eq_add_neg, exp_bot]
    | coe a =>
      rw [← EReal.coe_mul, ← EReal.coe_mul, ← EReal.coe_mul, ← EReal.coe_mul, ← EReal.coe_sub, wt_coe_coe]
      show ((Real.exp (a * (1 / 8) - b * (1 / 8)) : ℝ) : EReal) = _
      rw [Real.rpow_def_of_pos (by norm_num)]
      congr 2
      unfold cq
      have := (Real.log_pos (show (1 : ℝ) < 2 by norm_num)).ne'
      field_simp

/-! ## Running maxima and sums -/

open Finset

/-- The maximum over the first `n` blocks of 512 keys. -/
def mx (f : ℕ → EReal) (n : ℕ) : EReal := (range (512 * n)).sup f

/-- The weighted sum over the first `n` blocks. -/
def sm (f : ℕ → EReal) (v : ℕ → ℝ) (n : ℕ) : ℝ := ∑ x ∈ range (512 * n), v x * wt (f x) (mx f n)

theorem mx_zero (f : ℕ → EReal) : mx f 0 = ⊥ := rfl
theorem sm_zero (f : ℕ → EReal) (v : ℕ → ℝ) : sm f v 0 = 0 := rfl

theorem le_mx (f : ℕ → EReal) (n x : ℕ) (h : x < 512 * n) : f x ≤ mx f n := le_sup (f := f) (mem_range.2 h)

theorem mx_mono (f : ℕ → EReal) (n : ℕ) : mx f n ≤ mx f (n + 1) :=
  Finset.sup_mono (range_subset_range.2 (by omega))

/-- The next block's maximum. -/
theorem mx_succ (f : ℕ → EReal) (n : ℕ) : max (mx f n) ((univ : Finset (Fin 512)).sup fun k => f (512 * n + k.val)) = mx f (n + 1) := by
  refine le_antisymm (max_le (mx_mono f n) (Finset.sup_le fun k _ => le_mx f _ _ (by have := k.isLt; omega))) ?_
  refine Finset.sup_le fun x hx => ?_
  have hx' := mem_range.1 hx
  by_cases h : x < 512 * n
  · exact (le_mx f n x h).trans (le_max_left _ _)
  · refine le_trans ?_ (le_max_right _ _)
    have e : 512 * n + (x - 512 * n) = x := by omega
    have := le_sup (f := fun k : Fin 512 => f (512 * n + k.val)) (mem_univ (⟨x - 512 * n, by omega⟩ : Fin 512))
    simpa only [e] using this

theorem coe_sum' {ι : Type} (s : Finset ι) (g : ι → ℝ) : ((∑ x ∈ s, g x : ℝ) : EReal) = ∑ x ∈ s, ((g x : ℝ) : EReal) := by
  classical
  induction s using Finset.induction_on with
  | empty => simp
  | insert a s ha ih => rw [sum_insert ha, sum_insert ha, EReal.coe_add, ih]

/-- The next block's weighted sum: the old one rescaled, and the block's own. -/
theorem sm_succ (f : ℕ → EReal) (v : ℕ → ℝ) (n : ℕ) :
    Ideal.exp2 (mx f n - mx f (n + 1)) * ((sm f v n : ℝ) : EReal)
      + ∑ k : Fin 512, ((v (512 * n + k.val) : ℝ) : EReal) * Ideal.exp2 (f (512 * n + k.val) - mx f (n + 1))
      = ((sm f v (n + 1) : ℝ) : EReal) := by
  rw [exp2_sub _ _ (mx_mono f n)]
  have h1 : ∀ k : Fin 512, ((v (512 * n + k.val) : ℝ) : EReal) * Ideal.exp2 (f (512 * n + k.val) - mx f (n + 1))
      = ((v (512 * n + k.val) * wt (f (512 * n + k.val)) (mx f (n + 1)) : ℝ) : EReal) := fun k => by
    rw [exp2_sub _ _ (le_mx f _ _ (by have := k.isLt; omega)), EReal.coe_mul]
  rw [Finset.sum_congr rfl fun k _ => h1 k, ← coe_sum', ← EReal.coe_mul, ← EReal.coe_add]
  congr 1
  unfold sm
  rw [show 512 * (n + 1) = 512 * n + 512 from by ring, sum_range_add, Finset.mul_sum]
  congr 1
  · refine Finset.sum_congr rfl fun x hx => ?_
    rw [← wt_mul (f x) (mx f n) (mx f (n + 1)) (le_mx f n x (mem_range.1 hx)) (mx_mono f n)]
    ring

/-- The same of the plain sum of weights. -/
theorem sm_succ_one (f : ℕ → EReal) (n : ℕ) :
    Ideal.exp2 (mx f n - mx f (n + 1)) * ((sm f (fun _ => 1) n : ℝ) : EReal)
      + ∑ k : Fin 512, Ideal.exp2 (f (512 * n + k.val) - mx f (n + 1)) = ((sm f (fun _ => 1) (n + 1) : ℝ) : EReal) := by
  have := sm_succ f (fun _ => 1) n
  simpa only [EReal.coe_one, one_mul] using this

/-- Masked keys past the last block change no maximum. -/
theorem mx_ext (f : ℕ → EReal) (n : ℕ) (hn : n ≤ 16) (h : ∀ x, 512 * n ≤ x → f x = ⊥) :
    mx f n = (univ : Finset (Fin 8192)).sup fun x => f x.val := by
  refine le_antisymm (Finset.sup_le fun x hx => ?_) (Finset.sup_le fun x _ => ?_)
  · have hx' := mem_range.1 hx
    exact le_sup (f := fun x : Fin 8192 => f x.val) (mem_univ (⟨x, by omega⟩ : Fin 8192))
  · by_cases hx : x.val < 512 * n
    · exact le_mx f n _ hx
    · show f x.val ≤ _
      rw [h _ (by omega)]; exact bot_le

/-- Nor any sum. -/
theorem sm_ext (f : ℕ → EReal) (v : ℕ → ℝ) (n : ℕ) (hn : n ≤ 16) (h : ∀ x, 512 * n ≤ x → f x = ⊥) :
    sm f v n = ∑ x : Fin 8192, v x.val * wt (f x.val) (mx f n) := by
  unfold sm
  rw [← Finset.sum_range (fun x => v x * wt (f x) (mx f n))]
  refine Finset.sum_subset (range_subset_range.2 (by omega)) fun x _ hx => ?_
  rw [h x (by simpa using hx), wt_bot, mul_zero]

end Cert.Soft

end
-- ==== Proof.Spec.lean ====
/-
  What both sides compute, in terms of the arguments: the scores of one query row under one of the two maps, its softmax
  weights and the factor of the second map.
-/
module

public import proofs.«01_k».proof.Proof.Soft
public import Idealize.ShloMosaic.Lib.ValueIdx

@[expose] public section

noncomputable section

namespace Cert.Soft

open Idealize.ShloMosaic Idealize.ShloMosaic.ValueIdx

/-- The shape of the queries, keys and values. -/
abbrev A3 : Shape := ⟨3, ![8, 8192, 1024]⟩
/-- The shape of the parameters of the second map's factor. -/
abbrev A2 : Shape := ⟨2, ![4, 64]⟩

/-- Lane `j` of map `p` of head `h`. -/
def ln (h : Fin 8) (p : Fin 2) (j : Fin 64) : Fin 1024 :=
  ⟨128 * h.val + (64 * p.val + j.val), by have := h.isLt; have := p.isLt; have := j.isLt; omega⟩

/-- Lane `d` of head `h`. -/
def hd (h : Fin 8) (d : Fin 128) : Fin 1024 := ⟨128 * h.val + d.val, by have := h.isLt; have := d.isLt; omega⟩

/-- The score of query row `s` against key row `x`. -/
def ts (Q K : A3.Idx → EReal) (b h : Fin 8) (p : Fin 2) (s : Fin 8192) (x : ℕ) : EReal :=
  ∑ j : Fin 64, Q (ix3 b s (ln h p j)) * K (ix3 b ⟨x % 8192, Nat.mod_lt _ (by norm_num)⟩ (ln h p j))

/-- The score under the causal mask. -/
def tm (Q K : A3.Idx → EReal) (b h : Fin 8) (p : Fin 2) (s : Fin 8192) (x : ℕ) : EReal :=
  if x ≤ s.val then ts Q K b h p s x else ⊥

/-- The scaled score under the causal mask. -/
def fg (Q K : A3.Idx → EReal) (b h : Fin 8) (p : Fin 2) (s : Fin 8192) (x : ℕ) : EReal :=
  if x ≤ s.val then (cq : EReal) * ts Q K b h p s x else ⊥

theorem fg_eq (Q K : A3.Idx → EReal) (b h : Fin 8) (p : Fin 2) (s : Fin 8192) (x : ℕ) :
    fg Q K b h p s x = (cq : EReal) * tm Q K b h p s x := by
  unfold fg tm
  by_cases h : x ≤ s.val
  · rw [if_pos h, if_pos h]
  · rw [if_neg h, if_neg h, cq_bot]

/-- A monotone map goes through a maximum over the keys. -/
theorem map_sup (g : EReal → EReal) (hg : Monotone g) (f : Fin 8192 → EReal) :
    g ((Finset.univ : Finset (Fin 8192)).sup f) = (Finset.univ : Finset (Fin 8192)).sup fun x => g (f x) := by
  obtain ⟨i, _, hi⟩ := Finset.exists_mem_eq_sup (Finset.univ : Finset (Fin 8192)) ⟨0, Finset.mem_univ _⟩ f
  refine le_antisymm ?_ (Finset.sup_le fun x hx => hg (Finset.le_sup hx))
  rw [hi]
  exact Finset.le_sup (f := fun x => g (f x)) (Finset.mem_univ i)

/-- The weight of key `x`. -/
def W (Q K : A3.Idx → EReal) (b h : Fin 8) (p : Fin 2) (s x : Fin 8192) : ℝ :=
  wt (fg Q K b h p s x.val) ((Finset.univ : Finset (Fin 8192)).sup fun y => fg Q K b h p s y.val)

theorem W_nonneg (Q K : A3.Idx → EReal) (b h : Fin 8) (p : Fin 2) (s x : Fin 8192) : 0 ≤ W Q K b h p s x :=
  wt_nonneg _ _ (Finset.le_sup (f := fun y : Fin 8192 => fg Q K b h p s y.val) (Finset.mem_univ x))

/-- The natural exponential of the scores over eight gives the same weights. -/
theorem exp_W (Q K : A3.Idx → EReal) (b h : Fin 8) (p : Fin 2) (s x : Fin 8192) :
    Ideal.exp (tm Q K b h p s x.val * ((1 / 8 : ℝ) : EReal)
        - ((Finset.univ : Finset (Fin 8192)).sup fun y => tm Q K b h p s y.val) * ((1 / 8 : ℝ) : EReal))
      = ((W Q K b h p s x : ℝ) : EReal) := by
  rw [exp_sub _ _ (Finset.le_sup (f := fun y : Fin 8192 => tm Q K b h p s y.val) (Finset.mem_univ x))]
  unfold W
  rw [fg_eq, map_sup (fun z => (cq : EReal) * z) (fun _ _ h => cq_mono h)]
  refine congrArg (fun z => ((wt ((cq : EReal) * tm Q K b h p s x.val) z : ℝ) : EReal)) (Finset.sup_congr rfl fun y _ => ?_)
  exact (fg_eq Q K b h p s y.val).symm

/-- The factor of the second map. -/
def lamv (lam : A2.Idx → EReal) : EReal :=
  Ideal.exp (∑ i : Fin 64, lam (ix2 0 i) * lam (ix2 1 i)) - Ideal.exp (∑ i : Fin 64, lam (ix2 2 i) * lam (ix2 3 i))
    + ((13421773 / 67108864 : ℝ) : EReal)

/-- With finite parameters the factor is a real. -/
theorem lamv_real (lam : A2.Idx → EReal) (l : A2.Idx → ℝ) (h : ∀ i, lam i = ((l i : ℝ) : EReal)) :
    ∃ a : ℝ, lamv lam = (a : EReal) := by
  have hs : ∀ a b : Fin 4, ∃ s : ℝ, ∑ i : Fin 64, lam (ix2 a i) * lam (ix2 b i) = (s : EReal) := fun a b =>
    ⟨∑ i : Fin 64, l (ix2 a i) * l (ix2 b i), by
      rw [coe_sum']
      exact Finset.sum_congr rfl fun i _ => by rw [h, h, EReal.coe_mul]⟩
  obtain ⟨s, hs1⟩ := hs 0 1
  obtain ⟨t, ht1⟩ := hs 2 3
  refine ⟨Real.exp s - Real.exp t + 13421773 / 67108864, ?_⟩
  unfold lamv
  rw [hs1, ht1, EReal.coe_add, EReal.coe_sub]
  rfl

/-- The values under the differential map. -/
def oref (Q K V : A3.Idx → EReal) (lam : A2.Idx → EReal) (b h : Fin 8) (s : Fin 8192) (e : Fin 128) : EReal :=
  ∑ x : Fin 8192, V (ix3 b x (hd h e)) * (Ideal.div (W Q K b h 0 s x : EReal) ((∑ x, W Q K b h 0 s x : ℝ) : EReal)
        - lamv lam * Ideal.div (W Q K b h 1 s x : EReal) ((∑ x, W Q K b h 1 s x : ℝ) : EReal))

end Cert.Soft
-- ==== Proof.Comb.lean ====
/-
  The differential combination of two softmaxes and its sub-layer norm: combining the two normalized sums, or summing the
  combined weights, gives the same row; where a softmax has no weight at all, both rows are zero.
-/
module

public import proofs.«01_k».proof.Proof.Soft

@[expose] public section

noncomputable section

namespace Cert.Soft

open Idealize.ShloMosaic
open scoped BigOperators

/-- The sub-layer norm of a row of 128, with its gain and its final factor. -/
def nrm (o : Fin 128 → EReal) (eps : ℝ) (g c : EReal) (d : Fin 128) : EReal :=
  o d * Ideal.rsqrt (Ideal.div (∑ e, o e * o e) ((128 : ℝ) : EReal) + (eps : EReal)) * g * c

/-- A row that is zero or infinite in each entry is normalized to zero. -/
theorem nrm_inf (o : Fin 128 → EReal) (eps : ℝ) (g c : EReal) (d : Fin 128)
    (h : ∀ e, o e = 0 ∨ o e = ⊤ ∨ o e = ⊥) : nrm o eps g c d = 0 := by
  unfold nrm
  by_cases h0 : o d = 0
  · rw [h0, zero_mul, zero_mul, zero_mul]
  · have hd : o d * o d = ⊤ := by
      rcases h d with h' | h' | h'
      · exact absurd h' h0
      · rw [h']; rfl
      · rw [h']; rfl
    have hn : ∀ e, 0 ≤ o e * o e := fun e => by
      rcases h e with h' | h' | h' <;> rw [h']
      · rw [zero_mul]
      · exact le_top
      · exact (le_top : (0 : EReal) ≤ ⊤)
    have hs : ∑ e, o e * o e = ⊤ := top_le_iff.1 (hd ▸ Finset.single_le_sum (f := fun e => o e * o e) (fun e _ => hn e) (Finset.mem_univ d))
    rw [hs, Ideal.div_coe (by norm_num), EReal.top_mul_coe_of_pos (by norm_num), EReal.top_add_coe]
    show o d * 0 * g * c = 0
    rw [mul_zero, zero_mul, zero_mul]

/-- A sum of terms each zero or infinite is zero or infinite. -/
theorem sum_inf {ι : Type} (s : Finset ι) (f : ι → EReal) (h : ∀ x ∈ s, f x = 0 ∨ f x = ⊤ ∨ f x = ⊥) :
    (∑ x ∈ s, f x = 0 ∨ ∑ x ∈ s, f x = ⊤ ∨ ∑ x ∈ s, f x = ⊥) := by
  classical
  induction s using Finset.induction_on with
  | empty => exact Or.inl rfl
  | insert a s ha ih =>
    rw [Finset.sum_insert ha]
    rcases h a (Finset.mem_insert_self a s) with e | e | e <;>
      rcases ih fun x hx => h x (Finset.mem_insert_of_mem hx) with e' | e' | e' <;> rw [e, e'] <;> simp

/-- A real times an infinity is zero or infinite. -/
theorem coe_mul_inf (v : ℝ) (c : EReal) (h : c = ⊤ ∨ c = ⊥) : ((v : ℝ) : EReal) * c = 0 ∨ (v : EReal) * c = ⊤ ∨ (v : EReal) * c = ⊥ := by
  rcases lt_trichotomy v 0 with hv | hv | hv
  · rcases h with h | h <;> rw [h]
    · exact Or.inr (Or.inr (EReal.coe_mul_top_of_neg hv))
    · exact Or.inr (Or.inl (EReal.coe_mul_bot_of_neg hv))
  · left; rw [hv, EReal.coe_zero, zero_mul]
  · rcases h with h | h <;> rw [h]
    · exact Or.inr (Or.inl (EReal.coe_mul_top_of_pos hv))
    · exact Or.inr (Or.inr (EReal.coe_mul_bot_of_pos hv))

theorem div_zero_zero : Ideal.div ((0 : ℝ) : EReal) ((0 : ℝ) : EReal) = ⊥ := by
  simp [Ideal.div]

theorem div_coe_coe (a b : ℝ) (h : b ≠ 0) : Ideal.div (a : EReal) (b : EReal) = ((a / b : ℝ) : EReal) := by
  rw [Ideal.div_coe h, ← EReal.coe_mul]
  congr 1
  ring

variable {ι : Type} [Fintype ι]

/-- Where one of the two softmaxes has no weight, the combination of quotients is one infinity, or the first alone. -/
theorem comb_const (L1 L2 lam : ℝ) (h : L1 = 0 ∨ (L2 = 0 ∧ lam ≠ 0)) :
    ∃ c : EReal, (c = ⊤ ∨ c = ⊥) ∧ ∀ a1 a2 : ℝ, (L1 = 0 → a1 = 0) → (L2 = 0 → a2 = 0) →
      Ideal.div (a1 : EReal) (L1 : EReal) - (lam : EReal) * Ideal.div (a2 : EReal) (L2 : EReal) = c := by
  by_cases h1 : L1 = 0
  · refine ⟨⊥, Or.inr rfl, fun a1 a2 e1 _ => ?_⟩
    rw [e1 h1, h1, div_zero_zero, sub_eq_add_neg, EReal.bot_add]
  · obtain ⟨h2, hl⟩ := h.resolve_left h1
    rcases lt_or_gt_of_ne hl with hl | hl
    · refine ⟨⊥, Or.inr rfl, fun a1 a2 _ e2 => ?_⟩
      rw [e2 h2, h2, div_zero_zero, EReal.coe_mul_bot_of_neg hl, div_coe_coe _ _ h1]
      simp [sub_eq_add_neg]
    · refine ⟨⊤, Or.inl rfl, fun a1 a2 _ e2 => ?_⟩
      rw [e2 h2, h2, div_zero_zero, EReal.coe_mul_bot_of_pos hl, div_coe_coe _ _ h1]
      rfl

/-- The normalized combination of two softmax averages is the normalized average by the combined weights. -/
theorem nrm_comb (v : ι → Fin 128 → ℝ) (w1 w2 : ι → ℝ) (hw1 : ∀ x, 0 ≤ w1 x) (hw2 : ∀ x, 0 ≤ w2 x) (lam eps : ℝ)
    (g c : EReal) (d : Fin 128) :
    nrm (fun e => Ideal.div ((∑ x, v x e * w1 x : ℝ) : EReal) ((∑ x, w1 x : ℝ) : EReal)
        - (lam : EReal) * Ideal.div ((∑ x, v x e * w2 x : ℝ) : EReal) ((∑ x, w2 x : ℝ) : EReal)) eps g c d
      = nrm (fun e => ∑ x, ((v x e : ℝ) : EReal) * (Ideal.div (w1 x : EReal) ((∑ x, w1 x : ℝ) : EReal)
          - (lam : EReal) * Ideal.div (w2 x : EReal) ((∑ x, w2 x : ℝ) : EReal))) eps g c d := by
  have z1 : (∑ x, w1 x : ℝ) = 0 → ∀ x, w1 x = 0 := fun h x =>
    (Finset.sum_eq_zero_iff_of_nonneg fun x _ => hw1 x).1 h x (Finset.mem_univ x)
  have z2 : (∑ x, w2 x : ℝ) = 0 → ∀ x, w2 x = 0 := fun h x =>
    (Finset.sum_eq_zero_iff_of_nonneg fun x _ => hw2 x).1 h x (Finset.mem_univ x)
  have s1 : (∑ x, w1 x : ℝ) = 0 → ∀ e, (∑ x, v x e * w1 x : ℝ) = 0 := fun h e =>
    Finset.sum_eq_zero fun x _ => by rw [z1 h x, mul_zero]
  have s2 : (∑ x, w2 x : ℝ) = 0 → ∀ e, (∑ x, v x e * w2 x : ℝ) = 0 := fun h e =>
    Finset.sum_eq_zero fun x _ => by rw [z2 h x, mul_zero]
  by_cases h : (∑ x, w1 x : ℝ) = 0 ∨ ((∑ x, w2 x : ℝ) = 0 ∧ lam ≠ 0)
  · obtain ⟨k, hk, hc⟩ := comb_const _ _ lam h
    rw [nrm_inf, nrm_inf]
    · intro e
      refine sum_inf _ _ fun x _ => ?_
      rw [hc _ _ (fun h => z1 h x) (fun h => z2 h x)]
      exact coe_mul_inf _ _ hk
    · intro e
      rw [hc _ _ (fun h => s1 h e) (fun h => s2 h e)]
      exact Or.inr hk
  · have h1 : (∑ x, w1 x : ℝ) ≠ 0 := fun e => h (Or.inl e)
    congr 1
    funext e
    by_cases h2 : (∑ x, w2 x : ℝ) = 0
    · have hl : lam = 0 := by
        by_contra hl
        exact h (Or.inr ⟨h2, hl⟩)
      subst hl
      have hx : ∀ x, ((v x e : ℝ) : EReal) * (Ideal.div (w1 x : EReal) ((∑ x, w1 x : ℝ) : EReal)
          - ((0 : ℝ) : EReal) * Ideal.div (w2 x : EReal) ((∑ x, w2 x : ℝ) : EReal)) = ((v x e * (w1 x / ∑ x, w1 x) : ℝ) : EReal) := fun x => by
        rw [div_coe_coe _ _ h1, EReal.coe_zero, zero_mul, sub_zero, EReal.coe_mul]
      rw [Finset.sum_congr rfl fun x _ => hx x, ← coe_sum', div_coe_coe _ _ h1, EReal.coe_zero, zero_mul, sub_zero]
      congr 1
      rw [Finset.sum_div]
      exact Finset.sum_congr rfl fun x _ => mul_div_assoc _ _ _
    · have hx : ∀ x, ((v x e : ℝ) : EReal) * (Ideal.div (w1 x : EReal) ((∑ x, w1 x : ℝ) : EReal)
          - (lam : EReal) * Ideal.div (w2 x : EReal) ((∑ x, w2 x : ℝ) : EReal))
          = ((v x e * (w1 x / (∑ x, w1 x) - lam * (w2 x / ∑ x, w2 x)) : ℝ) : EReal) := fun x => by
        rw [div_coe_coe _ _ h1, div_coe_coe _ _ h2, EReal.coe_mul, EReal.coe_sub, EReal.coe_mul]
      rw [Finset.sum_congr rfl fun x _ => hx x, ← coe_sum', div_coe_coe _ _ h1, div_coe_coe _ _ h2, ← EReal.coe_mul, ← EReal.coe_sub]
      congr 1
      rw [Finset.sum_div, Finset.sum_div, Finset.mul_sum, ← Finset.sum_sub_distrib]
      exact Finset.sum_congr rfl fun x _ => by ring

end Cert.Soft

end
-- ==== Proof.Lits.lean ====
/-
  The literals of the two programs, as extended reals.
-/
module

public import Idealize.ShloMosaic.PureOps.Ideal.Laws

@[expose] public section

noncomputable section

namespace Cert.Lits

open Idealize.ShloMosaic

/-- Every literal is finite but the reference's minus infinity. -/
theorem l128 : Ideal.ofBits .f32 0x43000000#32 = ((128 : ℝ) : EReal) := by
  simp [Ideal.ofBits, Ideal.ieee, -EReal.coe_mul]; norm_num
theorem l8th : Ideal.ofBits .f32 0x3E000000#32 = ((1 / 8 : ℝ) : EReal) := by
  simp [Ideal.ofBits, Ideal.ieee, -EReal.coe_mul]; norm_num
theorem lbot : Ideal.ofBits .f32 0xFF800000#32 = ⊥ := by
  simp [Ideal.ofBits, Ideal.ieee]
theorem leps : Ideal.ofBits .f32 0x3727C5AC#32 = ((10995116 / 1099511627776 : ℝ) : EReal) := by
  simp [Ideal.ofBits, Ideal.ieee, -EReal.coe_mul]; norm_num
theorem llam : Ideal.ofBits .f32 0x3E4CCCCD#32 = ((13421773 / 67108864 : ℝ) : EReal) := by
  simp [Ideal.ofBits, Ideal.ieee, -EReal.coe_mul]; norm_num
theorem lzero16 : Ideal.ofBits .bf16 0x0000#16 = 0 := by
  simp [Ideal.ofBits, Ideal.ieee]

end Cert.Lits

end
-- ==== Proof.RefVal.lean ====
/-
  The reference's result read at an index: the two maps' weights, their difference applied to the values, normalized.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Spec
public import proofs.«01_k».proof.Proof.Comb
public import proofs.«01_k».proof.Proof.Lits

@[expose] public section

set_option maxRecDepth 16384

noncomputable section

namespace Cert.ReferenceIdeal.Hand

open Cert.ReferenceIdeal Cert.ReferenceIdeal.Gen Cert.ReferenceIdeal.Read Cert.Soft
open Idealize.ShloMosaic Idealize.ShloMosaic.ValueIdx

variable (x0 x1 x2 : (⟨S8x8192x1024, .f32⟩ : BufTy).Contents (Elt Ideal)) (x3 : (⟨S4x64, .f32⟩ : BufTy).Contents (Elt Ideal))
  (x4 : (⟨S128, .f32⟩ : BufTy).Contents (Elt Ideal))

/-- Small words compare as their values. -/
theorem sle_small (a b : ℕ) (ha : a < 2 ^ 31) (hb : b < 2 ^ 31) :
    IntOp.cmpi .sle (BitVec.ofNat 32 a) (BitVec.ofNat 32 b) = if a ≤ b then 1#1 else 0#1 := by
  have ha' : (BitVec.ofNat 32 a).toInt = (a : ℤ) := by
    rw [BitVec.toInt_eq_toNat_of_lt (by rw [BitVec.toNat_ofNat]; omega), BitVec.toNat_ofNat]
    omega
  have hb' : (BitVec.ofNat 32 b).toInt = (b : ℤ) := by
    rw [BitVec.toInt_eq_toNat_of_lt (by rw [BitVec.toNat_ofNat]; omega), BitVec.toNat_ofNat]
    omega
  show BitVec.ofBool (decide ((BitVec.ofNat 32 a).toInt ≤ (BitVec.ofNat 32 b).toInt)) = _
  rw [ha', hb']
  by_cases h : a ≤ b
  · rw [if_pos h, decide_eq_true (by omega)]; rfl
  · rw [if_neg h, decide_eq_false (by omega)]; rfl

/-- The split of a row into heads, maps and lanes. -/
theorem split_ln (b : Fin 8) (s : Fin 8192) (h : Fin 8) (p : Fin 2) (k : Fin 64) : idx_main_v0 (ix5 b s h p k) = ix3 b s (ln h p k) := by
  have hb := b.isLt; have hs := s.isLt; have hh := h.isLt; have hp := p.isLt; have hk := k.isLt
  funext a
  match a with
  | ⟨0, _⟩ => exact Fin.ext (by show ((((b.val * 8192 + s.val) * 8 + h.val) * 2 + p.val) * 64 + k.val) / 8388608 = b.val; omega)
  | ⟨1, _⟩ => exact Fin.ext (by show ((((b.val * 8192 + s.val) * 8 + h.val) * 2 + p.val) * 64 + k.val) / 1024 % 8192 = s.val; omega)
  | ⟨2, _⟩ =>
    exact Fin.ext (by show ((((b.val * 8192 + s.val) * 8 + h.val) * 2 + p.val) * 64 + k.val) % 1024 = 128 * h.val + (64 * p.val + k.val); omega)

/-- The scores. -/
theorem r20 (b h : Fin 8) (p : Fin 2) (s x : Fin 8192) : val_main_v20 (F := Ideal) x0 x1 (ix5 b h p s x) = ts x0 x1 b h p s x.val := by
  rw [val_main_v20_apply]
  unfold ts
  refine Finset.sum_congr rfl fun k _ => ?_
  rw [val_main_v0_apply, val_main_v1_apply]
  have hl : lidx_main_v20 (ix5 b h p s x) k = ix5 b s h p k := by
    funext a
    match a with
    | ⟨0, _⟩ => rfl
    | ⟨1, _⟩ => rfl
    | ⟨2, _⟩ => rfl
    | ⟨3, _⟩ => rfl
    | ⟨4, _⟩ => rfl
  have hr : ridx_main_v20 (ix5 b h p s x) k = ix5 b x h p k := by
    funext a
    match a with
    | ⟨0, _⟩ => rfl
    | ⟨1, _⟩ => rfl
    | ⟨2, _⟩ => rfl
    | ⟨3, _⟩ => rfl
    | ⟨4, _⟩ => rfl
  have hx : (⟨x.val % 8192, Nat.mod_lt _ (by norm_num)⟩ : Fin 8192) = x := Fin.ext (Nat.mod_eq_of_lt x.isLt)
  rw [hl, hr, hx]
  exact congrArg₂ (· * ·) (congrArg x0 (split_ln b s h p k)) (congrArg x1 (split_ln b x h p k))

/-- The scores over eight, under the mask. -/
theorem r29 (b h : Fin 8) (p : Fin 2) (s x : Fin 8192) :
    val_main_v29 (F := Ideal) x0 x1 (ix5 b h p s x) = tm x0 x1 b h p s x.val * ((1 / 8 : ℝ) : EReal) := by
  rw [val_main_v29_apply, val_main_call0_v1_apply, val_main_v28_apply, val_main_v27_apply, val_main_v25_apply, val_main_v26_apply,
    val_main_v23_apply, val_main_v24_apply, val_main_v19_apply, val_main_v19_apply, val_main_v22_apply, val_main_v21_apply,
    val_main_cst_2_apply, val_main_call0_v2_apply, val_main_call0_v0_apply, val_main_cst_3_apply, r20]
  show Scalar.select (IntOp.cmpi .sle (BitVec.ofNat 32 x.val) (BitVec.ofNat 32 s.val))
    (ts x0 x1 b h p s x.val * Ideal.ofBits .f32 0x3E000000#32) (Ideal.ofBits .f32 0xFF800000#32) = _
  have hx := x.isLt
  have hs := s.isLt
  rw [sle_small _ _ (by omega) (by omega), Cert.Lits.l8th, Cert.Lits.lbot]
  unfold tm
  by_cases h : x.val ≤ s.val
  · rw [if_pos h, if_pos h, select_one]
  · rw [if_neg h, if_neg h, select_zero, EReal.bot_mul_coe_of_pos (by norm_num)]

/-- A row's maximum. -/
theorem hostmax (y : (⟨S8x8x2x8192x8192, .f32⟩ : BufTy).Contents (Elt Ideal)) (z : (⟨S_, .f32⟩ : BufTy).Contents (Elt Ideal))
    (hz : ∀ i, z i = ⊥) (b h : Fin 8) (p : Fin 2) (s : Fin 8192) :
    Host.reduce (FloatOps.maximumf (F := Ideal) (φ := .f32)) y z reducesTo_S8x8x2x8192x8192_S8x8x2x8192_d4 h_S_ (ix4 b h p s)
      = (Finset.univ : Finset (Fin 8192)).sup fun x => y (ix5 b h p s x) := by
  have hR : S8x8x2x8192x8192.Reduces [4] S8x8x2x8192 := by decide
  refine (Host.reduce_eq_fold_single (max : EReal → EReal → EReal) y z reducesTo_S8x8x2x8192x8192_S8x8x2x8192_d4 hR h_S_ (ix4 b h p s)).trans ?_
  have hf : (y ∘ hR.lift (ix4 b h p s)) = fun x : Fin 8192 => y (ix5 b h p s x) := funext fun x => congrArg y (by
    funext a
    match a with
    | ⟨0, _⟩ => rfl
    | ⟨1, _⟩ => rfl
    | ⟨2, _⟩ => rfl
    | ⟨3, _⟩ => rfl
    | ⟨4, _⟩ => rfl)
  rw [hf, hz]
  rfl

/-- The maximum the softmax subtracts. -/
theorem r32 (b h : Fin 8) (p : Fin 2) (s : Fin 8192) :
    val_main_v32 (F := Ideal) x0 x1 (ix4 b h p s)
      = ((Finset.univ : Finset (Fin 8192)).sup fun y => tm x0 x1 b h p s y.val) * ((1 / 8 : ℝ) : EReal) := by
  rw [val_main_v32_apply, val_main_v31_apply, val_main_cst_5_apply]
  show max (Ideal.ofBits .f32 0xFF800000#32) (val_main_v30 (F := Ideal) x0 x1 (ix4 b h p s)) = _
  rw [Cert.Lits.lbot, max_eq_right bot_le]
  unfold val_main_v30
  rw [hostmax _ _ (fun i => by rw [val_main_cst_4_apply]; exact Cert.Lits.lbot),
    map_sup (fun z => z * ((1 / 8 : ℝ) : EReal)) (fun _ _ h => mul_le_mul_of_nonneg_right h (by exact_mod_cast (by norm_num : (0 : ℝ) ≤ 1 / 8)))]
  exact Finset.sup_congr rfl fun y _ => r29 x0 x1 b h p s y

/-- The weights. -/
theorem r36 (b h : Fin 8) (p : Fin 2) (s x : Fin 8192) :
    val_main_v36 (F := Ideal) x0 x1 (ix5 b h p s x) = ((W x0 x1 b h p s x : ℝ) : EReal) := by
  rw [val_main_v36_apply, val_main_v35_apply, val_main_v34_apply, val_main_v33_apply, r29]
  have hi : idx_main_v33 (idx_main_v34 (ix5 b h p s x)) = ix4 b h p s := by
    funext a
    match a with
    | ⟨0, _⟩ => rfl
    | ⟨1, _⟩ => rfl
    | ⟨2, _⟩ => rfl
    | ⟨3, _⟩ => rfl
  rw [hi, r32, Ideal.hostUnary_exp_def]
  exact exp_W x0 x1 b h p s x

/-- The sum of the weights. -/
theorem r37 (b h : Fin 8) (p : Fin 2) (s : Fin 8192) :
    val_main_v37 (F := Ideal) x0 x1 (ix4 b h p s) = ((∑ x, W x0 x1 b h p s x : ℝ) : EReal) := by
  rw [val_main_v37_apply, val_main_cst_6_apply]
  show Ideal.ofBits .f32 0x00000000#32 + _ = _
  rw [Ideal.ofBits_zero_f32, zero_add, coe_sum']
  refine Finset.sum_congr rfl fun x _ => ?_
  have hi : idx_main_v37 (ix4 b h p s) x = ix5 b h p s x := by
    funext a
    match a with
    | ⟨0, _⟩ => rfl
    | ⟨1, _⟩ => rfl
    | ⟨2, _⟩ => rfl
    | ⟨3, _⟩ => rfl
    | ⟨4, _⟩ => rfl
  rw [hi, r36]

/-- The softmax. -/
theorem r40 (b h : Fin 8) (p : Fin 2) (s x : Fin 8192) :
    val_main_v40 (F := Ideal) x0 x1 (ix5 b h p s x) = Ideal.div (W x0 x1 b h p s x : EReal) ((∑ x, W x0 x1 b h p s x : ℝ) : EReal) := by
  rw [val_main_v40_apply, val_main_v39_apply, val_main_v38_apply, r36]
  have hi : idx_main_v38 (idx_main_v39 (ix5 b h p s x)) = ix4 b h p s := by
    funext a
    match a with
    | ⟨0, _⟩ => rfl
    | ⟨1, _⟩ => rfl
    | ⟨2, _⟩ => rfl
    | ⟨3, _⟩ => rfl
  rw [hi, r37]
  rfl

/-- A vector of 64 summed. -/
theorem sum64 (f : S64.Idx → EReal) : ∑ j : S64.Idx, f j = ∑ k : Fin 64, f (ix1 k) :=
  (Equiv.sum_comp (⟨fun k => ix1 k, fun j => j 0, fun _ => rfl, fun j => (eq_ix1 j).symm⟩ : Fin 64 ≃ S64.Idx) f).symm

/-- The factor of the second map. -/
theorem r18 (i : S_.Idx) : val_main_v18 (F := Ideal) x3 i = lamv x3 := by
  have hm : ∀ k : Fin 64, (⟨k.val % 64, Nat.mod_lt _ (by norm_num)⟩ : Fin 64) = k := fun k => Fin.ext (Nat.mod_eq_of_lt k.isLt)
  rw [val_main_v18_apply, val_main_v17_apply, val_main_v9_apply, val_main_v16_apply, val_main_v8_apply, val_main_v15_apply,
    val_main_cst_apply, val_main_cst_0_apply, val_main_cst_1_apply, sum64, sum64]
  unfold lamv
  rw [Ideal.hostUnary_exp_def, Ideal.hostUnary_exp_def]
  show Ideal.exp (Ideal.ofBits .f32 0x00000000#32 + _) - Ideal.exp (Ideal.ofBits .f32 0x00000000#32 + _) + Ideal.ofBits .f32 0x3E4CCCCD#32 = _
  rw [Ideal.ofBits_zero_f32, zero_add, zero_add, Cert.Lits.llam]
  refine congrArg (· + ((13421773 / 67108864 : ℝ) : EReal)) (congrArg₂ (· - ·) (congrArg Ideal.exp ?_) (congrArg Ideal.exp ?_))
  · refine Finset.sum_congr rfl fun k _ => ?_
    rw [val_main_v7_apply, val_main_v4_apply, val_main_v3_apply, val_main_v6_apply, val_main_v5_apply]
    refine congrArg₂ (· * ·) (congrArg x3 ?_) (congrArg x3 ?_)
    · funext a
      match a with
      | ⟨0, _⟩ => rfl
      | ⟨1, _⟩ => exact hm k
    · funext a
      match a with
      | ⟨0, _⟩ => rfl
      | ⟨1, _⟩ => exact hm k
  · refine Finset.sum_congr rfl fun k _ => ?_
    rw [val_main_v14_apply, val_main_v11_apply, val_main_v10_apply, val_main_v13_apply, val_main_v12_apply]
    refine congrArg₂ (· * ·) (congrArg x3 ?_) (congrArg x3 ?_)
    · funext a
      match a with
      | ⟨0, _⟩ => rfl
      | ⟨1, _⟩ => exact hm k
    · funext a
      match a with
      | ⟨0, _⟩ => rfl
      | ⟨1, _⟩ => exact hm k

/-- Two rows of scores under one map. -/
theorem squeeze (b h : Fin 8) (s x : Fin 8192) : idx_main_v42 (ix4 b h s x) = ix5 b h 0 s x := by
  have hb := b.isLt; have hs := s.isLt; have hh := h.isLt; have hx := x.isLt
  funext a
  match a with
  | ⟨0, _⟩ => exact Fin.ext (by show (((b.val * 8 + h.val) * 8192 + s.val) * 8192 + x.val) / 536870912 = b.val; omega)
  | ⟨1, _⟩ => exact Fin.ext (by show (((b.val * 8 + h.val) * 8192 + s.val) * 8192 + x.val) / 67108864 % 8 = h.val; omega)
  | ⟨2, _⟩ => rfl
  | ⟨3, _⟩ => exact Fin.ext (by show (((b.val * 8 + h.val) * 8192 + s.val) * 8192 + x.val) / 8192 % 8192 = s.val; omega)
  | ⟨4, _⟩ => exact Fin.ext (by show (((b.val * 8 + h.val) * 8192 + s.val) * 8192 + x.val) % 8192 = x.val; omega)

/-- The differential map. -/
theorem r47 (b h : Fin 8) (s x : Fin 8192) :
    val_main_v47 (F := Ideal) x0 x1 x3 (ix4 b h s x)
      = Ideal.div (W x0 x1 b h 0 s x : EReal) ((∑ x, W x0 x1 b h 0 s x : ℝ) : EReal)
        - lamv x3 * Ideal.div (W x0 x1 b h 1 s x : EReal) ((∑ x, W x0 x1 b h 1 s x : ℝ) : EReal) := by
  rw [val_main_v47_apply, val_main_v46_apply, val_main_v45_apply, r18, val_main_v42_apply, val_main_v44_apply, val_main_v41_apply,
    val_main_v43_apply]
  have h0 : idx_main_v41 (idx_main_v42 (ix4 b h s x)) = ix5 b h 0 s x := by
    rw [squeeze]
    funext a
    match a with
    | ⟨0, _⟩ => rfl
    | ⟨1, _⟩ => rfl
    | ⟨2, _⟩ => rfl
    | ⟨3, _⟩ => rfl
    | ⟨4, _⟩ => rfl
  have h1 : idx_main_v43 (idx_main_v44 (ix4 b h s x)) = ix5 b h 1 s x := by
    rw [show idx_main_v44 (ix4 b h s x) = ix5 b h 0 s x from squeeze b h s x]
    funext a
    match a with
    | ⟨0, _⟩ => rfl
    | ⟨1, _⟩ => rfl
    | ⟨2, _⟩ => rfl
    | ⟨3, _⟩ => rfl
    | ⟨4, _⟩ => rfl
  rw [h0, h1, r40, r40]
  rfl

/-- The lanes of the values. -/
theorem split_hd (b : Fin 8) (s : Fin 8192) (h : Fin 8) (d : Fin 128) : idx_main_v2 (ix4 b s h d) = ix3 b s (hd h d) := by
  have hb := b.isLt; have hs := s.isLt; have hh := h.isLt; have hk := d.isLt
  funext a
  match a with
  | ⟨0, _⟩ => exact Fin.ext (by show (((b.val * 8192 + s.val) * 8 + h.val) * 128 + d.val) / 8388608 = b.val; omega)
  | ⟨1, _⟩ => exact Fin.ext (by show (((b.val * 8192 + s.val) * 8 + h.val) * 128 + d.val) / 1024 % 8192 = s.val; omega)
  | ⟨2, _⟩ => exact Fin.ext (by show (((b.val * 8192 + s.val) * 8 + h.val) * 128 + d.val) % 1024 = 128 * h.val + d.val; omega)

/-- The values under the differential map, read off. -/
theorem r49 (b h : Fin 8) (s : Fin 8192) (e : Fin 128) :
    val_main_v49 (F := Ideal) x0 x1 x2 x3 (ix4 b s h e) = oref x0 x1 x2 x3 b h s e := by
  rw [val_main_v49_apply]
  have hi : idx_main_v49 (ix4 b s h e) = ix4 b h e s := by
    funext a
    match a with
    | ⟨0, _⟩ => rfl
    | ⟨1, _⟩ => rfl
    | ⟨2, _⟩ => rfl
    | ⟨3, _⟩ => rfl
  rw [hi, val_main_v48_apply]
  unfold oref
  refine Finset.sum_congr rfl fun x _ => ?_
  have hl : lidx_main_v48 (ix4 b h e s) x = ix4 b x h e := by
    funext a
    match a with
    | ⟨0, _⟩ => rfl
    | ⟨1, _⟩ => rfl
    | ⟨2, _⟩ => rfl
    | ⟨3, _⟩ => rfl
  have hr : ridx_main_v48 (ix4 b h e s) x = ix4 b h s x := by
    funext a
    match a with
    | ⟨0, _⟩ => rfl
    | ⟨1, _⟩ => rfl
    | ⟨2, _⟩ => rfl
    | ⟨3, _⟩ => rfl
  rw [hl, hr, val_main_v2_apply, split_hd, r47]

/-- The lanes of the result. -/
theorem merge_hd (b : Fin 8) (s : Fin 8192) (h : Fin 8) (d : Fin 128) : idx_main_v65 (ix3 b s (hd h d)) = ix4 b s h d := by
  have hb := b.isLt; have hs := s.isLt; have hh := h.isLt; have hk := d.isLt
  funext a
  match a with
  | ⟨0, _⟩ => exact Fin.ext (by show ((b.val * 8192 + s.val) * 1024 + (128 * h.val + d.val)) / 8388608 = b.val; omega)
  | ⟨1, _⟩ => exact Fin.ext (by show ((b.val * 8192 + s.val) * 1024 + (128 * h.val + d.val)) / 1024 % 8192 = s.val; omega)
  | ⟨2, _⟩ => exact Fin.ext (by show ((b.val * 8192 + s.val) * 1024 + (128 * h.val + d.val)) / 128 % 8 = h.val; omega)
  | ⟨3, _⟩ => exact Fin.ext (by show ((b.val * 8192 + s.val) * 1024 + (128 * h.val + d.val)) % 128 = d.val; omega)

/-- The result. -/
theorem r66 (b h : Fin 8) (s : Fin 8192) (d : Fin 128) :
    val_main_v66 (F := Ideal) x0 x1 x2 x3 x4 (ix3 b s (hd h d))
      = nrm (oref x0 x1 x2 x3 b h s) (10995116 / 1099511627776) (x4 (ix1 d)) (Ideal.ofBits .f32 0x3F4CCCCD#32) d := by
  rw [val_main_v66_apply, val_main_v65_apply, merge_hd, val_main_v64_apply, val_main_v62_apply, val_main_v59_apply, val_main_v58_apply,
    val_main_v57_apply, val_main_v56_apply, val_main_v54_apply, val_main_v52_apply, val_main_v53_apply, val_main_v55_apply,
    val_main_v61_apply, val_main_v60_apply, val_main_v63_apply, val_main_cst_8_apply, val_main_cst_9_apply, val_main_cst_10_apply,
    val_main_v51_apply, val_main_cst_7_apply, r49, Ideal.hostUnary_rsqrt_def]
  show oref x0 x1 x2 x3 b h s d * Ideal.rsqrt (Ideal.div (Ideal.ofBits .f32 0x00000000#32 + _) (Ideal.ofBits .f32 0x43000000#32)
    + Ideal.ofBits .f32 0x3727C5AC#32) * x4 _ * Ideal.ofBits .f32 0x3F4CCCCD#32 = _
  rw [Ideal.ofBits_zero_f32, zero_add, Cert.Lits.l128, Cert.Lits.leps]
  unfold nrm
  refine congrArg (· * Ideal.ofBits .f32 0x3F4CCCCD#32) (congrArg₂ (· * ·) (congrArg (oref x0 x1 x2 x3 b h s d * ·)
    (congrArg (fun z => Ideal.rsqrt (Ideal.div z ((128 : ℝ) : EReal) + ((10995116 / 1099511627776 : ℝ) : EReal))) ?_)) ?_)
  · refine Finset.sum_congr rfl fun e _ => ?_
    have hi : idx_main_v51 (idx_main_v52 (idx_main_v58 (ix4 b s h d))) e = ix4 b s h e := by
      funext a
      match a with
      | ⟨0, _⟩ => rfl
      | ⟨1, _⟩ => rfl
      | ⟨2, _⟩ => rfl
      | ⟨3, _⟩ => rfl
    rw [hi, val_main_v50_apply, r49]
    rfl
  · refine congrArg x4 ?_
    funext a
    match a with
    | ⟨0, _⟩ => rfl

end Cert.ReferenceIdeal.Hand
-- ==== Proof.Pay.lean ====
/-
  The attention body's pure values read at an index, at the ideal instance: scores, one step of the online softmax, the
  causal mask, the scaled and stacked queries.
-/
module

public import proofs.«01_k».proof.Proof.Steps
public import proofs.«01_k».proof.Proof.Soft
public import proofs.«01_k».proof.Proof.Lits
public import Idealize.ShloMosaic.Lib.ValueLayout
public import Idealize.ShloMosaic.Lib.Pipeline.Value
public import Idealize.ShloMosaic.Lib.KernelVsHost.SublaneAllReduce
public import Idealize.ShloMosaic.PureOps.IdealRules

@[expose] public section

set_option maxRecDepth 16384

noncomputable section

namespace Cert.KernelIdeal.Hand

open Cert.KernelIdeal Cert.KernelIdeal.Gen Cert.Soft
open Idealize.ShloMosaic Idealize.ShloMosaic.TcCoe Idealize.ShloMosaic.ValueIdx

/-- A column's index under the reduced rows. -/
theorem lift_col {m n : ℕ} (h : (⟨2, ![m, n]⟩ : Shape).Reduces [0] ⟨1, ![n]⟩) (t : Fin n)
    (k : Fin ((⟨2, ![m, n]⟩ : Shape).size 0)) : h.lift (ix1 t) k = ix2 (⟨k.val, k.isLt⟩ : Fin m) t := by
  funext a
  match a with
  | ⟨0, _⟩ => rfl
  | ⟨1, _⟩ => rfl

/-- A row's index under the reduced columns. -/
theorem lift_row {m n : ℕ} (h : (⟨2, ![m, n]⟩ : Shape).Reduces [1] ⟨1, ![m]⟩) (t : Fin m)
    (k : Fin ((⟨2, ![m, n]⟩ : Shape).size 1)) : h.lift (ix1 t) k = ix2 t (⟨k.val, k.isLt⟩ : Fin n) := by
  funext a
  match a with
  | ⟨0, _⟩ => rfl
  | ⟨1, _⟩ => rfl

/-- A column sum. -/
theorem colsum (x : FVec Ideal S512x1024 .f32) (c : Fin 1024) :
    multiReduction .add [0] S1024 x 0x00000000#32 reduces_S512x1024_S1024 (.inl rfl) rfl (ix1 c)
      = ∑ k : Fin 512, x (ix2 k c) := by
  refine (Ideal.multiReduction_add_single (a := (0 : Fin S512x1024.rank)) x _ reduces_S512x1024_S1024 _ _ (ix1 c)).trans ?_
  exact Finset.sum_congr rfl fun k _ => congrArg x (lift_col _ c k)

/-- A column maximum. -/
theorem colmax (x : FVec Ideal S512x1024 .f32) (c : Fin 1024) :
    multiReduction .maximumf [0] S1024 x 0xFF800000#32 reduces_S512x1024_S1024 (.inl rfl) rfl (ix1 c)
      = (Finset.univ : Finset (Fin 512)).sup fun k => x (ix2 k c) := by
  refine (Ideal.multiReduction_maximumf_single (a := (0 : Fin S512x1024.rank)) x _ reduces_S512x1024_S1024 _ _ (ix1 c)).trans ?_
  have hf : (x ∘ reduces_S512x1024_S1024.lift (ix1 c)) = fun k : Fin 512 => x (ix2 k c) :=
    funext fun k => congrArg x (lift_col _ c k)
  rw [hf]
  show Finset.fold max (Ideal.ofBits .f32 0xFF800000#32) _ _ = _
  rw [Cert.Lits.lbot]
  rfl

/-- The scores' matrix product. -/
theorem dotS (x : FVec Ideal S512x128 .bf16) (y : FVec Ideal S1024x128 .bf16) (k : Fin 512) (c : Fin 1024) :
    matmul dot_S512x128_S1024x128_S512x1024_1_1_0_0_n_n none x y (constant S512x1024 .f32 0x00000000#32) (ix2 k c)
      = ∑ i : Fin 128, x (ix2 k i) * y (ix2 c i) := by
  simp only [matmul]
  rw [Ideal.matmul_constant_zero_apply]
  rw [← Equiv.sum_comp (ValueIdx.contrEquiv1 dot_S512x128_S1024x128_S512x1024_1_1_0_0_n_n 128 rfl rfl).symm]
  refine Finset.sum_congr rfl fun i _ => ?_
  have hk := ValueIdx.contrEquiv1_symm_val dot_S512x128_S1024x128_S512x1024_1_1_0_0_n_n 128 rfl rfl i
  refine congrArg₂ (· * ·) (congrArg x ?_) (congrArg y ?_)
  · funext a
    match a with
    | ⟨0, _⟩ => rfl
    | ⟨1, _⟩ => exact Fin.ext hk
  · funext a
    match a with
    | ⟨0, _⟩ => rfl
    | ⟨1, _⟩ => exact Fin.ext hk

/-- The accumulator's matrix product. -/
theorem dotV (x : FVec Ideal S128x512 .bf16) (y : FVec Ideal S512x1024 .bf16) (d : Fin 128) (c : Fin 1024) :
    matmul dot_S128x512_S512x1024_S128x1024_1_0_0_1_n_n none x y (constant S128x1024 .f32 0x00000000#32) (ix2 d c)
      = ∑ k : Fin 512, x (ix2 d k) * y (ix2 k c) := by
  simp only [matmul]
  rw [Ideal.matmul_constant_zero_apply]
  rw [← Equiv.sum_comp (ValueIdx.contrEquiv1 dot_S128x512_S512x1024_S128x1024_1_0_0_1_n_n 512 rfl rfl).symm]
  refine Finset.sum_congr rfl fun i _ => ?_
  have hk := ValueIdx.contrEquiv1_symm_val dot_S128x512_S512x1024_S128x1024_1_0_0_1_n_n 512 rfl rfl i
  refine congrArg₂ (· * ·) (congrArg x ?_) (congrArg y ?_)
  · funext a
    match a with
    | ⟨0, _⟩ => rfl
    | ⟨1, _⟩ => exact Fin.ext hk
  · funext a
    match a with
    | ⟨0, _⟩ => exact Fin.ext hk
    | ⟨1, _⟩ => rfl

/-- A score of a key block. -/
theorem sc_apply (q : FVec Ideal S1024x128 .bf16) (kb : Vec Ideal S1x512x128 .bf16) (k : Fin 512) (c : Fin 1024) :
    sc q kb (ix3 0 k c) = ∑ i : Fin 128, kb (ix3 0 k i) * q (ix2 c i) := by
  unfold sc k0_pay2
  refine (shapeCast_ab_1ab_apply _ _ 0 k c).trans ?_
  rw [dotS]
  exact Finset.sum_congr rfl fun i _ => congrArg (· * q (ix2 c i)) (shapeCast_1ab_ab_apply kb _ k i)

/-- A block of scores as a matrix. -/
theorem pay3_apply (s : Vec Ideal S1x512x1024 .f32) (k : Fin 512) (c : Fin 1024) : k0_pay3 s (ix2 k c) = s (ix3 0 k c) :=
  shapeCast_1ab_ab_apply s _ k c

/-- The new maximum. -/
theorem pay4_apply (m : FVec Ideal S1x1024 .f32) (s : Vec Ideal S1x512x1024 .f32) (c : Fin 1024) :
    k0_pay4 m s (ix2 0 c) = max (m (ix2 0 c)) ((Finset.univ : Finset (Fin 512)).sup fun k => s (ix3 0 k c)) := by
  unfold k0_pay4
  show max (m (ix2 0 c)) (shapeCast S1x1024 _ _ (ix2 0 c)) = _
  refine congrArg (max (m (ix2 0 c))) ?_
  refine (shapeCast_a_1a_apply _ _ 0 c).trans ?_
  rw [colmax]
  exact congrArg _ (funext fun k => pay3_apply s k c)

/-- The factor the old sums are scaled by. -/
theorem pay5_apply (m : FVec Ideal S1x1024 .f32) (s : Vec Ideal S1x512x1024 .f32) (c : Fin 1024) :
    k0_pay5 m s (ix2 0 c) = Ideal.exp2 (m (ix2 0 c) - k0_pay4 m s (ix2 0 c)) := rfl

/-- The block's weights. -/
theorem pay6_apply (m : FVec Ideal S1x1024 .f32) (s : Vec Ideal S1x512x1024 .f32) (k : Fin 512) (c : Fin 1024) :
    k0_pay6 m s (ix2 k c) = Ideal.exp2 (s (ix3 0 k c) - k0_pay4 m s (ix2 0 c)) := by
  unfold k0_pay6
  show Ideal.exp2 (k0_pay3 s (ix2 k c) - broadcastTo S512x1024 (k0_pay4 m s) _ (ix2 k c)) = _
  rw [pay3_apply]
  exact congrArg (fun z => Ideal.exp2 (s (ix3 0 k c) - z)) (broadcastTo_1b_ab_apply _ _ k c)

/-- The new sum of weights. -/
theorem pay7_apply (m l : FVec Ideal S1x1024 .f32) (s : Vec Ideal S1x512x1024 .f32) (c : Fin 1024) :
    k0_pay7 m l s (ix2 0 c) = Ideal.exp2 (m (ix2 0 c) - k0_pay4 m s (ix2 0 c)) * l (ix2 0 c)
      + ∑ k : Fin 512, Ideal.exp2 (s (ix3 0 k c) - k0_pay4 m s (ix2 0 c)) := by
  unfold k0_pay7
  show k0_pay5 m s (ix2 0 c) * l (ix2 0 c) + shapeCast S1x1024 _ _ (ix2 0 c) = _
  rw [pay5_apply]
  refine congrArg (Ideal.exp2 (m (ix2 0 c) - k0_pay4 m s (ix2 0 c)) * l (ix2 0 c) + ·) ?_
  refine (shapeCast_a_1a_apply _ _ 0 c).trans ?_
  rw [colsum]
  exact Finset.sum_congr rfl fun k _ => pay6_apply m s k c

/-- The position of an element of a value block without its unit axes. -/
theorem vcast_apply (v : Vec Ideal S1x1x1x128x512 .bf16) (d : Fin 128) (k : Fin 512) :
    shapeCast S128x512 v shapeCasts_S1x1x1x128x512_S128x512 (ix2 d k) = v (ix5 0 0 0 d k) :=
  shapeCast_apply v _ _ _ (by
    rw [Shape.rowMajor_val_five, Shape.rowMajor_val_two]
    show (((0 * 1 + 0) * 1 + 0) * 128 + d.val) * 512 + k.val = d.val * 512 + k.val
    omega)

/-- The new accumulator. -/
theorem pay8_apply (m : FVec Ideal S1x1024 .f32) (acc : FVec Ideal S128x1024 .f32) (s : Vec Ideal S1x512x1024 .f32)
    (v : Vec Ideal S1x1x1x128x512 .bf16) (d : Fin 128) (c : Fin 1024) :
    k0_pay8 m acc s v (ix2 d c) = Ideal.exp2 (m (ix2 0 c) - k0_pay4 m s (ix2 0 c)) * acc (ix2 d c)
      + ∑ k : Fin 512, v (ix5 0 0 0 d k) * Ideal.exp2 (s (ix3 0 k c) - k0_pay4 m s (ix2 0 c)) := by
  unfold k0_pay8
  show broadcastTo S128x1024 (k0_pay5 m s) _ (ix2 d c) * acc (ix2 d c) + matmul _ none _ _ _ (ix2 d c) = _
  refine congrArg₂ (· + ·) (congrArg (· * acc (ix2 d c)) (broadcastTo_1b_ab_apply _ _ d c)) ?_
  rw [dotV]
  refine Finset.sum_congr rfl fun k _ => ?_
  rw [vcast_apply]
  exact congrArg (v (ix5 0 0 0 d k) * ·) (pay6_apply m s k c)

/-- A block of scores under the causal mask of query block `n`. -/
def msk (n : BitVec 32) (s : Vec Ideal S1x512x1024 .f32) : Vec Ideal S1x512x1024 .f32 :=
  shapeCast S1x512x1024 (k0_pay50 n n s) shapeCasts_S512x1024_S1x512x1024

theorem pay3_msk (n : BitVec 32) (s : Vec Ideal S1x512x1024 .f32) : k0_pay3 (msk n s) = k0_pay50 n n s := by
  unfold msk k0_pay3
  generalize k0_pay50 n n s = y
  exact shapeCast_shapeCast y _ _

/-- The masked step is the step on the masked scores. -/
theorem pay51_eq (n : BitVec 32) (m : FVec Ideal S1x1024 .f32) (s : Vec Ideal S1x512x1024 .f32) :
    k0_pay51 n n m s = k0_pay4 m (msk n s) := by
  unfold k0_pay51 k0_pay4
  rw [pay3_msk]

theorem pay52_eq (n : BitVec 32) (m : FVec Ideal S1x1024 .f32) (s : Vec Ideal S1x512x1024 .f32) :
    k0_pay52 n n m s = k0_pay5 m (msk n s) := by
  unfold k0_pay52 k0_pay5
  rw [pay51_eq]

theorem pay53_eq (n : BitVec 32) (m : FVec Ideal S1x1024 .f32) (s : Vec Ideal S1x512x1024 .f32) :
    k0_pay53 n n m s = k0_pay6 m (msk n s) := by
  unfold k0_pay53 k0_pay6
  rw [pay51_eq, pay3_msk]

theorem pay54_eq (n : BitVec 32) (m l : FVec Ideal S1x1024 .f32) (s : Vec Ideal S1x512x1024 .f32) :
    k0_pay54 n n m l s = k0_pay7 m l (msk n s) := by
  unfold k0_pay54 k0_pay7
  rw [pay52_eq, pay53_eq]

theorem pay55_eq (n : BitVec 32) (m : FVec Ideal S1x1024 .f32) (acc : FVec Ideal S128x1024 .f32)
    (s : Vec Ideal S1x512x1024 .f32) (v : Vec Ideal S1x1x1x128x512 .bf16) :
    k0_pay55 n n m acc s v = k0_pay8 m acc (msk n s) v := by
  unfold k0_pay55 k0_pay8
  rw [pay52_eq, pay53_eq]

end Cert.KernelIdeal.Hand
-- ==== Proof.Mask.lean ====
/-
  The causal mask and the scaled, stacked queries of the attention body read at an index, and the scores they give: one
  column is a query row under one of the two attention maps, which sees its own 64 lanes of the keys.
-/
module

public import proofs.«01_k».proof.Proof.Pay
public import Idealize.ShloMosaic.Lib.Pipeline.ValueKit.Tiles

@[expose] public section

set_option maxRecDepth 16384

noncomputable section

namespace Cert.KernelIdeal.Hand

open Cert.KernelIdeal Cert.KernelIdeal.Gen Cert.Soft
open Idealize.ShloMosaic Idealize.ShloMosaic.TcCoe Idealize.ShloMosaic.ValueIdx

/-- A small word's signed value. -/
theorem toInt_small (a : ℕ) (h : a < 2 ^ 31) : (BitVec.ofNat 32 a).toInt = (a : ℤ) := by
  rw [BitVec.toInt_eq_toNat_of_lt (by rw [BitVec.toNat_ofNat]; omega), BitVec.toNat_ofNat]
  omega

/-- Small words compare as their values. -/
theorem sle_small (a b : ℕ) (ha : a < 2 ^ 31) (hb : b < 2 ^ 31) :
    IntOp.cmpi .sle (BitVec.ofNat 32 a) (BitVec.ofNat 32 b) = if a ≤ b then 1#1 else 0#1 := by
  show BitVec.ofBool (decide ((BitVec.ofNat 32 a).toInt ≤ (BitVec.ofNat 32 b).toInt)) = _
  rw [toInt_small a ha, toInt_small b hb]
  by_cases h : a ≤ b
  · rw [if_pos h, decide_eq_true (by omega)]; rfl
  · rw [if_neg h, decide_eq_false (by omega)]; rfl

theorem sge_small (a b : ℕ) (ha : a < 2 ^ 31) (hb : b < 2 ^ 31) :
    IntOp.cmpi .sge (BitVec.ofNat 32 a) (BitVec.ofNat 32 b) = if b ≤ a then 1#1 else 0#1 :=
  sle_small b a hb ha

theorem slt_small (a b : ℕ) (ha : a < 2 ^ 31) (hb : b < 2 ^ 31) :
    IntOp.cmpi .slt (BitVec.ofNat 32 a) (BitVec.ofNat 32 b) = if a < b then 1#1 else 0#1 := by
  show BitVec.ofBool (decide ((BitVec.ofNat 32 a).toInt < (BitVec.ofNat 32 b).toInt)) = _
  rw [toInt_small a ha, toInt_small b hb]
  by_cases h : a < b
  · rw [if_pos h, decide_eq_true (by omega)]; rfl
  · rw [if_neg h, decide_eq_false (by omega)]; rfl

/-- Column `r` of map `p`. -/
def col (p : Fin 2) (r : Fin 512) : Fin 1024 := ⟨512 * p.val + r.val, by have := p.isLt; have := r.isLt; omega⟩

/-- The two positions the mask compares, as words. -/
theorem mask_word (n : ℕ) (hn : n < 16) (k : Fin 512) (p : Fin 2) (r : Fin 512) :
    IntOp.cmpi .sle (IntOp.addi (Scalar.muli (BitVec.ofNat 32 n) 512#32) (BitVec.ofNat 32 k.val))
      (IntOp.addi (Scalar.muli (BitVec.ofNat 32 n) 512#32)
        (Scalar.select (IntOp.cmpi .sge (BitVec.ofNat 32 (col p r).val) 512#32)
          (IntOp.subi (BitVec.ofNat 32 (col p r).val) 512#32) (BitVec.ofNat 32 (col p r).val)))
      = if k.val ≤ r.val then 1#1 else 0#1 := by
  have hk := k.isLt
  have hr := r.isLt
  have e1 : IntOp.addi (Scalar.muli (BitVec.ofNat 32 n) 512#32) (BitVec.ofNat 32 k.val) = BitVec.ofNat 32 (n * 512 + k.val) := by
    show BitVec.ofNat 32 n * BitVec.ofNat 32 512 + BitVec.ofNat 32 k.val = _
    rw [← BitVec.ofNat_mul, ← BitVec.ofNat_add]
  have e2 : Scalar.select (IntOp.cmpi .sge (BitVec.ofNat 32 (col p r).val) 512#32)
          (IntOp.subi (BitVec.ofNat 32 (col p r).val) 512#32) (BitVec.ofNat 32 (col p r).val) = BitVec.ofNat 32 r.val := by
    rw [show (512#32 : BitVec 32) = BitVec.ofNat 32 512 from rfl,
      sge_small _ _ (by have := (col p r).isLt; omega) (by norm_num)]
    match p with
    | ⟨0, _⟩ =>
      rw [if_neg (by show ¬ 512 ≤ 512 * 0 + r.val; omega), select_zero]
      show BitVec.ofNat 32 (512 * 0 + r.val) = _
      rw [Nat.mul_zero, Nat.zero_add]
    | ⟨1, _⟩ =>
      rw [if_pos (by show 512 ≤ 512 * 1 + r.val; omega), select_one]
      show BitVec.ofNat 32 (512 * 1 + r.val) - BitVec.ofNat 32 512 = _
      apply BitVec.eq_of_toNat_eq
      rw [BitVec.toNat_sub, BitVec.toNat_ofNat, BitVec.toNat_ofNat, BitVec.toNat_ofNat]
      omega
  have e3 : IntOp.addi (Scalar.muli (BitVec.ofNat 32 n) 512#32) (BitVec.ofNat 32 r.val) = BitVec.ofNat 32 (n * 512 + r.val) := by
    show BitVec.ofNat 32 n * BitVec.ofNat 32 512 + BitVec.ofNat 32 r.val = _
    rw [← BitVec.ofNat_mul, ← BitVec.ofNat_add]
  rw [e1, e2, e3, sle_small _ _ (by omega) (by omega)]
  by_cases h : k.val ≤ r.val
  · rw [if_pos h, if_pos (by omega)]
  · rw [if_neg h, if_neg (by omega)]

/-- The named mask value is the lowest extended real. -/
theorem mask_bot : (Named.named (F := Ideal) (φ := .f32) κ "mask" 0xF149F2CA#32 : EReal) = ⊥ :=
  IdealRules.named_const.ideal_named_scalar (φ := .f32) κ "mask" 0xF149F2CA#32 ⊥ rfl

/-- The named query scale. -/
theorem scale_cq : (Named.named (F := Ideal) (φ := .f32) κ "q_scale" 0x3E38AA3B#32 : EReal) = (cq : EReal) :=
  IdealRules.named_const.ideal_named_scalar (φ := .f32) κ "q_scale" 0x3E38AA3B#32 ((cq : ℝ) : EReal) (by
    unfold cq κ
    norm_num)

/-- The masked score. -/
theorem msk_apply (n : ℕ) (hn : n < 16) (s : Vec Ideal S1x512x1024 .f32) (k : Fin 512) (p : Fin 2) (r : Fin 512) :
    msk (BitVec.ofNat 32 n) s (ix3 0 k (col p r)) = if k.val ≤ r.val then s (ix3 0 k (col p r)) else ⊥ := by
  unfold msk
  refine (shapeCast_ab_1ab_apply _ _ 0 k (col p r)).trans ?_
  unfold k0_pay50
  show Scalar.select (IntOp.cmpi .sle (IntOp.addi _ (iota .tc S512x1024 32 [0] _ (ix2 k (col p r))))
    (IntOp.addi _ (Scalar.select (IntOp.cmpi .sge (iota .tc S512x1024 32 [1] _ (ix2 k (col p r))) _)
      (IntOp.subi (iota .tc S512x1024 32 [1] _ (ix2 k (col p r))) _) (iota .tc S512x1024 32 [1] _ (ix2 k (col p r))))))
    (shapeCast S512x1024 s _ (ix2 k (col p r))) (Named.named (F := Ideal) (φ := .f32) κ "mask" 0xF149F2CA#32) = _
  rw [iota_single_apply, iota_single_apply, mask_bot]
  have hw := mask_word n hn k p r
  refine (congrArg (fun w => Scalar.select w (shapeCast S512x1024 s _ (ix2 k (col p r))) (⊥ : EReal)) hw).trans ?_
  by_cases h : k.val ≤ r.val
  · rw [if_pos h, if_pos h]
    exact shapeCast_1ab_ab_apply s _ k (col p r)
  · rw [if_neg h, if_neg h]
    rfl

/-- The stacked queries: map `p` keeps its own 64 lanes, scaled. -/
theorem pay25_apply (q : Vec Ideal S1x512x128 .bf16) (p : Fin 2) (r : Fin 512) (i : Fin 128) :
    k0_pay25 q (ix2 (col p r) i) = if i.val / 64 = p.val then q (ix3 0 r i) * (cq : EReal) else 0 := by
  have hi := i.isLt
  have hq : shapeCast S512x128 q shapeCasts_S1x512x128_S512x128 (ix2 r i) * (Named.named (F := Ideal) (φ := .f32) κ "q_scale" 0x3E38AA3B#32 : EReal)
      = q (ix3 0 r i) * (cq : EReal) := by
    rw [scale_cq]
    exact congrArg (· * (cq : EReal)) (shapeCast_1ab_ab_apply q _ r i)
  unfold k0_pay25
  match p with
  | ⟨0, hp⟩ =>
    refine (concatenate_pair_apply_left (t := S1024x128) (s₁ := S512x128) (s₂ := S512x128) 0 _ _ _ (ix2 (col ⟨0, hp⟩ r) i) rfl (ix2 r i) (fun b => match b with
      | ⟨0, _⟩ => (by show r.val = 512 * 0 + r.val; omega)
      | ⟨1, _⟩ => rfl)).trans ?_
    show Scalar.select (IntOp.cmpi .slt (iota .tc S512x128 32 [1] _ (ix2 r i)) (BitVec.ofNat 32 64))
      (shapeCast S512x128 q _ (ix2 r i) * (Named.named (F := Ideal) (φ := .f32) κ "q_scale" 0x3E38AA3B#32 : EReal)) (Ideal.ofBits .bf16 0x0000#16) = _
    rw [iota_single_apply, hq, Cert.Lits.lzero16]
    refine (congrArg (fun w => Scalar.select w (q (ix3 0 r i) * (cq : EReal)) (0 : EReal))
      (slt_small i.val 64 (by omega) (by norm_num))).trans ?_
    by_cases h : i.val < 64
    · rw [if_pos h, if_pos (by show i.val / 64 = 0; omega)]; rfl
    · rw [if_neg h, if_neg (by show ¬ i.val / 64 = 0; omega)]; rfl
  | ⟨1, hp⟩ =>
    refine (concatenate_pair_apply_right (t := S1024x128) (s₁ := S512x128) (s₂ := S512x128) 0 _ _ _ (ix2 (col ⟨1, hp⟩ r) i) rfl rfl (ix2 r i) (fun b => match b with
      | ⟨0, _⟩ => fun hb => absurd rfl hb
      | ⟨1, _⟩ => fun _ => rfl) (by show r.val + 512 = 512 * 1 + r.val; omega)).trans ?_
    show Scalar.select (IntOp.cmpi .sge (iota .tc S512x128 32 [1] _ (ix2 r i)) (BitVec.ofNat 32 64))
      (shapeCast S512x128 q _ (ix2 r i) * (Named.named (F := Ideal) (φ := .f32) κ "q_scale" 0x3E38AA3B#32 : EReal)) (Ideal.ofBits .bf16 0x0000#16) = _
    rw [iota_single_apply, hq, Cert.Lits.lzero16]
    refine (congrArg (fun w => Scalar.select w (q (ix3 0 r i) * (cq : EReal)) (0 : EReal))
      (sge_small i.val 64 (by omega) (by norm_num))).trans ?_
    by_cases h : 64 ≤ i.val
    · rw [if_pos h, if_pos (by show i.val / 64 = 1; omega)]; rfl
    · rw [if_neg h, if_neg (by show ¬ i.val / 64 = 1; omega)]; rfl

/-- Lane `j` of map `p`. -/
def lane (p : Fin 2) (j : Fin 64) : Fin 128 := ⟨64 * p.val + j.val, by have := p.isLt; have := j.isLt; omega⟩

/-- A sum over 128 lanes with only map `p`'s lanes present. -/
theorem sum_lane (p : Fin 2) (g : Fin 128 → EReal) (h : ∀ i : Fin 128, i.val / 64 ≠ p.val → g i = 0) :
    ∑ i : Fin 128, g i = ∑ j : Fin 64, g (lane p j) := by
  refine (Finset.sum_of_injOn (lane p) ?_ (fun _ _ => Finset.mem_coe.2 (Finset.mem_univ _)) ?_ (fun _ _ => rfl)).symm
  · intro a _ b _ hab
    have := congrArg Fin.val hab
    exact Fin.ext (by show a.val = b.val; have h' : 64 * p.val + a.val = 64 * p.val + b.val := this; omega)
  · intro i _ hi
    refine h i fun hp => hi ⟨⟨i.val % 64, Nat.mod_lt _ (by norm_num)⟩, Finset.mem_coe.2 (Finset.mem_univ _), Fin.ext ?_⟩
    show 64 * p.val + i.val % 64 = i.val
    omega

/-- A positive real factor comes out of a sum of extended reals. -/
theorem mul_sum_pos {ι : Type} (s : Finset ι) (a : ℝ) (ha : 0 ≤ a) (g : ι → EReal) :
    (a : EReal) * ∑ i ∈ s, g i = ∑ i ∈ s, (a : EReal) * g i := by
  classical
  induction s using Finset.induction_on with
  | empty => simp
  | insert x s hx ih =>
    rw [Finset.sum_insert hx, Finset.sum_insert hx,
      EReal.left_distrib_of_nonneg_of_ne_top (by exact_mod_cast ha) (EReal.coe_ne_top a), ih]

/-- A score, unscaled: query row `r` against key row `x`, on map `p`'s lanes. -/
def tsc (q : Vec Ideal S1x512x128 .bf16) (xk : Vec Ideal S1x8192x128 .bf16) (p : Fin 2) (r : Fin 512) (x : ℕ) : EReal :=
  ∑ j : Fin 64, q (ix3 0 r (lane p j)) * xk (ix3 0 ⟨x % 8192, Nat.mod_lt _ (by norm_num)⟩ (lane p j))

/-- A key block's element. -/
theorem kblk_apply (xk : Vec Ideal S1x8192x128 .bf16) (j : ℕ) (hj : j < 16) (k : Fin 512) (i : Fin 128) :
    kblk xk j (ix3 0 k i) = xk (ix3 0 ⟨(512 * j + k.val) % 8192, Nat.mod_lt _ (by norm_num)⟩ i) := by
  have hk := k.isLt
  unfold kblk
  refine View.ld_unit_apply_of xk _ _ _ (ix3 0 k i) _ fun a => ?_
  match a with
  | ⟨0, _⟩ => rfl
  | ⟨1, _⟩ => show (512 * j + k.val) % 8192 = 512 * (j % 16) + k.val; omega
  | ⟨2, _⟩ => show i.val = 0 + i.val; omega

/-- A value block's element. -/
theorem vblk_apply (xv : Vec Ideal S1x1x16x128x512 .bf16) (j : ℕ) (hj : j < 16) (d : Fin 128) (k : Fin 512) :
    vblk xv j (ix5 0 0 0 d k) = xv (ix5 0 0 ⟨j, hj⟩ d k) := by
  unfold vblk
  refine View.ld_unit_apply_of xv _ _ _ (ix5 0 0 0 d k) _ fun a => ?_
  match a with
  | ⟨0, _⟩ => rfl
  | ⟨1, _⟩ => rfl
  | ⟨2, _⟩ => show j = j % 16 + 0; omega
  | ⟨3, _⟩ => show d.val = 0 + d.val; omega
  | ⟨4, _⟩ => show k.val = 0 + k.val; omega

/-- The score of key `k` of block `j` in column `r` of map `p`. -/
theorem score (q : Vec Ideal S1x512x128 .bf16) (xk : Vec Ideal S1x8192x128 .bf16) (j : ℕ) (hj : j < 16) (p : Fin 2) (r k : Fin 512) :
    sc (k0_pay25 q) (kblk xk j) (ix3 0 k (col p r)) = (cq : EReal) * tsc q xk p r (512 * j + k.val) := by
  rw [sc_apply, sum_lane p _ fun i hi => by rw [pay25_apply, if_neg hi, mul_zero]]
  unfold tsc
  rw [mul_sum_pos _ _ cq_pos.le]
  refine Finset.sum_congr rfl fun i _ => ?_
  rw [pay25_apply, if_pos (by
    have := i.isLt
    show (64 * p.val + i.val) / 64 = p.val
    omega), kblk_apply xk j hj]
  rw [mul_comm (q _) (cq : EReal), mul_left_comm, mul_comm (xk _) (q _)]

end Cert.KernelIdeal.Hand
-- ==== Proof.Column.lean ====
/-
  What the attention body carries in one column — the running maximum, the running sum of weights and the running
  weighted values of one query row under one map —, and the block it stores, read at an index.
-/
module

public import proofs.«01_k».proof.Proof.Mask
public import proofs.«01_k».proof.Proof.Comb
public import proofs.«01_k».proof.Proof.Spec

@[expose] public section

set_option maxRecDepth 16384

noncomputable section

namespace Cert.KernelIdeal.Hand

open Cert.KernelIdeal Cert.KernelIdeal.Gen Cert.Soft
open Idealize.ShloMosaic Idealize.ShloMosaic.TcCoe Idealize.ShloMosaic.ValueIdx

/-- The maxima after a step, when the block's scores are the next 512 of `f`. -/
theorem step_m (f : ℕ → EReal) (j : ℕ) (m : FVec Ideal S1x1024 .f32) (s : Vec Ideal S1x512x1024 .f32) (c : Fin 1024)
    (hm : m (ix2 0 c) = mx f j) (hs : ∀ k : Fin 512, s (ix3 0 k c) = f (512 * j + k.val)) :
    k0_pay4 m s (ix2 0 c) = mx f (j + 1) := by
  rw [pay4_apply, hm, ← mx_succ f j]
  exact congrArg (max (mx f j)) (Finset.sup_congr rfl fun k _ => hs k)

/-- The sums after a step. -/
theorem step_l (f : ℕ → EReal) (j : ℕ) (m l : FVec Ideal S1x1024 .f32) (s : Vec Ideal S1x512x1024 .f32) (c : Fin 1024)
    (hm : m (ix2 0 c) = mx f j) (hl : l (ix2 0 c) = ((sm f (fun _ => 1) j : ℝ) : EReal))
    (hs : ∀ k : Fin 512, s (ix3 0 k c) = f (512 * j + k.val)) :
    k0_pay7 m l s (ix2 0 c) = ((sm f (fun _ => 1) (j + 1) : ℝ) : EReal) := by
  rw [pay7_apply, step_m f j m s c hm hs, hm, hl, ← sm_succ_one f j]
  refine congrArg (_ + ·) (Finset.sum_congr rfl fun k _ => ?_)
  rw [hs k]

/-- The accumulator after a step. -/
theorem step_a (f : ℕ → EReal) (w : ℕ → ℝ) (j : ℕ) (m : FVec Ideal S1x1024 .f32) (acc : FVec Ideal S128x1024 .f32)
    (s : Vec Ideal S1x512x1024 .f32) (v : Vec Ideal S1x1x1x128x512 .bf16) (c : Fin 1024) (d : Fin 128)
    (hm : m (ix2 0 c) = mx f j) (ha : acc (ix2 d c) = ((sm f w j : ℝ) : EReal))
    (hs : ∀ k : Fin 512, s (ix3 0 k c) = f (512 * j + k.val))
    (hv : ∀ k : Fin 512, v (ix5 0 0 0 d k) = ((w (512 * j + k.val) : ℝ) : EReal)) :
    k0_pay8 m acc s v (ix2 d c) = ((sm f w (j + 1) : ℝ) : EReal) := by
  rw [pay8_apply, step_m f j m s c hm hs, hm, ha, ← sm_succ f w j]
  refine congrArg (_ + ·) (Finset.sum_congr rfl fun k _ => ?_)
  rw [hs k, hv k]

/-- The scaled scores a query row sees: those of the keys up to its own position. -/
def fs (n : ℕ) (q : Vec Ideal S1x512x128 .bf16) (xk : Vec Ideal S1x8192x128 .bf16) (p : Fin 2) (r : Fin 512) (x : ℕ) : EReal :=
  if x ≤ 512 * n + r.val then (cq : EReal) * tsc q xk p r x else ⊥

/-- What is carried after the unmasked blocks below query block `n`. -/
theorem fold_col (n : ℕ) (hn : n < 16) (q : Vec Ideal S1x512x128 .bf16) (xk : Vec Ideal S1x8192x128 .bf16)
    (xv : Vec Ideal S1x1x16x128x512 .bf16) (w : Fin 128 → ℕ → ℝ)
    (hw : ∀ (a : Fin 16) (d : Fin 128) (k : Fin 512), xv (ix5 0 0 a d k) = ((w d (512 * a.val + k.val) : ℝ) : EReal))
    (p : Fin 2) (r : Fin 512) (j : ℕ) (hj : j ≤ n) :
    (fold (k0_pay25 q) xk xv j).1 (ix2 0 (col p r)) = mx (fs n q xk p r) j
      ∧ (fold (k0_pay25 q) xk xv j).2.1 (ix2 0 (col p r)) = ((sm (fs n q xk p r) (fun _ => 1) j : ℝ) : EReal)
      ∧ ∀ d, (fold (k0_pay25 q) xk xv j).2.2 (ix2 d (col p r)) = ((sm (fs n q xk p r) (w d) j : ℝ) : EReal) := by
  induction j with
  | zero =>
    refine ⟨mask_bot, ?_, fun d => ?_⟩
    · rw [sm_zero]; exact Ideal.ofBits_zero_f32
    · rw [sm_zero]; exact Ideal.ofBits_zero_f32
  | succ j ih =>
    obtain ⟨h1, h2, h3⟩ := ih (by omega)
    have hs : ∀ k : Fin 512, sc (k0_pay25 q) (kblk xk j) (ix3 0 k (col p r)) = fs n q xk p r (512 * j + k.val) := fun k => by
      have := k.isLt
      rw [score q xk j (by omega)]
      unfold fs
      rw [if_pos (by omega)]
    rw [fold_succ]
    unfold upd
    refine ⟨step_m _ j _ _ _ h1 hs, step_l _ j _ _ _ _ h1 h2 hs, fun d => step_a _ (w d) j _ _ _ _ _ d h1 (h3 d) hs fun k => ?_⟩
    rw [vblk_apply xv j (by omega), hw]

/-- The sums and the accumulator after query block `n`'s masked step. -/
theorem last_col (n : ℕ) (hn : n < 16) (q : Vec Ideal S1x512x128 .bf16) (xk : Vec Ideal S1x8192x128 .bf16)
    (xv : Vec Ideal S1x1x16x128x512 .bf16) (w : Fin 128 → ℕ → ℝ)
    (hw : ∀ (a : Fin 16) (d : Fin 128) (k : Fin 512), xv (ix5 0 0 a d k) = ((w d (512 * a.val + k.val) : ℝ) : EReal))
    (p : Fin 2) (r : Fin 512) :
    (last n (k0_pay25 q) xk xv).1 (ix2 0 (col p r)) = ((sm (fs n q xk p r) (fun _ => 1) (n + 1) : ℝ) : EReal)
      ∧ ∀ d, (last n (k0_pay25 q) xk xv).2 (ix2 d (col p r)) = ((sm (fs n q xk p r) (w d) (n + 1) : ℝ) : EReal) := by
  obtain ⟨h1, h2, h3⟩ := fold_col n hn q xk xv w hw p r n le_rfl
  have hs : ∀ k : Fin 512, msk (BitVec.ofNat 32 n) (sc (k0_pay25 q) (kblk xk n)) (ix3 0 k (col p r))
      = fs n q xk p r (512 * n + k.val) := fun k => by
    rw [msk_apply n hn, score q xk n hn]
    unfold fs
    by_cases h : k.val ≤ r.val
    · rw [if_pos h, if_pos (by omega)]
    · rw [if_neg h, if_neg (by omega)]
  unfold last updM
  refine ⟨?_, fun d => ?_⟩
  · show k0_pay54 _ _ _ _ _ (ix2 0 (col p r)) = _
    rw [pay54_eq]
    exact step_l _ n _ _ _ _ h1 h2 hs
  · show k0_pay55 _ _ _ _ _ _ (ix2 d (col p r)) = _
    rw [pay55_eq]
    refine step_a _ (w d) n _ _ _ _ _ d h1 (h3 d) hs fun k => ?_
    rw [vblk_apply xv n hn, hw]

/-- A column sum over 128 rows. -/
theorem colsum' (x : FVec Ideal S128x512 .f32) (c : Fin 512) :
    multiReduction .add [0] S512 x 0x00000000#32 reduces_S128x512_S512 (.inl rfl) rfl (ix1 c) = ∑ e : Fin 128, x (ix2 e c) := by
  refine (Ideal.multiReduction_add_single (a := (0 : Fin S128x512.rank)) x _ reduces_S128x512_S512 _ _ (ix1 c)).trans ?_
  exact Finset.sum_congr rfl fun k _ => congrArg x (lift_col _ c k)

/-- The quotient of the accumulator and the sums. -/
theorem pay58_apply (l : FVec Ideal S1x1024 .f32) (a : FVec Ideal S128x1024 .f32) (d : Fin 128) (c : Fin 1024) :
    k0_pay58 l a (ix2 d c) = Ideal.div (a (ix2 d c)) (l (ix2 0 c)) := by
  unfold k0_pay58
  show Ideal.div (a (ix2 d c)) (broadcastTo S128x1024 l _ (ix2 d c)) = _
  exact congrArg (Ideal.div _) (broadcastTo_1b_ab_apply l _ d c)

/-- The difference of the two maps. -/
theorem diff_apply (lam : FVec Ideal S1x1 .f32) (o : FVec Ideal S128x1024 .f32) (e : Fin 128) (r : Fin 512) :
    (subf (extractStridedSlice S128x512 ![0, 0] o slices_S128x1024_o0_0_S128x512)
      (mulf (broadcastTo S128x512 lam broadcasts_S1x1_S128x512) (extractStridedSlice S128x512 ![0, 512] o slices_S128x1024_o0_512_S128x512))
        : FVec Ideal S128x512 .f32) (ix2 e r)
      = o (ix2 e (col 0 r)) - lam (ix2 0 0) * o (ix2 e (col 1 r)) := by
  show extractStridedSlice S128x512 ![0, 0] o _ (ix2 e r)
    - broadcastTo S128x512 lam _ (ix2 e r) * extractStridedSlice S128x512 ![0, 512] o _ (ix2 e r) = _
  rw [show extractStridedSlice S128x512 ![0, 0] o slices_S128x1024_o0_0_S128x512 (ix2 e r) = o (ix2 e (col 0 r)) from
      slice2_axis1_apply 0 o _ e r (col 0 r) rfl,
    show extractStridedSlice S128x512 ![0, 512] o slices_S128x1024_o0_512_S128x512 (ix2 e r) = o (ix2 e (col 1 r)) from
      slice2_axis1_apply 512 o _ e r (col 1 r) rfl,
    show broadcastTo S128x512 lam broadcasts_S1x1_S128x512 (ix2 e r) = lam (ix2 0 0) from
      broadcastTo_apply lam _ _ _ (fun a => match a with | ⟨0, _⟩ => rfl | ⟨1, _⟩ => rfl)]

/-- The block stored: the difference of the two maps, normalized. -/
theorem pay1_apply (lam : FVec Ideal S1x1 .f32) (o : FVec Ideal S128x1024 .f32) (g : Vec Ideal S128x1 .f32) (r : Fin 512) (d : Fin 128) :
    k0_pay1 lam o g (ix3 0 r d)
      = nrm (fun e => o (ix2 e (col 0 r)) - lam (ix2 0 0) * o (ix2 e (col 1 r))) (10995116 / 1099511627776) (g (ix2 d 0))
          (Ideal.ofBits .f32 0x3F4CCCCD#32) d := by
  unfold k0_pay1
  refine (shapeCast_ab_1ab_apply _ _ 0 r d).trans ?_
  rw [ValueIdx.truncf_apply, transpose_ix2_apply]
  have hd := fun e => diff_apply lam o e r
  generalize (subf (extractStridedSlice S128x512 ![0, 0] o slices_S128x1024_o0_0_S128x512)
      (mulf (broadcastTo S128x512 lam broadcasts_S1x1_S128x512) (extractStridedSlice S128x512 ![0, 512] o slices_S128x1024_o0_512_S128x512))
        : FVec Ideal S128x512 .f32) = od at hd ⊢
  show od (ix2 d r) * broadcastTo S128x512 (rsqrt _) _ (ix2 d r) * broadcastTo S128x512 (shapeCast S128x1 g _) _ (ix2 d r)
    * Ideal.ofBits .f32 0x3F4CCCCD#32 = _
  unfold nrm
  refine congrArg (· * Ideal.ofBits .f32 0x3F4CCCCD#32) (congrArg₂ (· * ·) (congrArg₂ (· * ·) (hd d) ?_) ?_)
  · refine (broadcastTo_1b_ab_apply _ _ d r).trans ?_
    show Ideal.rsqrt (Ideal.div (shapeCast S1x512 _ _ (ix2 0 r)) (Ideal.ofBits .f32 0x43000000#32) + Ideal.ofBits .f32 0x3727C5AC#32) = _
    rw [Cert.Lits.l128, Cert.Lits.leps]
    refine congrArg (fun z => Ideal.rsqrt (Ideal.div z ((128 : ℝ) : EReal) + ((10995116 / 1099511627776 : ℝ) : EReal))) ?_
    refine (shapeCast_a_1a_apply _ _ 0 r).trans ?_
    rw [colsum']
    refine Finset.sum_congr rfl fun e _ => ?_
    show od (ix2 e r) * od (ix2 e r) = _
    rw [hd e]
  · refine (broadcastTo_apply (shapeCast S128x1 g shapeCasts_S128x1_S128x1) _ (ix2 d r) (ix2 d 0) (fun a => match a with | ⟨0, _⟩ => rfl | ⟨1, _⟩ => rfl)).trans ?_
    exact congrFun (shapeCast_self g _) (ix2 d 0)

/-- The block a point stores, at row `r` and lane `d`. -/
theorem outv_apply (n : ℕ) (hn : n < 16) (lam : Vec Ideal S4x64 .f32) (g : Vec Ideal S128x1 .f32) (q : Vec Ideal S1x512x128 .bf16)
    (xk : Vec Ideal S1x8192x128 .bf16) (xv : Vec Ideal S1x1x16x128x512 .bf16) (w : Fin 128 → ℕ → ℝ)
    (hw : ∀ (a : Fin 16) (d : Fin 128) (k : Fin 512), xv (ix5 0 0 a d k) = ((w d (512 * a.val + k.val) : ℝ) : EReal))
    (r : Fin 512) (d : Fin 128) :
    outv n lam g q xk xv (ix3 0 r d)
      = nrm (fun e => Ideal.div ((sm (fs n q xk 0 r) (w e) (n + 1) : ℝ) : EReal) ((sm (fs n q xk 0 r) (fun _ => 1) (n + 1) : ℝ) : EReal)
          - k0_pay57 lam (ix2 0 0)
            * Ideal.div ((sm (fs n q xk 1 r) (w e) (n + 1) : ℝ) : EReal) ((sm (fs n q xk 1 r) (fun _ => 1) (n + 1) : ℝ) : EReal))
          (10995116 / 1099511627776) (g (ix2 d 0)) (Ideal.ofBits .f32 0x3F4CCCCD#32) d := by
  unfold outv
  rw [pay1_apply]
  refine congrArg (fun o => nrm o (10995116 / 1099511627776) (g (ix2 d 0)) (Ideal.ofBits .f32 0x3F4CCCCD#32) d) (funext fun e => ?_)
  obtain ⟨a1, a2⟩ := last_col n hn q xk xv w hw 0 r
  obtain ⟨b1, b2⟩ := last_col n hn q xk xv w hw 1 r
  rw [pay58_apply, pay58_apply, a1, a2, b1, b2]

/-- A row sum over 64 lanes. -/
theorem rowsum (x : FVec Ideal S1x64 .f32) :
    multiReduction .add [1] S1 x 0x00000000#32 reduces_S1x64_S1 (.inl rfl) rfl (ix1 0) = ∑ i : Fin 64, x (ix2 0 i) := by
  refine (Ideal.multiReduction_add_single (a := (1 : Fin S1x64.rank)) x _ reduces_S1x64_S1 _ _ (ix1 0)).trans ?_
  exact Finset.sum_congr rfl fun k _ => congrArg x (lift_row _ 0 k)

theorem pay57_apply (lam : Vec Ideal S4x64 .f32) : k0_pay57 lam (ix2 0 0) = lamv lam := by
  unfold k0_pay57 lamv
  show Ideal.exp (shapeCast S1x1 _ _ (ix2 0 0)) - Ideal.exp (shapeCast S1x1 _ _ (ix2 0 0)) + Ideal.ofBits .f32 0x3E4CCCCD#32 = _
  rw [Cert.Lits.llam]
  refine congrArg (· + ((13421773 / 67108864 : ℝ) : EReal)) (congrArg₂ (· - ·) (congrArg Ideal.exp ?_) (congrArg Ideal.exp ?_))
  · refine (shapeCast_a_1a_apply _ _ 0 0).trans ?_
    rw [rowsum]
    refine Finset.sum_congr rfl fun i _ => ?_
    show extractStridedSlice S1x64 ![0, 0] lam _ (ix2 0 i) * extractStridedSlice S1x64 ![1, 0] lam _ (ix2 0 i) = _
    exact congrArg₂ (· * ·) (slice2_axis0_apply 0 lam _ 0 i 0 rfl) (slice2_axis0_apply 1 lam _ 0 i 1 rfl)
  · refine (shapeCast_a_1a_apply _ _ 0 0).trans ?_
    rw [rowsum]
    refine Finset.sum_congr rfl fun i _ => ?_
    show extractStridedSlice S1x64 ![2, 0] lam _ (ix2 0 i) * extractStridedSlice S1x64 ![3, 0] lam _ (ix2 0 i) = _
    exact congrArg₂ (· * ·) (slice2_axis0_apply 2 lam _ 0 i 2 rfl) (slice2_axis0_apply 3 lam _ 0 i 3 rfl)

end Cert.KernelIdeal.Hand
-- ==== Proof.Host.lean ====
/-
  The host operations before the attention kernel's launch read at an index: the arrays its windows stage, in terms of the
  arguments.
-/
module

public import proofs.«01_k».proof.Proof.Blocks
public import proofs.«01_k».proof.Proof.Spec
public import Idealize.ShloMosaic.Lib.ValueLayout
public import Idealize.ShloMosaic.Lib.ValueLayoutCasts

@[expose] public section

set_option maxRecDepth 16384

noncomputable section

namespace Cert.KernelIdeal.Hand

open Cert.KernelIdeal Cert.KernelIdeal.Gen Cert.Soft
open Idealize.ShloMosaic Idealize.ShloMosaic.TcCoe Idealize.ShloMosaic.ValueIdx Idealize.ShloMosaic.StableHlo

/-- The queries and keys side by side. -/
def hqk (q k : Vec Ideal S8x8192x1024 .f32) : Vec Ideal S8x8192x2048 .bf16 :=
  shapeCast S8x8192x2048 (concatenate S65536x2048 1
    [⟨S65536x1024, (truncf .bf16 (shapeCast S65536x1024 q shapeCasts_S8x8192x1024_S65536x1024 : FVec Ideal S65536x1024 .f32) bitsLt_bf16_f32 : FVec Ideal S65536x1024 .bf16)⟩,
     ⟨S65536x1024, (truncf .bf16 (shapeCast S65536x1024 k shapeCasts_S8x8192x1024_S65536x1024 : FVec Ideal S65536x1024 .f32) bitsLt_bf16_f32 : FVec Ideal S65536x1024 .bf16)⟩]
    concatenates_S65536x1024_S65536x1024_S65536x2048_d1) shapeCasts_S65536x2048_S8x8192x2048

/-- The values, transposed head by head and block by block. -/
def hvt (v : Vec Ideal S8x8192x1024 .f32) : Vec Ideal S8x8x16x128x512 .bf16 :=
  truncf .bf16 (transpose S8x8x16x128x512 [0, 3, 1, 4, 2] (shapeCast S8x16x512x8x128 v shapeCasts_S8x8192x1024_S8x16x512x8x128)
    transposes_S8x16x512x8x128_S8x8x16x128x512_0_3_1_4_2 : FVec Ideal S8x8x16x128x512 .f32) bitsLt_bf16_f32

variable (m : (ℓ : Loc nD τ sig) → Buf (Elt Ideal) ℓ) (c : Dev nD)

theorem V_v8 : V m c main_v8 = hqk (m ((c : Thread nD τ).loc main_arg0)) (m ((c : Thread nD τ).loc main_arg1)) := by
  unfold hqk
  show StableHlo.after hostOps0 _ _ = _
  unfold hostOps0
  after_results
  rfl

theorem V_v7 : V m c main_v7 = hvt (m ((c : Thread nD τ).loc main_arg2)) := by
  unfold hvt
  show StableHlo.after hostOps0 _ _ = _
  unfold hostOps0
  after_results
  rfl

theorem V_v9 : V m c main_v9 = (shapeCast S128x1 (m ((c : Thread nD τ).loc main_arg4)) shapeCasts_S128_S128x1 : Vec Ideal S128x1 .f32) := by
  show StableHlo.after hostOps0 _ _ = _
  unfold hostOps0
  after_results
  rfl

/-- A query lane. -/
theorem hqk_q (q k : Vec Ideal S8x8192x1024 .f32) (b : Fin 8) (s : Fin 8192) (i : Fin 1024) (i' : Fin 2048) (hi : i'.val = i.val) :
    hqk q k (ix3 b s i') = q (ix3 b s i) := by
  have hb := b.isLt; have hs := s.isLt; have h := i.isLt; have h' := i'.isLt
  have hr : 8192 * b.val + s.val < 65536 := by omega
  unfold hqk
  refine (shapeCast_apply _ _ (ix3 b s i') (ix2 (⟨8192 * b.val + s.val, hr⟩ : Fin 65536) i') (by
    rw [Shape.rowMajor_val_two, Shape.rowMajor_val_three]
    show (8192 * b.val + s.val) * 2048 + i'.val = (b.val * 8192 + s.val) * 2048 + i'.val
    omega)).trans ?_
  refine (concatenate_pair_apply_left (t := S65536x2048) (s₁ := S65536x1024) (s₂ := S65536x1024) 1 _ _ _
    (ix2 (⟨8192 * b.val + s.val, hr⟩ : Fin 65536) i') rfl (ix2 (⟨8192 * b.val + s.val, hr⟩ : Fin 65536) i) (fun a => match a with
      | ⟨0, _⟩ => rfl
      | ⟨1, _⟩ => hi.symm)).trans ?_
  rw [ValueIdx.truncf_apply]
  exact shapeCast_apply _ _ (ix2 (⟨8192 * b.val + s.val, hr⟩ : Fin 65536) i) (ix3 b s i) (by
    rw [Shape.rowMajor_val_two, Shape.rowMajor_val_three]
    show (b.val * 8192 + s.val) * 1024 + i.val = (8192 * b.val + s.val) * 1024 + i.val
    omega)

/-- A key lane. -/
theorem hqk_k (q k : Vec Ideal S8x8192x1024 .f32) (b : Fin 8) (s : Fin 8192) (i : Fin 1024) (i' : Fin 2048) (hi : i'.val = i.val + 1024) :
    hqk q k (ix3 b s i') = k (ix3 b s i) := by
  have hb := b.isLt; have hs := s.isLt; have h := i.isLt; have h' := i'.isLt
  have hr : 8192 * b.val + s.val < 65536 := by omega
  unfold hqk
  refine (shapeCast_apply _ _ (ix3 b s i') (ix2 (⟨8192 * b.val + s.val, hr⟩ : Fin 65536) i') (by
    rw [Shape.rowMajor_val_two, Shape.rowMajor_val_three]
    show (8192 * b.val + s.val) * 2048 + i'.val = (b.val * 8192 + s.val) * 2048 + i'.val
    omega)).trans ?_
  refine (concatenate_pair_apply_right (t := S65536x2048) (s₁ := S65536x1024) (s₂ := S65536x1024) 1 _ _ _
    (ix2 (⟨8192 * b.val + s.val, hr⟩ : Fin 65536) i') rfl rfl (ix2 (⟨8192 * b.val + s.val, hr⟩ : Fin 65536) i) (fun a => match a with
      | ⟨0, _⟩ => fun _ => rfl
      | ⟨1, _⟩ => fun ha => absurd rfl ha) hi.symm).trans ?_
  rw [ValueIdx.truncf_apply]
  exact shapeCast_apply _ _ (ix2 (⟨8192 * b.val + s.val, hr⟩ : Fin 65536) i) (ix3 b s i) (by
    rw [Shape.rowMajor_val_two, Shape.rowMajor_val_three]
    show (b.val * 8192 + s.val) * 1024 + i.val = (8192 * b.val + s.val) * 1024 + i.val
    omega)

/-- Key row `k` of block `a`. -/
def row (a : Fin 16) (k : Fin 512) : Fin 8192 := ⟨512 * a.val + k.val, by have := a.isLt; have := k.isLt; omega⟩

/-- A value. -/
theorem hvt_apply (v : Vec Ideal S8x8192x1024 .f32) (b h : Fin 8) (a : Fin 16) (d : Fin 128) (k : Fin 512) :
    hvt v (ix5 b h a d k) = v (ix3 b (row a k) (hd h d)) := by
  have hb := b.isLt; have hh := h.isLt; have ha := a.isLt; have h' := d.isLt; have hk := k.isLt
  unfold hvt
  rw [ValueIdx.truncf_apply]
  refine (transpose_apply _ _ _ (ix5 b h a d k) (ix5 b a k h d) (fun x => match x with
    | ⟨0, _⟩ => rfl
    | ⟨1, _⟩ => rfl
    | ⟨2, _⟩ => rfl
    | ⟨3, _⟩ => rfl
    | ⟨4, _⟩ => rfl)).trans ?_
  exact shapeCast_apply _ _ (ix5 b a k h d) (ix3 b (row a k) (hd h d)) (by
    rw [Shape.rowMajor_val_three, Shape.rowMajor_val_five]
    show (b.val * 8192 + (512 * a.val + k.val)) * 1024 + (128 * h.val + d.val)
      = (((b.val * 16 + a.val) * 512 + k.val) * 8 + h.val) * 128 + d.val
    omega)

/-! ## The blocks -/

/-- A grid coordinate as a word. -/
theorem coord_word (n : ℕ) (h : n < 2 ^ 32) : (BitVec.ofNat 32 n).toNat = n := by
  rw [BitVec.toNat_ofNat, Nat.mod_eq_of_lt h]

/-- The coordinates of a point. -/
abbrev cb (t : Fin cfg0.N) : Fin 8 := grid0.coords t 0
abbrev ch (t : Fin cfg0.N) : Fin 8 := grid0.coords t 1
abbrev cn (t : Fin cfg0.N) : Fin 16 := grid0.coords t 2

theorem word0 (t : Fin cfg0.N) : (BitVec.ofNat 32 (grid0.coords t 0).val).toNat = (cb t).val :=
  coord_word _ (lt_trans (cb t).isLt (by norm_num))
theorem word1 (t : Fin cfg0.N) : (BitVec.ofNat 32 (grid0.coords t 1).val).toNat = (ch t).val :=
  coord_word _ (lt_trans (ch t).isLt (by norm_num))
theorem word2 (t : Fin cfg0.N) : (BitVec.ofNat 32 (grid0.coords t 2).val).toNat = (cn t).val :=
  coord_word _ (lt_trans (cn t).isLt (by norm_num))

/-- The block indices of every window. -/
theorem idx2 (t : Fin cfg0.N) : cc0_transform_2 (grid0.coords t) = ![(cb t).val, (cn t).val, (ch t).val] := by
  unfold cc0_transform_2
  dsimp only
  rw [word0, word1, word2]
theorem idx6 (t : Fin cfg0.N) : cc0_transform_6 (grid0.coords t) = ![(cb t).val, (cn t).val, (ch t).val] := idx2 t
theorem idx5 (t : Fin cfg0.N) : cc0_transform_5 (grid0.coords t) = ![(cb t).val, (ch t).val, 0, 0, 0] := by
  unfold cc0_transform_5
  dsimp only
  rw [word0, word1]
  rfl
theorem idx4 (t : Fin cfg0.N) : cc0_transform_4 (grid0.coords t) = ![(cb t).val, 0, 8 + (ch t).val] := by
  have h1 := (ch t).isLt
  unfold cc0_transform_4
  have e : Scalar.addi (8#32) (BitVec.ofNat 32 (grid0.coords t 1).val) = BitVec.ofNat 32 (8 + (ch t).val) := by
    show (8#32) + BitVec.ofNat 32 (grid0.coords t 1).val = _
    rw [show (8#32) = BitVec.ofNat 32 8 from rfl, ← BitVec.ofNat_add]
  dsimp only
  rw [e, word0, coord_word (8 + (ch t).val) (by omega)]
  rfl

theorem blk0_apply (X : Vec Ideal S4x64 .f32) (t : Fin cfg0.N) : (win0_0.blk t).view.read (Elt Ideal) X = X := by
  funext y
  refine congrArg X (funext fun a => Fin.ext ?_)
  match a with
  | ⟨0, _⟩ => show 0 * 4 + 1 * (y 0).val = (y 0).val; omega
  | ⟨1, _⟩ => show 0 * 64 + 1 * (y 1).val = (y 1).val; omega

theorem blk1_apply (X : Vec Ideal S128x1 .f32) (t : Fin cfg0.N) : (win0_1.blk t).view.read (Elt Ideal) X = X := by
  funext y
  refine congrArg X (funext fun a => Fin.ext ?_)
  match a with
  | ⟨0, _⟩ => show 0 * 128 + 1 * (y 0).val = (y 0).val; omega
  | ⟨1, _⟩ => show 0 * 1 + 1 * (y 1).val = (y 1).val; omega

theorem blk2_apply (X : Vec Ideal S8x8192x2048 .bf16) (t : Fin cfg0.N) (r : Fin 512) (i : Fin 128) (i' : Fin 2048)
    (hi : i'.val = (hd (ch t) i).val) :
    (win0_2.blk t).view.read (Elt Ideal) X (ix3 0 r i) = X (ix3 (cb t) (row (cn t) r) i') := by
  refine congrArg X (funext fun a => Fin.ext ?_)
  match a with
  | ⟨0, _⟩ => show cc0_transform_2 (grid0.coords t) 0 * 1 + 1 * 0 = (cb t).val; rw [idx2]; show (cb t).val * 1 + 1 * 0 = _; omega
  | ⟨1, _⟩ =>
    show cc0_transform_2 (grid0.coords t) 1 * 512 + 1 * r.val = 512 * (cn t).val + r.val
    rw [idx2]; show (cn t).val * 512 + 1 * r.val = _; omega
  | ⟨2, _⟩ =>
    show cc0_transform_2 (grid0.coords t) 2 * 128 + 1 * i.val = i'.val
    rw [idx2, hi]; show (ch t).val * 128 + 1 * i.val = 128 * (ch t).val + i.val; omega

theorem blk4_apply (X : Vec Ideal S8x8192x2048 .bf16) (t : Fin cfg0.N) (x : Fin 8192) (i : Fin 128) (i' : Fin 2048)
    (hi : i'.val = (hd (ch t) i).val + 1024) :
    (win0_4.blk t).view.read (Elt Ideal) X (ix3 0 x i) = X (ix3 (cb t) x i') := by
  refine congrArg X (funext fun a => Fin.ext ?_)
  match a with
  | ⟨0, _⟩ => show cc0_transform_4 (grid0.coords t) 0 * 1 + 1 * 0 = (cb t).val; rw [idx4]; show (cb t).val * 1 + 1 * 0 = _; omega
  | ⟨1, _⟩ =>
    show cc0_transform_4 (grid0.coords t) 1 * 8192 + 1 * x.val = x.val
    rw [idx4]; show 0 * 8192 + 1 * x.val = _; omega
  | ⟨2, _⟩ =>
    show cc0_transform_4 (grid0.coords t) 2 * 128 + 1 * i.val = i'.val
    rw [idx4, hi]; show (8 + (ch t).val) * 128 + 1 * i.val = 128 * (ch t).val + i.val + 1024; omega

theorem blk5_apply (X : Vec Ideal S8x8x16x128x512 .bf16) (t : Fin cfg0.N) (a : Fin 16) (d : Fin 128) (k : Fin 512) :
    (win0_5.blk t).view.read (Elt Ideal) X (ix5 0 0 a d k) = X (ix5 (cb t) (ch t) a d k) := by
  refine congrArg X (funext fun x => Fin.ext ?_)
  match x with
  | ⟨0, _⟩ => show cc0_transform_5 (grid0.coords t) 0 * 1 + 1 * 0 = (cb t).val; rw [idx5]; show (cb t).val * 1 + 1 * 0 = _; omega
  | ⟨1, _⟩ => show cc0_transform_5 (grid0.coords t) 1 * 1 + 1 * 0 = (ch t).val; rw [idx5]; show (ch t).val * 1 + 1 * 0 = _; omega
  | ⟨2, _⟩ => show cc0_transform_5 (grid0.coords t) 2 * 16 + 1 * a.val = a.val; rw [idx5]; show 0 * 16 + 1 * a.val = _; omega
  | ⟨3, _⟩ => show cc0_transform_5 (grid0.coords t) 3 * 128 + 1 * d.val = d.val; rw [idx5]; show 0 * 128 + 1 * d.val = _; omega
  | ⟨4, _⟩ => show cc0_transform_5 (grid0.coords t) 4 * 512 + 1 * k.val = k.val; rw [idx5]; show 0 * 512 + 1 * k.val = _; omega

/-- The output block's place in the result. -/
theorem blk6_emb (t : Fin cfg0.N) (r : Fin 512) (d : Fin 128) :
    (win0_6.blk t).view.emb (ix3 0 r d) = ix3 (cb t) (row (cn t) r) (hd (ch t) d) := by
  refine funext fun a => Fin.ext ?_
  match a with
  | ⟨0, _⟩ => show cc0_transform_6 (grid0.coords t) 0 * 1 + 1 * 0 = (cb t).val; rw [idx6]; show (cb t).val * 1 + 1 * 0 = _; omega
  | ⟨1, _⟩ =>
    show cc0_transform_6 (grid0.coords t) 1 * 512 + 1 * r.val = 512 * (cn t).val + r.val
    rw [idx6]; show (cn t).val * 512 + 1 * r.val = _; omega
  | ⟨2, _⟩ =>
    show cc0_transform_6 (grid0.coords t) 2 * 128 + 1 * d.val = 128 * (ch t).val + d.val
    rw [idx6]; show (ch t).val * 128 + 1 * d.val = _; omega

end Cert.KernelIdeal.Hand
-- ==== Proof.Value.lean ====
/-
  What the attention kernel leaves in its result array: block by block the closed form the reference computes.
-/
module

public import proofs.«01_k».proof.Proof.Column
public import proofs.«01_k».proof.Proof.Host
public import proofs.«01_k».proof.Proof.Run
public import Idealize.ShloMosaic.Lib.Pipeline.ValueKit.Geometry

@[expose] public section

set_option maxRecDepth 16384

noncomputable section

namespace Cert.KernelIdeal.Hand

open Cert.KernelIdeal Cert.KernelIdeal.Gen Cert.Soft
open Idealize.ShloMosaic Idealize.ShloMosaic.TcCoe Idealize.ShloMosaic.ValueIdx

/-- The block's scores are the spec's. -/
theorem tsc_ts (Q K : A3.Idx → EReal) (b h : Fin 8) (n : Fin 16) (q : Vec Ideal S1x512x128 .bf16) (xk : Vec Ideal S1x8192x128 .bf16)
    (hq : ∀ (r : Fin 512) (i : Fin 128), q (ix3 0 r i) = Q (ix3 b (row n r) (hd h i)))
    (hk : ∀ (x : Fin 8192) (i : Fin 128), xk (ix3 0 x i) = K (ix3 b x (hd h i))) (p : Fin 2) (r : Fin 512) (x : ℕ) :
    tsc q xk p r x = ts Q K b h p (row n r) x :=
  Finset.sum_congr rfl fun j _ => congrArg₂ (· * ·) (hq r (lane p j)) (hk _ (lane p j))

theorem fs_fg (Q K : A3.Idx → EReal) (b h : Fin 8) (n : Fin 16) (q : Vec Ideal S1x512x128 .bf16) (xk : Vec Ideal S1x8192x128 .bf16)
    (hq : ∀ (r : Fin 512) (i : Fin 128), q (ix3 0 r i) = Q (ix3 b (row n r) (hd h i)))
    (hk : ∀ (x : Fin 8192) (i : Fin 128), xk (ix3 0 x i) = K (ix3 b x (hd h i))) (p : Fin 2) (r : Fin 512) :
    fs n.val q xk p r = fg Q K b h p (row n r) := by
  funext x
  unfold fs fg
  rw [tsc_ts Q K b h n q xk hq hk]
  rfl

/-- The block a point stores is the closed form. -/
theorem outv_spec (Q K V : A3.Idx → EReal) (v : A3.Idx → ℝ) (hV : ∀ i, V i = ((v i : ℝ) : EReal)) (lam : Vec Ideal S4x64 .f32) (a : ℝ)
    (hlam : lamv lam = (a : EReal)) (b h : Fin 8) (n : Fin 16) (g : Vec Ideal S128x1 .f32)
    (q : Vec Ideal S1x512x128 .bf16) (xk : Vec Ideal S1x8192x128 .bf16) (xv : Vec Ideal S1x1x16x128x512 .bf16)
    (hq : ∀ (r : Fin 512) (i : Fin 128), q (ix3 0 r i) = Q (ix3 b (row n r) (hd h i)))
    (hk : ∀ (x : Fin 8192) (i : Fin 128), xk (ix3 0 x i) = K (ix3 b x (hd h i)))
    (hv : ∀ (a : Fin 16) (d : Fin 128) (k : Fin 512), xv (ix5 0 0 a d k) = V (ix3 b (row a k) (hd h d)))
    (r : Fin 512) (d : Fin 128) :
    outv n.val lam g q xk xv (ix3 0 r d)
      = nrm (oref Q K V lam b h (row n r)) (10995116 / 1099511627776) (g (ix2 d 0)) (Ideal.ofBits .f32 0x3F4CCCCD#32) d := by
  have hn := n.isLt
  have hr := r.isLt
  rw [outv_apply n.val hn lam g q xk xv (fun e x => v (ix3 b ⟨x % 8192, Nat.mod_lt _ (by norm_num)⟩ (hd h e))) (fun a' d' k' => by
    have h1 := a'.isLt
    have h2 := k'.isLt
    rw [hv, hV]
    exact congrArg (fun z : Fin 8192 => ((v (ix3 b z (hd h d')) : ℝ) : EReal)) (Fin.ext (Nat.mod_eq_of_lt (by omega)).symm)) r d]
  have hbot : ∀ p x, 512 * (n.val + 1) ≤ x → fg Q K b h p (row n r) x = ⊥ := fun p x hx => by
    unfold fg
    exact if_neg (by show ¬ x ≤ 512 * n.val + r.val; omega)
  have hs : ∀ (p : Fin 2) (w : ℕ → ℝ), sm (fs n.val q xk p r) w (n.val + 1) = ∑ x : Fin 8192, w x.val * W Q K b h p (row n r) x :=
    fun p w => by
      rw [fs_fg Q K b h n q xk hq hk, sm_ext _ _ _ (by omega) (hbot p), mx_ext _ _ (by omega) (hbot p)]
      rfl
  have hs1 : ∀ p : Fin 2, sm (fs n.val q xk p r) (fun _ => 1) (n.val + 1) = ∑ x : Fin 8192, W Q K b h p (row n r) x := fun p => by
    rw [hs]
    exact Finset.sum_congr rfl fun x _ => one_mul _
  have hm : ∀ x : Fin 8192, (⟨x.val % 8192, Nat.mod_lt _ (by norm_num)⟩ : Fin 8192) = x := fun x => Fin.ext (Nat.mod_eq_of_lt x.isLt)
  rw [hs1, hs1, pay57_apply, hlam]
  simp only [hs, hm]
  rw [nrm_comb (fun x e => v (ix3 b x (hd h e))) (W Q K b h 0 (row n r)) (W Q K b h 1 (row n r)) (W_nonneg Q K b h 0 (row n r))
    (W_nonneg Q K b h 1 (row n r)) a]
  refine congrArg (fun o => nrm o (10995116 / 1099511627776) (g (ix2 d 0)) (Ideal.ofBits .f32 0x3F4CCCCD#32) d) (funext fun e => ?_)
  unfold oref
  rw [hlam]
  exact Finset.sum_congr rfl fun x _ => by rw [hV]

/-- The head a lane belongs to. -/
def hOf (x : Fin 1024) : Fin 8 := ⟨x.val / 128, by have := x.isLt; omega⟩
/-- A lane within its head. -/
def dOf (x : Fin 1024) : Fin 128 := ⟨x.val % 128, Nat.mod_lt _ (by norm_num)⟩

theorem hOf_hd (h : Fin 8) (d : Fin 128) : hOf (hd h d) = h := Fin.ext (by
  have := d.isLt
  show (128 * h.val + d.val) / 128 = h.val
  omega)
theorem dOf_hd (h : Fin 8) (d : Fin 128) : dOf (hd h d) = d := Fin.ext (by
  have := d.isLt
  show (128 * h.val + d.val) % 128 = d.val
  omega)
theorem hd_of (x : Fin 1024) : hd (hOf x) (dOf x) = x := Fin.ext (by
  show 128 * (x.val / 128) + x.val % 128 = x.val
  omega)

/-- The closed form, as an array of the arguments. -/
def G (Q K V : Vec Ideal S8x8192x1024 .f32) (lam : Vec Ideal S4x64 .f32) (g : Vec Ideal S128 .f32) : Vec Ideal S8x8192x1024 .bf16 := fun i =>
  nrm (oref Q K V lam (i 0) (hOf (i 2)) (i 1)) (10995116 / 1099511627776) (g (ix1 (dOf (i 2)))) (Ideal.ofBits .f32 0x3F4CCCCD#32) (dOf (i 2))

theorem G_apply (Q K V : Vec Ideal S8x8192x1024 .f32) (lam : Vec Ideal S4x64 .f32) (g : Vec Ideal S128 .f32) (b : Fin 8) (s : Fin 8192)
    (h : Fin 8) (d : Fin 128) : G Q K V lam g (ix3 b s (hd h d))
      = nrm (oref Q K V lam b h s) (10995116 / 1099511627776) (g (ix1 d)) (Ideal.ofBits .f32 0x3F4CCCCD#32) d := by
  show nrm (oref Q K V lam b (hOf (hd h d)) s) (10995116 / 1099511627776) (g (ix1 (dOf (hd h d)))) (Ideal.ofBits .f32 0x3F4CCCCD#32) (dOf (hd h d)) = _
  rw [hOf_hd, dOf_hd]

variable (m : (ℓ : Loc nD τ sig) → Buf (Elt Ideal) ℓ) (c : Dev nD)

theorem iblk0_eq (t : Fin cfg0.N) : iblk m c 0 t = m ((c : Thread nD τ).loc main_arg3) :=
  (blk0_apply (V m c main_arg3) t).trans (V_main_arg3 m c)

theorem iblk1_eq (t : Fin cfg0.N) (d : Fin 128) : (iblk m c 1 t : Vec Ideal S128x1 .f32) (ix2 d 0) = m ((c : Thread nD τ).loc main_arg4) (ix1 d) := by
  have h : iblk m c 1 t = _ := (blk1_apply (V m c main_v9) t).trans (V_v9 m c)
  rw [h]
  exact shapeCast_a_a1_apply _ _ d 0

theorem qb_eq (t : Fin cfg0.N) (r : Fin 512) (i : Fin 128) :
    qb m c t (ix3 0 r i) = m ((c : Thread nD τ).loc main_arg0) (ix3 (cb t) (row (cn t) r) (hd (ch t) i)) := by
  have hlt := (hd (ch t) i).isLt
  have h : qb m c t (ix3 0 r i) = _ := blk2_apply (V m c main_v8) t r i ⟨(hd (ch t) i).val, by omega⟩ rfl
  rw [h, V_v8]
  exact hqk_q _ _ (cb t) (row (cn t) r) (hd (ch t) i) _ rfl

theorem kb_eq (t : Fin cfg0.N) (x : Fin 8192) (i : Fin 128) :
    kb m c t (ix3 0 x i) = m ((c : Thread nD τ).loc main_arg1) (ix3 (cb t) x (hd (ch t) i)) := by
  have hlt := (hd (ch t) i).isLt
  have h : kb m c t (ix3 0 x i) = _ := blk4_apply (V m c main_v8) t x i ⟨(hd (ch t) i).val + 1024, by omega⟩ rfl
  rw [h, V_v8]
  exact hqk_k _ _ (cb t) x (hd (ch t) i) _ rfl

theorem vb_eq (t : Fin cfg0.N) (a : Fin 16) (d : Fin 128) (k : Fin 512) :
    vb m c t (ix5 0 0 a d k) = m ((c : Thread nD τ).loc main_arg2) (ix3 (cb t) (row a k) (hd (ch t) d)) := by
  have h : vb m c t (ix5 0 0 a d k) = _ := blk5_apply (V m c main_v7) t a d k
  rw [h, V_v7]
  exact hvt_apply _ (cb t) (ch t) a d k

variable (v : A3.Idx → ℝ) (hV : ∀ i, m ((c : Thread nD τ).loc main_arg2) i = ((v i : ℝ) : EReal)) (a : ℝ)
    (hlam : lamv (m ((c : Thread nD τ).loc main_arg3)) = (a : EReal))

include hV hlam in
theorem outsAt_eq (t : Fin cfg0.N) (r : Fin 512) (d : Fin 128) :
    outsAt m c t (ix3 0 r d)
      = G (m ((c : Thread nD τ).loc main_arg0)) (m ((c : Thread nD τ).loc main_arg1)) (m ((c : Thread nD τ).loc main_arg2))
          (m ((c : Thread nD τ).loc main_arg3)) (m ((c : Thread nD τ).loc main_arg4)) ((win0_6.blk t).view.emb (ix3 0 r d)) := by
  rw [show (win0_6.blk t).view.emb (ix3 0 r d) = _ from blk6_emb t r d, G_apply]
  unfold outsAt
  rw [iblk0_eq]
  refine (outv_spec (m ((c : Thread nD τ).loc main_arg0)) (m ((c : Thread nD τ).loc main_arg1)) (m ((c : Thread nD τ).loc main_arg2)) v hV
    (m ((c : Thread nD τ).loc main_arg3)) a hlam (cb t) (ch t) (cn t) _ _ _ _ (qb_eq m c t) (kb_eq m c t) (vb_eq m c t) r d).trans ?_
  rw [iblk1_eq]

/-- An index of the block stored. -/
theorem ix_out (y : S1x512x128.Idx) : y = ix3 0 (y 1) (y 2) := by
  refine (eq_ix3 y).trans ?_
  have h0 : y 0 = (0 : Fin 1) := Fin.ext (by have h : (y 0).val < 1 := (y 0).isLt; show (y 0).val = 0; omega)
  rw [h0]
  rfl

include hV hlam in
theorem outsAt_all (t : Fin cfg0.N) (y : S1x512x128.Idx) :
    outsAt m c t y
      = G (m ((c : Thread nD τ).loc main_arg0)) (m ((c : Thread nD τ).loc main_arg1)) (m ((c : Thread nD τ).loc main_arg2))
          (m ((c : Thread nD τ).loc main_arg3)) (m ((c : Thread nD τ).loc main_arg4)) ((win0_6.blk t).view.emb y) := by
  rw [ix_out y]
  exact outsAt_eq m c v hV a hlam t (y 1) (y 2)

include hV hlam in
theorem arrAt6 : (dats m 0 c).arrAt 6 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  refine Eq.trans (show _ = outsAt m c t (y : S1x512x128.Idx) from congrFun (after0_6 m c t) y) ?_
  exact outsAt_all m c v hV a hlam t y

end Cert.KernelIdeal.Hand
-- ==== Proof.Whole.lean ====
/-
  The value claim: the kernel's result array and the reference's result are the same closed form of the arguments, where
  the values and the parameters of the second map's factor are finite.
-/
module

public import proofs.«01_k».proof.Proof.Value
public import proofs.«01_k».proof.Proof.RefVal
public import proofs.«01_k».proof.Defs

@[expose] public section

set_option maxRecDepth 16384

noncomputable section

namespace Cert.Proof

open Cert.Soft
open Idealize.ShloMosaic Idealize.ShloMosaic.TcCoe Idealize.ShloMosaic.ValueIdx Idealize.SL.Sem

theorem linf : Ideal.ofBits .f32 0x7F800000#32 = ⊤ := by
  simp [Ideal.ofBits, Ideal.ieee]

/-- A magnitude below infinity is a real's. -/
theorem real_of_lt (x : EReal) (h : Ideal.cmp .olt (max x (-x)) (Ideal.ofBits .f32 0x7F800000#32) = 1#1) : ∃ r : ℝ, x = (r : EReal) := by
  have hlt : max x (-x) < ⊤ := by
    by_contra hc
    rw [linf] at h
    change BitVec.ofBool (decide (max x (-x) < ⊤)) = 1#1 at h
    rw [decide_eq_false hc] at h
    exact absurd h (by decide)
  induction x using EReal.rec with
  | bot => exact absurd hlt (by simp)
  | top => exact absurd hlt (by simp)
  | coe r => exact ⟨r, rfl⟩

instance pre_facts : Cert.Pre_finite.Facts := ⟨by decide, by decide⟩

/-- The precondition's first half: the values are reals. -/
theorem pre_values (m : (ℓ : Loc Cert.KernelIdeal.nD Cert.KernelIdeal.τ Cert.KernelIdeal.sig) → Buf (Elt Ideal) ℓ) (h : Cert.Pre_KernelIdeal_finite m)
    (c : Dev Cert.KernelIdeal.nD) :
    ∃ v : A3.Idx → ℝ, ∀ i, m ((c.tc : Thread Cert.KernelIdeal.nD Cert.KernelIdeal.τ).loc Cert.KernelIdeal.main_arg2) i = ((v i : ℝ) : EReal) :=
  ⟨fun i => (real_of_lt _ (congrFun (h c).1 i)).choose, fun i => (real_of_lt _ (congrFun (h c).1 i)).choose_spec⟩

/-- The precondition's second half: the factor's parameters are reals. -/
theorem pre_params (m : (ℓ : Loc Cert.KernelIdeal.nD Cert.KernelIdeal.τ Cert.KernelIdeal.sig) → Buf (Elt Ideal) ℓ) (h : Cert.Pre_KernelIdeal_finite m)
    (c : Dev Cert.KernelIdeal.nD) :
    ∃ l : A2.Idx → ℝ, ∀ i, m ((c.tc : Thread Cert.KernelIdeal.nD Cert.KernelIdeal.τ).loc Cert.KernelIdeal.main_arg3) i = ((l i : ℝ) : EReal) :=
  ⟨fun i => (real_of_lt _ (congrFun (h c).2 i)).choose, fun i => (real_of_lt _ (congrFun (h c).2 i)).choose_spec⟩

/-- The reference's result is the closed form. -/
theorem ref_G (x0 x1 x2 : (⟨Cert.ReferenceIdeal.S8x8192x1024, .f32⟩ : BufTy).Contents (Elt Ideal))
    (x3 : (⟨Cert.ReferenceIdeal.S4x64, .f32⟩ : BufTy).Contents (Elt Ideal)) (x4 : (⟨Cert.ReferenceIdeal.S128, .f32⟩ : BufTy).Contents (Elt Ideal)) :
    (Cert.ReferenceIdeal.Read.val_main_v66 (F := Ideal) x0 x1 x2 x3 x4 : A3.Idx → EReal) = Cert.KernelIdeal.Hand.G x0 x1 x2 x3 x4 := by
  funext i
  have hi : i = ix3 (i 0) (i 1) (hd (Cert.KernelIdeal.Hand.hOf (i 2)) (Cert.KernelIdeal.Hand.dOf (i 2))) := by
    exact (eq_ix3 (i : A3.Idx)).trans (congrArg (fun z : Fin 1024 => ix3 (i 0) (i 1) z) (Cert.KernelIdeal.Hand.hd_of (i 2)).symm)
  rw [hi]
  exact (Cert.ReferenceIdeal.Hand.r66 x0 x1 x2 x3 x4 (i 0) (Cert.KernelIdeal.Hand.hOf (i 2)) (i 1) (Cert.KernelIdeal.Hand.dOf (i 2))).trans
    (Cert.KernelIdeal.Hand.G_apply x0 x1 x2 x3 x4 (i 0) (i 1) (Cert.KernelIdeal.Hand.hOf (i 2)) (Cert.KernelIdeal.Hand.dOf (i 2))).symm

section
open Cert.KernelIdeal Cert.KernelIdeal.Gen Cert.KernelIdeal.Hand

/-- The kernel's run ends with the closed form in its result array. -/
theorem run_value (m : (ℓ : Loc nD τ sig) → Buf (Elt Ideal) ℓ) (ρ : Dev nD → PrngReg) (hpre : Cert.Pre_KernelIdeal_finite m) :
    θ_run (defs (F := Ideal)) (onTc (τ := τ) (main (F := Ideal))) ⟨m, fun _ => 0, ρ⟩ (fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  obtain ⟨v, hv⟩ := pre_values m hpre c
  obtain ⟨l, hl⟩ := pre_params m hpre c
  obtain ⟨a, ha⟩ := lamv_real _ l hl
  exact ⟨((h.1 c).1 6).trans (arrAt6 m c v hv a ha),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).1 0).trans (((dats m 0 c).arrAt_in 0 rfl _).trans (V_main_arg3 m c)),
    ((h.1 c).2 main_arg4 (Pipeline.mem_restRefs_of main_arg4 (by decide) (by decide))).trans (V_main_arg4 m c)⟩

end

/-- Both programs end with the closed form. -/
theorem algebraic : Cert.algebraic_KernelIdeal_ReferenceIdeal_pre_finite := by
  intro m g m' g' hpre hargs
  refine ⟨_, run_value m g hpre, ?_⟩
  refine (θ_run _ _ _).mono (fun r h c => ⟨(h c).1.trans ?_, (h c).2⟩) (Cert.ReferenceIdeal.Value.run m' g')
  obtain ⟨e0, e1, e2, e3, e4⟩ := hargs c
  rw [Cert.ReferenceIdeal.Read.val_main_v66_eq, e0, e1, e2, e3, e4]
  exact ref_G _ _ _ _ _

end Cert.Proof
-- ==== Proof.Norm.lean ====
/-
  The output projection with its residual sum and layer norm: what a block of 512 rows computes, the array the kernel leaves,
  and the reference's, as one closed form.
-/
module

public import proofs.«01_k».proof.Proof.Gen.Kernel3Ideal.Value
public import proofs.«01_k».proof.Proof.Gen.Reference3Ideal.Read
public import Idealize.ShloMosaic.Lib.ValueIdx
public import Idealize.ShloMosaic.Lib.ValueLayout
public import Idealize.ShloMosaic.Lib.ValueLayoutCasts
public import Idealize.ShloMosaic.Lib.Pipeline.ValueKit.Geometry

@[expose] public section

set_option maxRecDepth 16384

noncomputable section

namespace Cert.Norm

open Idealize.ShloMosaic Idealize.ShloMosaic.TcCoe Idealize.ShloMosaic.ValueIdx

abbrev M2 : Shape := ⟨2, ![1024, 1024]⟩
abbrev X3 : Shape := ⟨3, ![8, 8192, 1024]⟩
abbrev V1 : Shape := ⟨1, ![1024]⟩

/-- A row's mean. -/
def mean (y : Fin 1024 → EReal) : EReal := Ideal.div (∑ k : Fin 1024, y k) (Ideal.ofBits .f32 0x44800000#32)

/-- The layer norm of a row. -/
def lnorm (y : Fin 1024 → EReal) (g b : EReal) (j : Fin 1024) : EReal :=
  (y j - mean y) * Ideal.rsqrt (mean (fun k => (y k - mean y) * (y k - mean y)) + Ideal.ofBits .f32 0x3727C5AC#32) * g + b

/-- The residual sum of a row: the scaled input and the projected mixture with its bias. -/
def resid (x o : Fin 1024 → EReal) (w : M2.Idx → EReal) (b : Fin 1024 → EReal) (k : Fin 1024) : EReal :=
  Ideal.ofBits .f32 0x3FB504F3#32 * x k + ((∑ i : Fin 1024, o i * w (ix2 i k)) + b k)

/-- The batch and the position of a row. -/
def rb (r : Fin 65536) : Fin 8 := ⟨r.val / 8192, by have := r.isLt; omega⟩
def rs (r : Fin 65536) : Fin 8192 := ⟨r.val % 8192, Nat.mod_lt _ (by norm_num)⟩

/-- The closed form. -/
def G (x o : X3.Idx → EReal) (w : M2.Idx → EReal) (b g beta : V1.Idx → EReal) (r : Fin 65536) (j : Fin 1024) : EReal :=
  lnorm (resid (fun k => x (ix3 (rb r) (rs r) k)) (fun k => o (ix3 (rb r) (rs r) k)) w (fun k => b (ix1 k))) (g (ix1 j)) (beta (ix1 j)) j

end Cert.Norm

namespace Cert.Kernel3Ideal.Hand

open Cert.Kernel3Ideal Cert.Kernel3Ideal.Gen Cert.Norm
open Idealize.ShloMosaic Idealize.ShloMosaic.TcCoe Idealize.ShloMosaic.ValueIdx

/-- A row's index under the reduced columns. -/
theorem lift_row {m n : ℕ} (h : (⟨2, ![m, n]⟩ : Shape).Reduces [1] ⟨1, ![m]⟩) (t : Fin m)
    (k : Fin ((⟨2, ![m, n]⟩ : Shape).size 1)) : h.lift (ix1 t) k = ix2 t (⟨k.val, k.isLt⟩ : Fin n) := by
  funext a
  match a with
  | ⟨0, _⟩ => rfl
  | ⟨1, _⟩ => rfl

/-- A row sum. -/
theorem rowsum (x : FVec Ideal S512x1024 .f32) (r : Fin 512) :
    multiReduction .add [1] S512 x 0x00000000#32 reduces_S512x1024_S512 (.inl rfl) rfl (ix1 r)
      = ∑ k : Fin 1024, x (ix2 r k) := by
  refine (Ideal.multiReduction_add_single (a := (1 : Fin S512x1024.rank)) x _ reduces_S512x1024_S512 _ _ (ix1 r)).trans ?_
  exact Finset.sum_congr rfl fun k _ => congrArg x (lift_row _ r k)

/-- The product of a block of rows. -/
theorem dotP (x : FVec Ideal S512x1024 .bf16) (y : FVec Ideal S1024x1024 .bf16) (r : Fin 512) (c : Fin 1024) :
    matmul dot_S512x1024_S1024x1024_S512x1024_1_0_0_1_n_n none x y (constant S512x1024 .f32 0x00000000#32) (ix2 r c)
      = ∑ i : Fin 1024, x (ix2 r i) * y (ix2 i c) := by
  simp only [matmul]
  rw [Ideal.matmul_constant_zero_apply]
  rw [← Equiv.sum_comp (ValueIdx.contrEquiv1 dot_S512x1024_S1024x1024_S512x1024_1_0_0_1_n_n 1024 rfl rfl).symm]
  refine Finset.sum_congr rfl fun i _ => ?_
  have hk := ValueIdx.contrEquiv1_symm_val dot_S512x1024_S1024x1024_S512x1024_1_0_0_1_n_n 1024 rfl rfl i
  refine congrArg₂ (· * ·) (congrArg x ?_) (congrArg y ?_)
  · funext a
    match a with
    | ⟨0, _⟩ => rfl
    | ⟨1, _⟩ => exact Fin.ext hk
  · funext a
    match a with
    | ⟨0, _⟩ => exact Fin.ext hk
    | ⟨1, _⟩ => rfl

/-- The residual sum of a block. -/
def ymat (v0 : Vec Ideal S512x1024 .bf16) (v2 : Vec Ideal S1024x1024 .bf16) (v5 : Vec Ideal S1x1024 .f32) (v9 : Vec Ideal S512x1024 .f32) :
    FVec Ideal S512x1024 .f32 :=
  addf (mulf (broadcast S512x1024 (Scalar.ofBits .f32 0x3FB504F3#32)) v9)
    (addf (matmul (F := Ideal) (φ₁ := .bf16) (φ₂ := .bf16) dot_S512x1024_S1024x1024_S512x1024_1_0_0_1_n_n none v0 v2 (constant S512x1024 .f32 0x00000000#32))
      (broadcastTo S512x1024 v5 broadcasts_S1x1024_S512x1024))

/-- A column of row means. -/
def mcol (y : FVec Ideal S512x1024 .f32) : FVec Ideal S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- The rows less their means. -/
def cent (y : FVec Ideal S512x1024 .f32) : FVec Ideal S512x1024 .f32 :=
  subf y (broadcastTo S512x1024 (mcol y) broadcasts_S512x1_S512x1024)

/-- What the body stores is the layer norm of the residual sum. -/
theorem pay1_eq (v0 : Vec Ideal S512x1024 .bf16) (v2 : Vec Ideal S1024x1024 .bf16) (v5 : Vec Ideal S1x1024 .f32) (v9 : Vec Ideal S512x1024 .f32)
    (v14 v16 : Vec Ideal S1x1024 .f32) :
    k0_pay1 v0 v2 v5 v9 v14 v16
      = addf (mulf (mulf (cent (ymat v0 v2 v5 v9)) (broadcastTo S512x1024 (rsqrt (addf (mcol (mulf (cent (ymat v0 v2 v5 v9)) (cent (ymat v0 v2 v5 v9))))
          (broadcast S512x1 (Scalar.ofBits .f32 0x3727C5AC#32)))) broadcasts_S512x1_S512x1024)) (broadcastTo S512x1024 v14 broadcasts_S1x1024_S512x1024))
        (broadcastTo S512x1024 v16 broadcasts_S1x1024_S512x1024) := by
  unfold k0_pay1
  simp only [shapeCast_self]
  rfl

theorem ymat_apply (v0 : Vec Ideal S512x1024 .bf16) (v2 : Vec Ideal S1024x1024 .bf16) (v5 : Vec Ideal S1x1024 .f32) (v9 : Vec Ideal S512x1024 .f32)
    (r : Fin 512) (k : Fin 1024) :
    ymat v0 v2 v5 v9 (ix2 r k) = resid (fun k => v9 (ix2 r k)) (fun k => v0 (ix2 r k)) v2 (fun k => v5 (ix2 0 k)) k := by
  unfold ymat resid
  exact congrArg (fun z => Ideal.ofBits .f32 0x3FB504F3#32 * v9 (ix2 r k) + z)
    (congrArg₂ (· + ·) (dotP v0 v2 r k) (broadcastTo_1b_ab_apply v5 broadcasts_S1x1024_S512x1024 r k))

/-- A column spread over the lanes. -/
theorem bcol (v : FVec Ideal S512x1 .f32) (r : Fin 512) (k : Fin 1024) :
    broadcastTo S512x1024 v broadcasts_S512x1_S512x1024 (ix2 r k) = v (ix2 r 0) :=
  broadcastTo_apply v _ (ix2 r k) (ix2 r 0) (fun a => match a with
    | ⟨0, _⟩ => rfl
    | ⟨1, _⟩ => rfl)

theorem mcol_apply (y : FVec Ideal S512x1024 .f32) (r : Fin 512) : mcol y (ix2 r 0) = mean (fun k => y (ix2 r k)) := by
  unfold mcol mean
  show Ideal.div (shapeCast S512x1 _ _ (ix2 r 0)) _ = _
  refine congrArg (fun z => Ideal.div z (Ideal.ofBits .f32 0x44800000#32)) ?_
  refine (shapeCast_a_a1_apply _ _ r 0).trans ?_
  rw [rowsum]

theorem cent_apply (y : FVec Ideal S512x1024 .f32) (r : Fin 512) (k : Fin 1024) :
    cent y (ix2 r k) = y (ix2 r k) - mean (fun k => y (ix2 r k)) := by
  unfold cent
  show y (ix2 r k) - broadcastTo S512x1024 (mcol y) _ (ix2 r k) = _
  rw [bcol, mcol_apply]

/-- An element of what the body stores. -/
theorem pay1_apply (v0 : Vec Ideal S512x1024 .bf16) (v2 : Vec Ideal S1024x1024 .bf16) (v5 : Vec Ideal S1x1024 .f32) (v9 : Vec Ideal S512x1024 .f32)
    (v14 v16 : Vec Ideal S1x1024 .f32) (r : Fin 512) (j : Fin 1024) :
    k0_pay1 v0 v2 v5 v9 v14 v16 (ix2 r j)
      = lnorm (resid (fun k => v9 (ix2 r k)) (fun k => v0 (ix2 r k)) v2 (fun k => v5 (ix2 0 k))) (v14 (ix2 0 j)) (v16 (ix2 0 j)) j := by
  rw [pay1_eq]
  show cent (ymat v0 v2 v5 v9) (ix2 r j) * broadcastTo S512x1024 _ _ (ix2 r j) * broadcastTo S512x1024 v14 _ (ix2 r j)
    + broadcastTo S512x1024 v16 _ (ix2 r j) = _
  rw [bcol, broadcastTo_1b_ab_apply v14, broadcastTo_1b_ab_apply v16]
  show cent (ymat v0 v2 v5 v9) (ix2 r j) * Ideal.rsqrt (mcol _ (ix2 r 0) + _) * v14 (ix2 0 j) + v16 (ix2 0 j) = _
  rw [mcol_apply]
  have hc : ∀ k, cent (ymat v0 v2 v5 v9) (ix2 r k) = resid (fun k => v9 (ix2 r k)) (fun k => v0 (ix2 r k)) v2 (fun k => v5 (ix2 0 k)) k
      - mean (resid (fun k => v9 (ix2 r k)) (fun k => v0 (ix2 r k)) v2 (fun k => v5 (ix2 0 k))) := fun k => by
    rw [cent_apply, ymat_apply]
    exact congrArg (fun f => _ - mean f) (funext fun i => ymat_apply v0 v2 v5 v9 r i)
  unfold lnorm
  rw [hc]
  refine congrArg (fun f => _ * Ideal.rsqrt (mean f + _) * v14 (ix2 0 j) + v16 (ix2 0 j)) (funext fun k => ?_)
  show cent (ymat v0 v2 v5 v9) (ix2 r k) * cent (ymat v0 v2 v5 v9) (ix2 r k) = _
  rw [hc]

/-! ## The blocks -/

abbrev pt (t : Fin cfg0.N) : Fin 128 := grid0.coords t 0

theorem word (t : Fin cfg0.N) : (BitVec.ofNat 32 (grid0.coords t 0).val).toNat = (pt t).val := by
  rw [BitVec.toNat_ofNat, Nat.mod_eq_of_lt (lt_trans (pt t).isLt (by norm_num))]

/-- Row `r` of block `t`. -/
def brow (t : Fin 128) (r : Fin 512) : Fin 65536 := ⟨512 * t.val + r.val, by have := t.isLt; have := r.isLt; omega⟩

theorem idx0 (t : Fin cfg0.N) : cc0_transform_0 (grid0.coords t) = ![(pt t).val, 0] := by
  unfold cc0_transform_0
  dsimp only
  rw [word]
  rfl
theorem idx1 (t : Fin cfg0.N) : cc0_transform_1 (grid0.coords t) = ![(pt t).val, 0] := idx0 t
theorem idx6 (t : Fin cfg0.N) : cc0_transform_6 (grid0.coords t) = ![(pt t).val, 0] := idx0 t

theorem blk0_apply (X : Vec Ideal S65536x1024 .f32) (t : Fin cfg0.N) (r : Fin 512) (k : Fin 1024) :
    (win0_0.blk t).view.read (Elt Ideal) X (ix2 r k) = X (ix2 (brow (pt t) r) k) := by
  refine congrArg X (funext fun a => Fin.ext ?_)
  match a with
  | ⟨0, _⟩ =>
    show cc0_transform_0 (grid0.coords t) 0 * 512 + 1 * r.val = 512 * (pt t).val + r.val
    rw [idx0]; show (pt t).val * 512 + 1 * r.val = _; omega
  | ⟨1, _⟩ => show cc0_transform_0 (grid0.coords t) 1 * 1024 + 1 * k.val = k.val; rw [idx0]; show 0 * 1024 + 1 * k.val = _; omega

theorem blk1_apply (X : Vec Ideal S65536x1024 .bf16) (t : Fin cfg0.N) (r : Fin 512) (k : Fin 1024) :
    (win0_1.blk t).view.read (Elt Ideal) X (ix2 r k) = X (ix2 (brow (pt t) r) k) := by
  refine congrArg X (funext fun a => Fin.ext ?_)
  match a with
  | ⟨0, _⟩ =>
    show cc0_transform_1 (grid0.coords t) 0 * 512 + 1 * r.val = 512 * (pt t).val + r.val
    rw [idx1]; show (pt t).val * 512 + 1 * r.val = _; omega
  | ⟨1, _⟩ => show cc0_transform_1 (grid0.coords t) 1 * 1024 + 1 * k.val = k.val; rw [idx1]; show 0 * 1024 + 1 * k.val = _; omega

theorem blk2_apply (X : Vec Ideal S1024x1024 .bf16) (t : Fin cfg0.N) : (win0_2.blk t).view.read (Elt Ideal) X = X := by
  funext y
  refine congrArg X (funext fun a => Fin.ext ?_)
  match a with
  | ⟨0, _⟩ => show 0 * 1024 + 1 * (y 0).val = (y 0).val; omega
  | ⟨1, _⟩ => show 0 * 1024 + 1 * (y 1).val = (y 1).val; omega

theorem blk3_apply (X : Vec Ideal S1x1024 .f32) (t : Fin cfg0.N) : (win0_3.blk t).view.read (Elt Ideal) X = X := by
  funext y
  refine congrArg X (funext fun a => Fin.ext ?_)
  match a with
  | ⟨0, _⟩ => show 0 * 1 + 1 * (y 0).val = (y 0).val; omega
  | ⟨1, _⟩ => show 0 * 1024 + 1 * (y 1).val = (y 1).val; omega

theorem blk4_apply (X : Vec Ideal S1x1024 .f32) (t : Fin cfg0.N) : (win0_4.blk t).view.read (Elt Ideal) X = X := blk3_apply X t
theorem blk5_apply (X : Vec Ideal S1x1024 .f32) (t : Fin cfg0.N) : (win0_5.blk t).view.read (Elt Ideal) X = X := blk3_apply X t

theorem blk6_emb (t : Fin cfg0.N) (r : Fin 512) (k : Fin 1024) :
    (win0_6.blk t).view.emb (ix2 r k) = ix2 (brow (pt t) r) k := by
  refine funext fun a => Fin.ext ?_
  match a with
  | ⟨0, _⟩ =>
    show cc0_transform_6 (grid0.coords t) 0 * 512 + 1 * r.val = 512 * (pt t).val + r.val
    rw [idx6]; show (pt t).val * 512 + 1 * r.val = _; omega
  | ⟨1, _⟩ => show cc0_transform_6 (grid0.coords t) 1 * 1024 + 1 * k.val = k.val; rw [idx6]; show 0 * 1024 + 1 * k.val = _; omega

/-! ## The host's arrays -/

variable (m : (ℓ : Loc nD τ sig) → Buf (Elt Ideal) ℓ) (c : Dev nD)

theorem V_v0 : V m c main_v0 = (shapeCast S65536x1024 (m ((c : Thread nD τ).loc main_arg0)) shapeCasts_S8x8192x1024_S65536x1024 : Vec Ideal S65536x1024 .f32) := by
  show StableHlo.after hostOps0 _ _ = _
  unfold hostOps0
  after_results
  rfl
theorem V_v2 : V m c main_v2 = (truncf .bf16 (shapeCast S65536x1024 (m ((c : Thread nD τ).loc main_arg1)) shapeCasts_S8x8192x1024_S65536x1024 : FVec Ideal S65536x1024 .f32) bitsLt_bf16_f32 : Vec Ideal S65536x1024 .bf16) := by
  show StableHlo.after hostOps0 _ _ = _
  unfold hostOps0
  after_results
  rfl
theorem V_v3 : V m c main_v3 = (truncf (F := Ideal) (s := S1024x1024) (φ := .f32) .bf16 (m ((c : Thread nD τ).loc main_arg2)) bitsLt_bf16_f32 : FVec Ideal S1024x1024 .bf16) := by
  show StableHlo.after hostOps0 _ _ = _
  unfold hostOps0
  after_results
theorem V_v4 : V m c main_v4 = (shapeCast S1x1024 (m ((c : Thread nD τ).loc main_arg3)) shapeCasts_S1024_S1x1024 : Vec Ideal S1x1024 .f32) := by
  show StableHlo.after hostOps0 _ _ = _
  unfold hostOps0
  after_results
  rfl
theorem V_v5 : V m c main_v5 = (shapeCast S1x1024 (m ((c : Thread nD τ).loc main_arg4)) shapeCasts_S1024_S1x1024 : Vec Ideal S1x1024 .f32) := by
  show StableHlo.after hostOps0 _ _ = _
  unfold hostOps0
  after_results
  rfl
theorem V_v6 : V m c main_v6 = (shapeCast S1x1024 (m ((c : Thread nD τ).loc main_arg5)) shapeCasts_S1024_S1x1024 : Vec Ideal S1x1024 .f32) := by
  show StableHlo.after hostOps0 _ _ = _
  unfold hostOps0
  after_results
  rfl

/-- The rows of the input as a matrix. -/
theorem rows_apply (x : Vec Ideal S8x8192x1024 .f32) (r : Fin 65536) (k : Fin 1024) :
    (shapeCast S65536x1024 x shapeCasts_S8x8192x1024_S65536x1024) (ix2 r k) = x (ix3 (rb r) (rs r) k) :=
  shapeCast_apply _ _ (ix2 r k) (ix3 (rb r) (rs r) k) (by
    rw [Shape.rowMajor_val_two, Shape.rowMajor_val_three]
    show (r.val / 8192 * 8192 + r.val % 8192) * 1024 + k.val = r.val * 1024 + k.val
    omega)

theorem x_eq (t : Fin cfg0.N) (r : Fin 512) (k : Fin 1024) : (iblk m c 0 t : Vec Ideal S512x1024 .f32) (ix2 r k)
    = m ((c : Thread nD τ).loc main_arg0) (ix3 (rb (brow (pt t) r)) (rs (brow (pt t) r)) k) := by
  have h : (iblk m c 0 t : Vec Ideal S512x1024 .f32) (ix2 r k) = _ := blk0_apply (V m c main_v0) t r k
  rw [h, V_v0]
  exact rows_apply _ _ _
theorem o_eq (t : Fin cfg0.N) (r : Fin 512) (k : Fin 1024) : (iblk m c 1 t : Vec Ideal S512x1024 .bf16) (ix2 r k)
    = m ((c : Thread nD τ).loc main_arg1) (ix3 (rb (brow (pt t) r)) (rs (brow (pt t) r)) k) := by
  have h : (iblk m c 1 t : Vec Ideal S512x1024 .bf16) (ix2 r k) = _ := blk1_apply (V m c main_v2) t r k
  rw [h, V_v2, ValueIdx.truncf_apply]
  exact rows_apply _ _ _
theorem w_eq (t : Fin cfg0.N) : (iblk m c 2 t : S1024x1024.Idx → EReal) = m ((c : Thread nD τ).loc main_arg2) := by
  have h : iblk m c 2 t = _ := (blk2_apply (V m c main_v3) t).trans (V_v3 m c)
  rw [h]
  rfl
theorem b_eq (t : Fin cfg0.N) (k : Fin 1024) : (iblk m c 3 t : Vec Ideal S1x1024 .f32) (ix2 0 k) = m ((c : Thread nD τ).loc main_arg3) (ix1 k) := by
  have h : iblk m c 3 t = _ := (blk3_apply (V m c main_v4) t).trans (V_v4 m c)
  rw [h]
  exact shapeCast_a_1a_apply _ _ 0 k
theorem g_eq (t : Fin cfg0.N) (k : Fin 1024) : (iblk m c 4 t : Vec Ideal S1x1024 .f32) (ix2 0 k) = m ((c : Thread nD τ).loc main_arg4) (ix1 k) := by
  have h : iblk m c 4 t = _ := (blk4_apply (V m c main_v5) t).trans (V_v5 m c)
  rw [h]
  exact shapeCast_a_1a_apply _ _ 0 k
theorem beta_eq (t : Fin cfg0.N) (k : Fin 1024) : (iblk m c 5 t : Vec Ideal S1x1024 .f32) (ix2 0 k) = m ((c : Thread nD τ).loc main_arg5) (ix1 k) := by
  have h : iblk m c 5 t = _ := (blk5_apply (V m c main_v6) t).trans (V_v6 m c)
  rw [h]
  exact shapeCast_a_1a_apply _ _ 0 k

/-- What the body stores, its loads and its store being of whole buffers. -/
theorem out_eq (x0 : Vec Ideal S512x1024 .f32) (x1 : Vec Ideal S512x1024 .bf16) (x2 : Vec Ideal S1024x1024 .bf16) (x3 x4 x5 : Vec Ideal S1x1024 .f32) :
    out0_6 x0 x1 x2 x3 x4 x5 = k0_pay1 x1 x2 x3 x0 x4 x5 := by
  have hz : (![0, 0] : Fin 2 → ℕ) = fun _ => 0 := by
    funext a
    match a with
    | ⟨0, _⟩ => rfl
    | ⟨1, _⟩ => rfl
  unfold out0_6
  rw [View.canon_unit_zero hz, View.ld_unit_zero hz, View.ld_unit_zero hz, View.ld_unit_zero hz, View.ld_unit_zero hz, View.ld_unit_zero hz,
    View.ld_unit_zero hz]

/-- The closed form as an array of the arguments. -/
def Garr (x o : Vec Ideal S8x8192x1024 .f32) (w : Vec Ideal S1024x1024 .f32) (b g beta : Vec Ideal S1024 .f32) : Vec Ideal S65536x1024 .f32 := fun i =>
  G x o w b g beta (i 0) (i 1)

theorem after_eq (t : Fin cfg0.N) (y : S512x1024.Idx) : (out0_6 (iblk m c 0 t) (iblk m c 1 t) (iblk m c 2 t) (iblk m c 3 t) (iblk m c 4 t) (iblk m c 5 t)) y
    = Garr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) ((win0_6.blk t).view.emb y) := by
  obtain ⟨r, k, rfl⟩ : ∃ (r : Fin 512) (k : Fin 1024), y = ix2 r k := ⟨y 0, y 1, eq_ix2 y⟩
  rw [show (win0_6.blk t).view.emb (ix2 r k) = _ from blk6_emb t r k, out_eq]
  refine (pay1_apply (iblk m c 1 t) (iblk m c 2 t) (iblk m c 3 t) (iblk m c 0 t) (iblk m c 4 t) (iblk m c 5 t) r k).trans ?_
  rw [g_eq, beta_eq, w_eq]
  show _ = G _ _ _ _ _ _ (brow (pt t) r) k
  unfold G
  simp only [x_eq, o_eq, b_eq]

theorem arrAt6 : (dats m 0 c).arrAt 6 cfg0.N
    = Garr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t hf y => ?_
  refine Eq.trans (congrFun (after0_6 m c t) y) ?_
  exact after_eq m c t y

end Cert.Kernel3Ideal.Hand

namespace Cert.Reference3Ideal.Hand

open Cert.Reference3Ideal Cert.Reference3Ideal.Gen Cert.Reference3Ideal.Read Cert.Norm
open Idealize.ShloMosaic Idealize.ShloMosaic.ValueIdx

variable (x0 x1 : (⟨S8x8192x1024, .f32⟩ : BufTy).Contents (Elt Ideal)) (x2 : (⟨S1024x1024, .f32⟩ : BufTy).Contents (Elt Ideal))
  (x3 x4 x5 : (⟨S1024, .f32⟩ : BufTy).Contents (Elt Ideal))

/-- The residual sum of row `(b, s)`. -/
abbrev yrow (b : Fin 8) (s : Fin 8192) : Fin 1024 → EReal :=
  resid (fun k => x0 (ix3 b s k)) (fun k => x1 (ix3 b s k)) x2 (fun k => x3 (ix1 k))

theorem r6 (b : Fin 8) (s : Fin 8192) (k : Fin 1024) : val_main_v6 (F := Ideal) x0 x1 x2 x3 (ix3 b s k) = yrow x0 x1 x2 x3 b s k := by
  rw [val_main_v6_apply, val_main_v5_apply, val_main_v4_apply, val_main_cst_apply, val_main_v3_apply, val_main_v0_apply, val_main_v2_apply,
    val_main_v1_apply]
  refine congrArg₂ (fun p q => Ideal.ofBits .f32 0x3FB504F3#32 * x0 (ix3 b s k) + (p + q)) (Finset.sum_congr rfl fun i _ => ?_) (congrArg x3 ?_)
  · refine congrArg₂ (· * ·) (congrArg x1 ?_) (congrArg x2 ?_)
    · funext a
      match a with
      | ⟨0, _⟩ => rfl
      | ⟨1, _⟩ => rfl
      | ⟨2, _⟩ => rfl
    · funext a
      match a with
      | ⟨0, _⟩ => rfl
      | ⟨1, _⟩ => rfl
  · funext a
    match a with
    | ⟨0, _⟩ => rfl

theorem r7 (b : Fin 8) (s : Fin 8192) : val_main_v7 (F := Ideal) x0 x1 x2 x3 (ix2 b s) = ∑ k : Fin 1024, yrow x0 x1 x2 x3 b s k := by
  rw [val_main_v7_apply, val_main_cst_0_apply]
  refine (congrArg (· + _) Ideal.ofBits_zero_f32).trans ((zero_add _).trans ?_)
  refine Finset.sum_congr rfl fun k _ => ?_
  rw [← r6]
  refine congrArg (val_main_v6 (F := Ideal) x0 x1 x2 x3) ?_
  funext a
  match a with
  | ⟨0, _⟩ => rfl
  | ⟨1, _⟩ => rfl
  | ⟨2, _⟩ => rfl

theorem r10 (b : Fin 8) (s : Fin 8192) : val_main_v10 (F := Ideal) x0 x1 x2 x3 (ix3 b s 0) = mean (yrow x0 x1 x2 x3 b s) := by
  rw [val_main_v10_apply, val_main_v8_apply, val_main_v9_apply]
  have h : val_main_v7 (F := Ideal) x0 x1 x2 x3 (idx_main_v8 (ix3 b s 0)) = _ := (congrArg _ (by
    funext a
    match a with
    | ⟨0, _⟩ => rfl
    | ⟨1, _⟩ => rfl : idx_main_v8 (ix3 b s 0) = ix2 b s)).trans (r7 x0 x1 x2 x3 b s)
  rw [h]
  rfl

theorem r12 (b : Fin 8) (s : Fin 8192) (k : Fin 1024) : val_main_v12 (F := Ideal) x0 x1 x2 x3 (ix3 b s k)
    = yrow x0 x1 x2 x3 b s k - mean (yrow x0 x1 x2 x3 b s) := by
  rw [val_main_v12_apply, val_main_v11_apply, r6, show idx_main_v11 (ix3 b s k) = ix3 b s 0 from by
    funext a
    match a with
    | ⟨0, _⟩ => rfl
    | ⟨1, _⟩ => rfl
    | ⟨2, _⟩ => rfl, r10]
  rfl

theorem r19 (b : Fin 8) (s : Fin 8192) (k : Fin 1024) : val_main_v19 (F := Ideal) x0 x1 x2 x3 (ix3 b s k)
    = yrow x0 x1 x2 x3 b s k - mean (yrow x0 x1 x2 x3 b s) := by
  rw [val_main_v19_apply, val_main_v18_apply, r6, show idx_main_v18 (ix3 b s k) = ix3 b s 0 from by
    funext a
    match a with
    | ⟨0, _⟩ => rfl
    | ⟨1, _⟩ => rfl
    | ⟨2, _⟩ => rfl, r10]
  rfl

theorem r17 (b : Fin 8) (s : Fin 8192) : val_main_v17 (F := Ideal) x0 x1 x2 x3 (ix3 b s 0)
    = mean (fun k => (yrow x0 x1 x2 x3 b s k - mean (yrow x0 x1 x2 x3 b s)) * (yrow x0 x1 x2 x3 b s k - mean (yrow x0 x1 x2 x3 b s))) := by
  rw [val_main_v17_apply, val_main_v15_apply, val_main_v16_apply, val_main_v14_apply]
  refine congrArg (fun z => Ideal.div z (Ideal.ofBits .f32 0x44800000#32)) ?_
  refine (congrArg (· + _) Ideal.ofBits_zero_f32).trans ((zero_add _).trans ?_)
  refine Finset.sum_congr rfl fun k _ => ?_
  rw [show idx_main_v14 (idx_main_v15 (ix3 b s 0)) k = ix3 b s k from by
    funext a
    match a with
    | ⟨0, _⟩ => rfl
    | ⟨1, _⟩ => rfl
    | ⟨2, _⟩ => rfl, val_main_v13_apply, r12]
  rfl

theorem r30 (b : Fin 8) (s : Fin 8192) (j : Fin 1024) : val_main_v30 (F := Ideal) x0 x1 x2 x3 x4 x5 (ix3 b s j)
    = lnorm (yrow x0 x1 x2 x3 b s) (x4 (ix1 j)) (x5 (ix1 j)) j := by
  rw [val_main_v30_apply, val_main_v27_apply, val_main_v24_apply, val_main_v23_apply, val_main_v22_apply, val_main_v21_apply, r19,
    val_main_v26_apply, val_main_v25_apply, val_main_v29_apply, val_main_v28_apply, show idx_main_v23 (ix3 b s j) = ix3 b s 0 from by
    funext a
    match a with
    | ⟨0, _⟩ => rfl
    | ⟨1, _⟩ => rfl
    | ⟨2, _⟩ => rfl, r17, show idx_main_v25 (idx_main_v26 (ix3 b s j)) = ix1 j from by
    funext a
    match a with
    | ⟨0, _⟩ => rfl, show idx_main_v28 (idx_main_v29 (ix3 b s j)) = ix1 j from by
    funext a
    match a with
    | ⟨0, _⟩ => rfl, Ideal.hostUnary_rsqrt_def]
  rfl

/-- The reference's result is the closed form. -/
theorem r31 (i : S65536x1024.Idx) : val_main_v31 (F := Ideal) x0 x1 x2 x3 x4 x5 i = G x0 x1 x2 x3 x4 x5 (i 0) (i 1) := by
  have h0 : (i 0).val < 65536 := (i 0).isLt
  have h1 : (i 1).val < 1024 := (i 1).isLt
  rw [val_main_v31_apply, show idx_main_v31 i = ix3 (rb (i 0)) (rs (i 0)) (i 1) from by
    funext a
    match a with
    | ⟨0, _⟩ => exact Fin.ext (by show ((i 0).val * 1024 + (i 1).val) / 8388608 = (i 0).val / 8192; omega)
    | ⟨1, _⟩ => exact Fin.ext (by show ((i 0).val * 1024 + (i 1).val) / 1024 % 8192 = (i 0).val % 8192; omega)
    | ⟨2, _⟩ => exact Fin.ext (by show ((i 0).val * 1024 + (i 1).val) % 1024 = (i 1).val; omega)]
  exact r30 x0 x1 x2 x3 x4 x5 _ _ _

end Cert.Reference3Ideal.Hand
-- ==== Proof.NormClaims.lean ====
/-
  The claims about the output projection with its residual layer norm: the frames, and that both programs end with the
  closed form.
-/
module

public import proofs.«01_k».proof.Defs
public import proofs.«01_k».proof.Proof.Norm
public import proofs.«01_k».proof.Proof.Gen.Kernel3
public import proofs.«01_k».proof.Proof.Gen.Reference3Ideal.Run

@[expose] public section

set_option maxRecDepth 16384

noncomputable section

namespace Cert.NormClaims

open Idealize.ShloMosaic Idealize.SL.Sem Idealize.ShloMosaic.TcCoe

theorem main_eq : Cert.Kernel3.main (F := Bits) = Cert.Kernel3Ideal.main (F := Bits) := rfl
theorem defs₀_eq : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) => rfl
theorem defs_eq : Cert.Kernel3.defs (F := Bits) = Cert.Kernel3Ideal.defs (F := Bits) :=
  congrArg (Pipeline.defs (Cert.Kernel3Ideal.pcfgs (F := Bits))) defs₀_eq

/-- The printed kernel's frame: its text is the idealized one's. -/
theorem frame_printed : Cert.quiescent_Kernel3 := by
  intro m ρ _
  have h := Cert.Kernel3Ideal.Gen.frame (F := Bits) m ρ
  rw [← defs_eq] at h
  exact h

/-- The idealized kernel's frame. -/
theorem frame_ideal : Cert.quiescent_Kernel3Ideal := fun m ρ _ => Cert.Kernel3Ideal.Gen.frame m ρ

/-- The reference's frame. -/
theorem frame_ref : Cert.quiescent_Reference3Ideal := fun m ρ _ =>
  (θ_run _ _ _).mono (fun _ h => ⟨fun c => (h c).2, sem_eq_zero_of_no_sems rfl _⟩) (Cert.Reference3Ideal.Value.run m ρ)

section
open Cert.Kernel3Ideal Cert.Kernel3Ideal.Gen Cert.Kernel3Ideal.Hand

/-- The kernel's run ends with the closed form in its result array. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
        = Garr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (arrAt6 m c), (h c).2⟩) (Cert.Kernel3Ideal.Value.run_blocks m ρ)

end

/-- Both programs end with the closed form. -/
theorem algebraic : Cert.algebraic_Kernel3Ideal_Reference3Ideal := by
  intro m g m' g' _ hargs
  refine ⟨_, run_value m g, ?_⟩
  refine (θ_run _ _ _).mono (fun r h c => ⟨(h c).1.trans ?_, (h c).2⟩) (Cert.Reference3Ideal.Value.run m' g')
  obtain ⟨e0, e1, e2, e3, e4, e5⟩ := hargs c
  rw [Cert.Reference3Ideal.Read.val_main_v31_eq, e0, e1, e2, e3, e4, e5]
  exact funext fun i => Cert.Reference3Ideal.Hand.r31 _ _ _ _ _ _ i

end Cert.NormClaims
-- ==== Proof.Rope.lean ====
/-
  The projection to queries, keys and values with the rotary embedding: what a block of 512 rows computes, column by column.
-/
module

public import proofs.«01_k».proof.Proof.Gen.Kernel2Ideal.Value
public import Idealize.ShloMosaic.Lib.ValueIdx
public import Idealize.ShloMosaic.Lib.ValueLayout
public import Idealize.ShloMosaic.Lib.ValueLayoutCasts
public import Idealize.ShloMosaic.Lib.KernelVsHost
public import Idealize.ShloMosaic.Lib.Pipeline.ValueKit.Geometry

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.ValueIdx

/-- The product of a block of rows. -/
theorem dotP (x : FVec Ideal S512x1024 .bf16) (y : FVec Ideal S1024x512 .bf16) (r : Fin 512) (c : Fin 512) :
    matmul dot_S512x1024_S1024x512_S512x512_1_0_0_1_n_n none x y (constant S512x512 .f32 0x00000000#32) (ix2 r c)
      = ∑ i : Fin 1024, x (ix2 r i) * y (ix2 i c) := by
  simp only [matmul]
  rw [Ideal.matmul_constant_zero_apply]
  rw [← Equiv.sum_comp (ValueIdx.contrEquiv1 dot_S512x1024_S1024x512_S512x512_1_0_0_1_n_n 1024 rfl rfl).symm]
  refine Finset.sum_congr rfl fun i _ => ?_
  have hk := ValueIdx.contrEquiv1_symm_val dot_S512x1024_S1024x512_S512x512_1_0_0_1_n_n 1024 rfl rfl i
  refine congrArg₂ (· * ·) (congrArg x ?_) (congrArg y ?_)
  · funext a
    match a with
    | ⟨0, _⟩ => rfl
    | ⟨1, _⟩ => exact Fin.ext hk
  · funext a
    match a with
    | ⟨0, _⟩ => exact Fin.ext hk
    | ⟨1, _⟩ => rfl

/-- A chunk of 512 columns of the projection. -/
def chunk (x : FVec Ideal S512x1024 .bf16) (w : Vec Ideal S1024x512 .bf16) (b : Vec Ideal S1x512 .f32) : FVec Ideal S512x512 .f32 :=
  addf (matmul (F := Ideal) (φ₁ := .bf16) (φ₂ := .bf16) dot_S512x1024_S1024x512_S512x512_1_0_0_1_n_n none x
      (shapeCast S1024x512 w shapeCasts_S1024x512_S1024x512) (constant S512x512 .f32 0x00000000#32))
    (broadcastTo S512x512 (shapeCast S1x512 b shapeCasts_S1x512_S1x512) broadcasts_S1x512_S512x512)

/-- One column of the projection of a block's row, with its bias. -/
def bproj (x : FVec Ideal S512x1024 .bf16) (w : Vec Ideal S1024x3072 .bf16) (b : Vec Ideal S1x3072 .f32) (r : Fin 512) (j : Fin 3072) : EReal :=
  (∑ i : Fin 1024, x (ix2 r i) * w (ix2 i j)) + b (ix2 0 j)

theorem chunk_apply (x : FVec Ideal S512x1024 .bf16) (w : Vec Ideal S1024x3072 .bf16) (b : Vec Ideal S1x3072 .f32) (n0 : ℕ)
    (hw : ∀ a, (![0, n0] : Fin 2 → ℕ) a + S1024x512.size a ≤ S1024x3072.size a) (hb : ∀ a, (![0, n0] : Fin 2 → ℕ) a + S1x512.size a ≤ S1x3072.size a)
    (r : Fin 512) (q : Fin 512) (j : Fin 3072) (hj : j.val = n0 + q.val) :
    chunk x (View.ld w (Rect.unit (s := S1024x3072) ![0, n0] S1024x512.size hw)) (View.ld b (Rect.unit (s := S1x3072) ![0, n0] S1x512.size hb)) (ix2 r q)
      = bproj x w b r j := by
  unfold chunk bproj
  rw [shapeCast_self, shapeCast_self]
  refine congrArg₂ (· + ·) ((dotP x _ r q).trans (Finset.sum_congr rfl fun i _ => congrArg (x (ix2 r i) * ·) ?_)) ?_
  · refine congrArg w (funext fun a => Fin.ext ?_)
    match a with
    | ⟨0, _⟩ => show 0 + 1 * i.val = i.val; omega
    | ⟨1, _⟩ => show n0 + 1 * q.val = j.val; omega
  · refine (broadcastTo_1b_ab_apply _ broadcasts_S1x512_S512x512 r q).trans ?_
    refine congrArg b (funext fun a => Fin.ext ?_)
    match a with
    | ⟨0, _⟩ => rfl
    | ⟨1, _⟩ => show n0 + 1 * q.val = j.val; omega

/-- The rotary embedding of a group of 128 columns: the group and its two lane rotations, each by its table. -/
def rot (k0 : ℕ) (h : S512x512.Slices ![0, k0] S512x128) (a : FVec Ideal S512x512 .f32) (c s1 s2 : FVec Ideal S512x128 .f32) : FVec Ideal S512x128 .f32 :=
  addf (addf (mulf (extractStridedSlice S512x128 ![0, k0] a h) c)
      (mulf (dynamicRotate 1 96#32 none (extractStridedSlice S512x128 ![0, k0] a h) rotates_S512x128_d1) s1))
    (mulf (dynamicRotate 1 32#32 none (extractStridedSlice S512x128 ![0, k0] a h) rotates_S512x128_d1) s2)

/-- The lane 32 to the right, and the lane 32 to the left, in a group of 128. -/
def lR (l : Fin 128) : Fin 128 := ⟨(l.val + 32) % 128, Nat.mod_lt _ (by norm_num)⟩
def lL (l : Fin 128) : Fin 128 := ⟨(l.val + 96) % 128, Nat.mod_lt _ (by norm_num)⟩

theorem rotR (a : FVec Ideal S512x128 .f32) (r : Fin 512) (l : Fin 128) :
    dynamicRotate 1 96#32 none a rotates_S512x128_d1 (ix2 r l) = a (ix2 r (lR l)) :=
  dynamicRotate_apply 1 96#32 a _ (ix2 r l) (ix2 r (lR l)) (fun b => match b with
    | ⟨0, _⟩ => rfl
    | ⟨1, _⟩ => by
      show (l.val + 32) % 128 = (l.val + 128 - 96 % 128) % 128
      omega)
theorem rotL (a : FVec Ideal S512x128 .f32) (r : Fin 512) (l : Fin 128) :
    dynamicRotate 1 32#32 none a rotates_S512x128_d1 (ix2 r l) = a (ix2 r (lL l)) :=
  dynamicRotate_apply 1 32#32 a _ (ix2 r l) (ix2 r (lL l)) (fun b => match b with
    | ⟨0, _⟩ => rfl
    | ⟨1, _⟩ => by
      show (l.val + 96) % 128 = (l.val + 128 - 32 % 128) % 128
      omega)

theorem slice_col (k0 : ℕ) (hk : k0 + 128 ≤ 512) (h : S512x512.Slices ![0, k0] S512x128) (a : FVec Ideal S512x512 .f32) (r : Fin 512) (l : Fin 128) :
    extractStridedSlice S512x128 ![0, k0] a h (ix2 r l) = a (ix2 r (⟨k0 + l.val, by have := l.isLt; omega⟩ : Fin 512)) :=
  extractStridedSlice_apply _ _ _ (ix2 r l) (ix2 r (⟨k0 + l.val, by have := l.isLt; omega⟩ : Fin 512)) (fun b => match b with
    | ⟨0, _⟩ => by show r.val = 0 + r.val; omega
    | ⟨1, _⟩ => by show k0 + l.val = k0 + l.val; rfl)

/-- The lane of a column in its group, and a column of the same group. -/
def lane (n : Fin 2048) : Fin 128 := ⟨n.val % 128, Nat.mod_lt _ (by norm_num)⟩
def inGroup (n : Fin 2048) (l : Fin 128) : Fin 3072 := ⟨n.val / 128 * 128 + l.val, by have := n.isLt; have := l.isLt; omega⟩

/-- The rotary embedding of a column, by the tables. -/
def bropeU (x : FVec Ideal S512x1024 .bf16) (w : Vec Ideal S1024x3072 .bf16) (b : Vec Ideal S1x3072 .f32) (c s1 s2 : FVec Ideal S512x128 .f32)
    (r : Fin 512) (n : Fin 2048) : EReal :=
  bproj x w b r (inGroup n (lane n)) * c (ix2 r (lane n)) + bproj x w b r (inGroup n (lR (lane n))) * s1 (ix2 r (lane n))
    + bproj x w b r (inGroup n (lL (lane n))) * s2 (ix2 r (lane n))

/-- A column of what is stored beside: the queries' columns scaled. -/
def brope (x : FVec Ideal S512x1024 .bf16) (w : Vec Ideal S1024x3072 .bf16) (b : Vec Ideal S1x3072 .f32) (c s1 s2 : FVec Ideal S512x128 .f32) :
    Vec Ideal S512x2048 .bf16 := fun y =>
  if (y 1).val < 1024 then bropeU x w b c s1 s2 (y 0) (y 1) * Ideal.ofBits .f32 0x3E38AA3B#32 else bropeU x w b c s1 s2 (y 0) (y 1)

section
variable (x : FVec Ideal S512x1024 .bf16) (w : Vec Ideal S1024x3072 .bf16) (b : Vec Ideal S1x3072 .f32) (c s1 s2 : FVec Ideal S512x128 .f32)

theorem rot_apply (n0 k0 : ℕ) (hk : k0 + 128 ≤ 512) (hd : (n0 + k0) % 128 = 0)
    (hw : ∀ a, (![0, n0] : Fin 2 → ℕ) a + S1024x512.size a ≤ S1024x3072.size a) (hb : ∀ a, (![0, n0] : Fin 2 → ℕ) a + S1x512.size a ≤ S1x3072.size a)
    (h : S512x512.Slices ![0, k0] S512x128) (r : Fin 512) (l : Fin 128) (n : Fin 2048) (hn : n.val = n0 + k0 + l.val) :
    rot k0 h (chunk x (View.ld w (Rect.unit (s := S1024x3072) ![0, n0] S1024x512.size hw)) (View.ld b (Rect.unit (s := S1x3072) ![0, n0] S1x512.size hb))) c s1 s2 (ix2 r l)
      = bropeU x w b c s1 s2 r n := by
  have hl : lane n = l := Fin.ext (by show n.val % 128 = l.val; have := l.isLt; omega)
  have hg : ∀ l' : Fin 128, (inGroup n l').val = n0 + (k0 + l'.val) := fun l' => by
    show n.val / 128 * 128 + l'.val = _
    have := l.isLt; omega
  unfold bropeU rot
  rw [hl]
  refine congrArg₂ (· + ·) (congrArg₂ (· + ·) (congrArg (· * c (ix2 r l)) ?_) (congrArg (· * s1 (ix2 r l)) ?_)) (congrArg (· * s2 (ix2 r l)) ?_)
  · exact (slice_col k0 hk h _ r l).trans (chunk_apply x w b n0 hw hb r _ _ (hg l))
  · exact ((rotR _ r l).trans (slice_col k0 hk h _ r (lR l))).trans (chunk_apply x w b n0 hw hb r _ _ (hg (lR l)))
  · exact ((rotL _ r l).trans (slice_col k0 hk h _ r (lL l))).trans (chunk_apply x w b n0 hw hb r _ _ (hg (lL l)))

/-- A stored group of the keys. -/
theorem piece_k (n0 k0 N : ℕ) (hk : k0 + 128 ≤ 512) (hN : N = n0 + k0) (hd : N % 128 = 0) (hge : 1024 ≤ N)
    (hw : ∀ a, (![0, n0] : Fin 2 → ℕ) a + S1024x512.size a ≤ S1024x3072.size a) (hb : ∀ a, (![0, n0] : Fin 2 → ℕ) a + S1x512.size a ≤ S1x3072.size a)
    (h : S512x512.Slices ![0, k0] S512x128) (ho : ∀ a, (![0, N] : Fin 2 → ℕ) a + S512x128.size a ≤ S512x2048.size a) (y : S512x128.Idx) :
    (truncf .bf16 (rot k0 h (chunk x (View.ld w (Rect.unit (s := S1024x3072) ![0, n0] S1024x512.size hw)) (View.ld b (Rect.unit (s := S1x3072) ![0, n0] S1x512.size hb))) c s1 s2)
        bitsLt_bf16_f32 : FVec Ideal S512x128 .bf16) y
      = brope x w b c s1 s2 ((Rect.unit (s := S512x2048) ![0, N] S512x128.size ho).emb y) := by
  obtain ⟨r, l, rfl⟩ : ∃ (r : Fin 512) (l : Fin 128), y = ix2 r l := ⟨y 0, y 1, eq_ix2 y⟩
  have hl := l.isLt
  have hN2 : N + 128 ≤ 2048 := ho 1
  have he : (Rect.unit (s := S512x2048) ![0, N] S512x128.size ho).emb (ix2 r l) = ix2 r (⟨N + l.val, by omega⟩ : Fin 2048) := by
    refine funext fun a => Fin.ext ?_
    match a with
    | ⟨0, _⟩ => show 0 + 1 * r.val = r.val; omega
    | ⟨1, _⟩ => show N + 1 * l.val = N + l.val; omega
  rw [he]
  unfold brope
  rw [if_neg (show ¬ (N + l.val < 1024) by omega)]
  exact rot_apply x w b c s1 s2 n0 k0 hk (hN ▸ hd) hw hb h r l _ (by show N + l.val = _; omega)

/-- A stored group of the queries. -/
theorem piece_q (n0 k0 N : ℕ) (hk : k0 + 128 ≤ 512) (hN : N = n0 + k0) (hd : N % 128 = 0) (hge : N + 128 ≤ 1024)
    (hw : ∀ a, (![0, n0] : Fin 2 → ℕ) a + S1024x512.size a ≤ S1024x3072.size a) (hb : ∀ a, (![0, n0] : Fin 2 → ℕ) a + S1x512.size a ≤ S1x3072.size a)
    (h : S512x512.Slices ![0, k0] S512x128) (ho : ∀ a, (![0, N] : Fin 2 → ℕ) a + S512x128.size a ≤ S512x2048.size a) (y : S512x128.Idx) :
    (truncf .bf16 (mulf (rot k0 h (chunk x (View.ld w (Rect.unit (s := S1024x3072) ![0, n0] S1024x512.size hw)) (View.ld b (Rect.unit (s := S1x3072) ![0, n0] S1x512.size hb))) c s1 s2)
        (broadcast S512x128 (Scalar.ofBits .f32 0x3E38AA3B#32))) bitsLt_bf16_f32 : FVec Ideal S512x128 .bf16) y
      = brope x w b c s1 s2 ((Rect.unit (s := S512x2048) ![0, N] S512x128.size ho).emb y) := by
  obtain ⟨r, l, rfl⟩ : ∃ (r : Fin 512) (l : Fin 128), y = ix2 r l := ⟨y 0, y 1, eq_ix2 y⟩
  have hl := l.isLt
  have he : (Rect.unit (s := S512x2048) ![0, N] S512x128.size ho).emb (ix2 r l) = ix2 r (⟨N + l.val, by omega⟩ : Fin 2048) := by
    refine funext fun a => Fin.ext ?_
    match a with
    | ⟨0, _⟩ => show 0 + 1 * r.val = r.val; omega
    | ⟨1, _⟩ => show N + 1 * l.val = N + l.val; omega
  rw [he]
  unfold brope
  rw [if_pos (show N + l.val < 1024 by omega)]
  exact congrArg (· * Ideal.ofBits .f32 0x3E38AA3B#32)
    (rot_apply x w b c s1 s2 n0 k0 hk (hN ▸ hd) hw hb h r l _ (by show N + l.val = _; omega))

/-- The stored values: a column of the projection for each lane, transposed. -/
def bval : Vec Ideal S1x8x1x128x512 .bf16 := fun y =>
  bproj x w b (y 4) (⟨2048 + 128 * (y 1).val + (y 3).val, by
    have h1 : (y 1).val < 8 := (y 1).isLt; have h3 : (y 3).val < 128 := (y 3).isLt; omega⟩ : Fin 3072)

/-- An element of a transposed group. -/
theorem vt_apply (n0 k0 : ℕ) (hk : k0 + 128 ≤ 512)
    (hw : ∀ a, (![0, n0] : Fin 2 → ℕ) a + S1024x512.size a ≤ S1024x3072.size a) (hb : ∀ a, (![0, n0] : Fin 2 → ℕ) a + S1x512.size a ≤ S1x3072.size a)
    (h : S512x512.Slices ![0, k0] S512x128) (e : Fin 128) (q : Fin 512) (j : Fin 3072) (hj : j.val = n0 + (k0 + e.val)) :
    (truncf .bf16 (transpose S128x512 [1, 0] (extractStridedSlice S512x128 ![0, k0]
        (chunk x (View.ld w (Rect.unit (s := S1024x3072) ![0, n0] S1024x512.size hw)) (View.ld b (Rect.unit (s := S1x3072) ![0, n0] S1x512.size hb))) h)
        transposes_S512x128_p1_0_S128x512) bitsLt_bf16_f32 : FVec Ideal S128x512 .bf16) (ix2 e q) = bproj x w b q j := by
  rw [ValueIdx.truncf_apply]
  refine (transpose_apply (s := S512x128) (t := S128x512) [1, 0] _ transposes_S512x128_p1_0_S128x512 (ix2 e q) (ix2 q e) (fun a => match a with
    | ⟨0, _⟩ => rfl
    | ⟨1, _⟩ => rfl)).trans ?_
  refine (slice_col k0 hk h _ q e).trans ?_
  exact chunk_apply x w b n0 hw hb q _ j hj

/-- A stored group of the values. -/
theorem piece_v (n0 k0 H : ℕ) (hk : k0 + 128 ≤ 512) (hN : 2048 + 128 * H = n0 + k0)
    (hw : ∀ a, (![0, n0] : Fin 2 → ℕ) a + S1024x512.size a ≤ S1024x3072.size a) (hb : ∀ a, (![0, n0] : Fin 2 → ℕ) a + S1x512.size a ≤ S1x3072.size a)
    (h : S512x512.Slices ![0, k0] S512x128) (ho : ∀ a, (![0, H, 0, 0, 0] : Fin 5 → ℕ) a + S1x1x1x128x512.size a ≤ S1x8x1x128x512.size a) (y : S1x1x1x128x512.Idx) :
    (shapeCast S1x1x1x128x512 (truncf .bf16 (transpose S128x512 [1, 0] (extractStridedSlice S512x128 ![0, k0]
        (chunk x (View.ld w (Rect.unit (s := S1024x3072) ![0, n0] S1024x512.size hw)) (View.ld b (Rect.unit (s := S1x3072) ![0, n0] S1x512.size hb))) h)
        transposes_S512x128_p1_0_S128x512) bitsLt_bf16_f32 : FVec Ideal S128x512 .bf16) shapeCasts_S128x512_S1x1x1x128x512 : FVec Ideal S1x1x1x128x512 .bf16) y
      = bval x w b ((Rect.unit (s := S1x8x1x128x512) ![0, H, 0, 0, 0] S1x1x1x128x512.size ho).emb y) := by
  have h0 : (y 0).val < 1 := (y 0).isLt
  have h1 : (y 1).val < 1 := (y 1).isLt
  have h2 : (y 2).val < 1 := (y 2).isLt
  refine (shapeCast_apply _ _ y (ix2 (y 3 : Fin 128) (y 4 : Fin 512)) (by
    rw [Shape.rowMajor_val_two, Shape.rowMajor_val_five]
    show (y 3).val * 512 + (y 4).val = ((((y 0).val * 1 + (y 1).val) * 1 + (y 2).val) * 128 + (y 3).val) * 512 + (y 4).val
    omega)).trans ?_
  refine (vt_apply x w b n0 k0 hk hw hb h (y 3) (y 4) (⟨2048 + 128 * H + (y 3).val, by
    have h3 : (y 3).val < 128 := (y 3).isLt; have := ho 1; have : H + 1 ≤ 8 := this; omega⟩ : Fin 3072) (by
      show 2048 + 128 * H + (y 3).val = n0 + (k0 + (y 3).val); omega)).trans ?_
  unfold bval
  refine congrArg₂ (bproj x w b) (Fin.ext ?_) (Fin.ext ?_)
  · show (y 4).val = 0 + 1 * (y 4).val; omega
  · show 2048 + 128 * H + (y 3).val = 2048 + 128 * (H + 1 * (y 1).val) + (0 + 1 * (y 3).val); omega

end

/-! ## What a block stores -/

section
variable (x0 : Vec Ideal S512x1024 .f32) (x1 : Vec Ideal S1024x3072 .bf16) (x2 : Vec Ideal S1x3072 .f32) (x3 x4 x5 : Vec Ideal S512x128 .f32)

theorem out6_eq (y : S512x2048.Idx) : out0_6 x0 x1 x2 x3 x4 x5 y
    = brope (k0_pay43 x0 x1 x2 x3 x4 x5) x1 x2 (k0_pay44 x0 x1 x2 x3 x4 x5) (k0_pay45 x0 x1 x2 x3 x4 x5) (k0_pay46 x0 x1 x2 x3 x4 x5) y := by
  unfold out0_6
  refine View.canon_apply_of_pieces _ _ ?_ y (cover0_6 _ _ _ _ _ _ _ _ _ _ _ _ _ _ _ _ y)
  simp only [List.forall_mem_cons]
  refine ⟨?_, ?_, ?_, ?_, ?_, ?_, ?_, ?_, ?_, ?_, ?_, ?_, ?_, ?_, ?_, ?_, by simp⟩
  · exact fun z => piece_k _ _ _ _ _ _ 1536 384 1920 (by norm_num) rfl rfl (by norm_num) _ _ _ _ z
  · exact fun z => piece_k _ _ _ _ _ _ 1536 256 1792 (by norm_num) rfl rfl (by norm_num) _ _ _ _ z
  · exact fun z => piece_k _ _ _ _ _ _ 1536 128 1664 (by norm_num) rfl rfl (by norm_num) _ _ _ _ z
  · exact fun z => piece_k _ _ _ _ _ _ 1536 0 1536 (by norm_num) rfl rfl (by norm_num) _ _ _ _ z
  · exact fun z => piece_k _ _ _ _ _ _ 1024 384 1408 (by norm_num) rfl rfl (by norm_num) _ _ _ _ z
  · exact fun z => piece_k _ _ _ _ _ _ 1024 256 1280 (by norm_num) rfl rfl (by norm_num) _ _ _ _ z
  · exact fun z => piece_k _ _ _ _ _ _ 1024 128 1152 (by norm_num) rfl rfl (by norm_num) _ _ _ _ z
  · exact fun z => piece_k _ _ _ _ _ _ 1024 0 1024 (by norm_num) rfl rfl (by norm_num) _ _ _ _ z
  · exact fun z => piece_q _ _ _ _ _ _ 512 384 896 (by norm_num) rfl rfl (by norm_num) _ _ _ _ z
  · exact fun z => piece_q _ _ _ _ _ _ 512 256 768 (by norm_num) rfl rfl (by norm_num) _ _ _ _ z
  · exact fun z => piece_q _ _ _ _ _ _ 512 128 640 (by norm_num) rfl rfl (by norm_num) _ _ _ _ z
  · exact fun z => piece_q _ _ _ _ _ _ 512 0 512 (by norm_num) rfl rfl (by norm_num) _ _ slices_S512x512_o0_0_S512x128 _ z
  · exact fun z => piece_q _ _ _ _ _ _ 0 384 384 (by norm_num) rfl rfl (by norm_num) _ _ _ _ z
  · exact fun z => piece_q _ _ _ _ _ _ 0 256 256 (by norm_num) rfl rfl (by norm_num) _ _ _ _ z
  · exact fun z => piece_q _ _ _ _ _ _ 0 128 128 (by norm_num) rfl rfl (by norm_num) _ _ _ _ z
  · exact fun z => piece_q _ _ _ _ _ _ 0 0 0 (by norm_num) rfl rfl (by norm_num) _ _ _ _ z

theorem out7_eq (y : S1x8x1x128x512.Idx) : out0_7 x0 x1 x2 x3 x4 x5 y = bval (k0_pay43 x0 x1 x2 x3 x4 x5) x1 x2 y := by
  unfold out0_7
  refine View.canon_apply_of_pieces _ _ ?_ y (cover0_7 _ _ _ _ _ _ _ _ y)
  simp only [List.forall_mem_cons]
  refine ⟨?_, ?_, ?_, ?_, ?_, ?_, ?_, ?_, by simp⟩
  · exact fun z => piece_v _ _ _ 2560 384 7 (by norm_num) rfl _ _ _ _ z
  · exact fun z => piece_v _ _ _ 2560 256 6 (by norm_num) rfl _ _ _ _ z
  · exact fun z => piece_v _ _ _ 2560 128 5 (by norm_num) rfl _ _ _ _ z
  · exact fun z => piece_v _ _ _ 2560 0 4 (by norm_num) rfl _ _ _ _ z
  · exact fun z => piece_v _ _ _ 2048 384 3 (by norm_num) rfl _ _ _ _ z
  · exact fun z => piece_v _ _ _ 2048 256 2 (by norm_num) rfl _ _ _ _ z
  · exact fun z => piece_v _ _ _ 2048 128 1 (by norm_num) rfl _ _ _ _ z
  · exact fun z => piece_v _ _ _ 2048 0 0 (by norm_num) rfl _ _ _ _ z

end

end Cert.Kernel2Ideal.Hand
-- ==== Proof.RopeHost.lean ====
/-
  The host's arrays of the projection with the rotary embedding: the tables of cosines and signed sines, and the blocks of
  the arrays.
-/
module

public import proofs.«01_k».proof.Proof.Rope
public import proofs.«01_k».proof.Proof.Gen.Reference2Ideal.Read

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.ValueIdx

/-- The angles, as the reference spells them. -/
def ang : FVec Ideal S8192x32 .f32 := Cert.Reference2Ideal.Read.val_main_v16 (F := Ideal)

/-- A table of one value per position and frequency, laid out over the 128 lanes. -/
def wide (t : FVec Ideal S8192x32 .f32) : FVec Ideal S8192x128 .f32 :=
  shapeCast S8192x128 (broadcastInDim S1x8192x4x32 ![0, 1, 2, 3] bcast_S1x8192x1x32_S1x8192x4x32_0_1_2_3
    (shapeCast S1x8192x1x32 t shapeCasts_S8192x32_S1x8192x1x32)) shapeCasts_S1x8192x4x32_S8192x128

def modulus : IVec S_ 32 := select (cmpi .eq (constantI S_ 32 64#32) (constantI S_ 32 0#32)) (constantI S_ 32 1#32) (constantI S_ 32 64#32)
def remd : IVec S128 32 := Host.remsi (iotaInDim S128 32 0) (broadcastInDim S128 ![] bcast_S_S128 modulus)
/-- A lane's number modulo 64. -/
def lrem : IVec S128 32 :=
  select (andi (cmpi .ne (cmpi .slt remd (broadcastInDim S128 ![] bcast_S_S128 (constantI S_ 32 0#32)))
      (broadcastInDim S128 ![] bcast_S_S128 (cmpi .slt modulus (constantI S_ 32 0#32))))
    (cmpi .ne remd (broadcastInDim S128 ![] bcast_S_S128 (constantI S_ 32 0#32))))
    (addi remd (broadcastInDim S128 ![] bcast_S_S128 modulus)) remd
/-- Whether a lane is in the first half of a head. -/
def lomask : IVec S128 1 := cmpi .slt lrem (broadcastInDim S128 ![] bcast_S_S128 (constantI S_ 32 32#32))

theorem lomask_apply : ∀ l : Fin 128, lomask (ix1 l) = if l.val % 64 < 32 then 1#1 else 0#1 := by decide +kernel

/-- The mask over the rows of a table. -/
def bmask : IVec S8192x128 1 :=
  broadcastInDim S8192x128 ![0, 1] bcast_S1x128_S8192x128_0_1 (broadcastInDim S1x128 ![1] bcast_S128_S1x128_1 lomask)
def zeros : FVec Ideal S8192x128 .f32 := broadcastInDim S8192x128 ![] bcast_S_S8192x128 (constant S_ .f32 0x00000000#32)

variable (m : (ℓ : Loc nD τ sig) → Buf (Elt Ideal) ℓ) (c : Dev nD)

theorem V_v20 : V m c main_v20 = (wide (Host.cos ang) : Vec Ideal S8192x128 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v31 : V m c main_v31 = (select bmask (Host.negf (wide (Host.sin ang))) zeros : Vec Ideal S8192x128 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v33 : V m c main_v33 = (select bmask zeros (wide (Host.sin ang)) : Vec Ideal S8192x128 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v34 : V m c main_v34 = (shapeCast S65536x1024 (m ((c : Thread nD τ).loc main_arg0)) shapeCasts_S8x8192x1024_S65536x1024 : Vec Ideal S65536x1024 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v35 : V m c main_v35 = (truncf (F := Ideal) (s := S1024x3072) (φ := .f32) .bf16 (m ((c : Thread nD τ).loc main_arg1)) bitsLt_bf16_f32 : FVec Ideal S1024x3072 .bf16) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
theorem V_v36 : V m c main_v36 = (broadcastInDim S1x3072 ![] bcast_S_S1x3072 (constant (F := Ideal) S_ .f32 0x00000000#32) : Vec Ideal S1x3072 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results

/-! ## The tables' values -/

/-- The frequency of a lane. -/
def fq (l : Fin 128) : Fin 32 := ⟨l.val % 32, Nat.mod_lt _ (by norm_num)⟩

theorem wide_apply (t : FVec Ideal S8192x32 .f32) (s : Fin 8192) (l : Fin 128) : wide t (ix2 s l) = t (ix2 s (fq l)) := by
  have hl := l.isLt
  unfold wide
  refine (shapeCast_apply _ _ (ix2 s l) (ix4 (0 : Fin 1) s (⟨l.val / 32, by omega⟩ : Fin 4) (fq l)) (by
    rw [Shape.rowMajor_val_two, Shape.rowMajor_val_four]
    show ((0 * 8192 + s.val) * 4 + l.val / 32) * 32 + l.val % 32 = s.val * 128 + l.val
    omega)).trans ?_
  refine (broadcastInDim_apply _ _ _ (ix4 (0 : Fin 1) s (⟨l.val / 32, by omega⟩ : Fin 4) (fq l)) (ix4 (0 : Fin 1) s (0 : Fin 1) (fq l)) (fun a => match a with
    | ⟨0, _⟩ => rfl
    | ⟨1, _⟩ => rfl
    | ⟨2, _⟩ => rfl
    | ⟨3, _⟩ => rfl)).trans ?_
  exact shapeCast_apply _ _ (ix4 (0 : Fin 1) s (0 : Fin 1) (fq l)) (ix2 s (fq l)) (by
    rw [Shape.rowMajor_val_two, Shape.rowMajor_val_four]
    show s.val * 32 + l.val % 32 = ((0 * 8192 + s.val) * 1 + 0) * 32 + l.val % 32
    omega)

theorem bmask_apply (s : Fin 8192) (l : Fin 128) : bmask (ix2 s l) = if l.val % 64 < 32 then 1#1 else 0#1 := by
  rw [← lomask_apply l]
  unfold bmask
  refine (broadcastInDim_apply _ _ _ (ix2 s l) (ix2 (0 : Fin 1) l) (fun a => match a with
    | ⟨0, _⟩ => rfl
    | ⟨1, _⟩ => rfl)).trans ?_
  exact broadcastInDim_apply _ _ _ (ix2 (0 : Fin 1) l) (ix1 l) (fun a => match a with
    | ⟨0, _⟩ => rfl)

theorem zeros_apply (i : S8192x128.Idx) : zeros i = 0 := Ideal.ofBits_zero_f32

/-- The sines with a minus on the first halves, zero elsewhere. -/
theorem slo_apply (s : Fin 8192) (l : Fin 128) : (select bmask (Host.negf (wide (Host.sin ang))) zeros : Vec Ideal S8192x128 .f32) (ix2 s l)
    = if l.val % 64 < 32 then - Host.sin ang (ix2 s (fq l)) else 0 := by
  show (if bmask (ix2 s l) = 1#1 then - wide (Host.sin ang) (ix2 s l) else zeros (ix2 s l)) = _
  rw [bmask_apply, zeros_apply, wide_apply]
  by_cases h : l.val % 64 < 32
  · rw [if_pos h, if_pos h, if_pos rfl]
  · rw [if_neg h, if_neg h, if_neg (by decide)]

/-- The sines on the second halves, zero elsewhere. -/
theorem shi_apply (s : Fin 8192) (l : Fin 128) : (select bmask zeros (wide (Host.sin ang)) : Vec Ideal S8192x128 .f32) (ix2 s l)
    = if l.val % 64 < 32 then 0 else Host.sin ang (ix2 s (fq l)) := by
  show (if bmask (ix2 s l) = 1#1 then zeros (ix2 s l) else wide (Host.sin ang) (ix2 s l)) = _
  rw [bmask_apply, zeros_apply, wide_apply]
  by_cases h : l.val % 64 < 32
  · rw [if_pos h, if_pos h, if_pos rfl]
  · rw [if_neg h, if_neg h, if_neg (by decide)]

/-! ## The blocks -/

abbrev pt (t : Fin cfg0.N) : Fin 128 := grid0.coords t 0

/-- A grid point by its one coordinate. -/
def co (n : Fin 128) : grid0.Coords := fun a => match a with
  | ⟨0, _⟩ => n
theorem co_eq (t : Fin cfg0.N) : grid0.coords t = co (pt t) := funext fun a => match a with
  | ⟨0, _⟩ => rfl

theorem tr0 : ∀ n : Fin 128, cc0_transform_0 (co n) = ![n.val, 0] := by decide +kernel
theorem tr3 : ∀ n : Fin 128, cc0_transform_3 (co n) = ![n.val % 16, 0] := by decide +kernel
theorem tr4 : ∀ n : Fin 128, cc0_transform_4 (co n) = ![n.val % 16, 0] := by decide +kernel
theorem tr5 : ∀ n : Fin 128, cc0_transform_5 (co n) = ![n.val % 16, 0] := by decide +kernel
theorem tr6 : ∀ n : Fin 128, cc0_transform_6 (co n) = ![n.val, 0] := by decide +kernel
theorem tr7 : ∀ n : Fin 128, cc0_transform_7 (co n) = ![n.val / 16, 0, n.val % 16, 0, 0] := by decide +kernel

theorem idx0 (t : Fin cfg0.N) : cc0_transform_0 (grid0.coords t) = ![(pt t).val, 0] := (congrArg _ (co_eq t)).trans (tr0 _)
theorem idx3 (t : Fin cfg0.N) : cc0_transform_3 (grid0.coords t) = ![(pt t).val % 16, 0] := (congrArg _ (co_eq t)).trans (tr3 _)
theorem idx4 (t : Fin cfg0.N) : cc0_transform_4 (grid0.coords t) = ![(pt t).val % 16, 0] := (congrArg _ (co_eq t)).trans (tr4 _)
theorem idx5 (t : Fin cfg0.N) : cc0_transform_5 (grid0.coords t) = ![(pt t).val % 16, 0] := (congrArg _ (co_eq t)).trans (tr5 _)
theorem idx6 (t : Fin cfg0.N) : cc0_transform_6 (grid0.coords t) = ![(pt t).val, 0] := (congrArg _ (co_eq t)).trans (tr6 _)
theorem idx7 (t : Fin cfg0.N) : cc0_transform_7 (grid0.coords t) = ![(pt t).val / 16, 0, (pt t).val % 16, 0, 0] := (congrArg _ (co_eq t)).trans (tr7 _)

/-- Row `r` of block `t`, and its position. -/
def brow (t : Fin 128) (r : Fin 512) : Fin 65536 := ⟨512 * t.val + r.val, by have := t.isLt; have := r.isLt; omega⟩
def bpos (t : Fin 128) (r : Fin 512) : Fin 8192 := ⟨512 * (t.val % 16) + r.val, by have := r.isLt; omega⟩
def bbat (t : Fin 128) : Fin 8 := ⟨t.val / 16, by have := t.isLt; omega⟩

theorem blk0_apply (X : Vec Ideal S65536x1024 .f32) (t : Fin cfg0.N) (r : Fin 512) (k : Fin 1024) :
    (win0_0.blk t).view.read (Elt Ideal) X (ix2 r k) = X (ix2 (brow (pt t) r) k) := by
  refine congrArg X (funext fun a => Fin.ext ?_)
  match a with
  | ⟨0, _⟩ =>
    show cc0_transform_0 (grid0.coords t) 0 * 512 + 1 * r.val = 512 * (pt t).val + r.val
    rw [idx0]; show (pt t).val * 512 + 1 * r.val = _; omega
  | ⟨1, _⟩ => show cc0_transform_0 (grid0.coords t) 1 * 1024 + 1 * k.val = k.val; rw [idx0]; show 0 * 1024 + 1 * k.val = _; omega

theorem blk1_apply (X : Vec Ideal S1024x3072 .bf16) (t : Fin cfg0.N) : (win0_1.blk t).view.read (Elt Ideal) X = X := by
  funext y
  refine congrArg X (funext fun a => Fin.ext ?_)
  match a with
  | ⟨0, _⟩ => show 0 * 1024 + 1 * (y 0).val = (y 0).val; omega
  | ⟨1, _⟩ => show 0 * 3072 + 1 * (y 1).val = (y 1).val; omega

theorem blk2_apply (X : Vec Ideal S1x3072 .f32) (t : Fin cfg0.N) : (win0_2.blk t).view.read (Elt Ideal) X = X := by
  funext y
  refine congrArg X (funext fun a => Fin.ext ?_)
  match a with
  | ⟨0, _⟩ => show 0 * 1 + 1 * (y 0).val = (y 0).val; omega
  | ⟨1, _⟩ => show 0 * 3072 + 1 * (y 1).val = (y 1).val; omega

theorem blk3_apply (X : Vec Ideal S8192x128 .f32) (t : Fin cfg0.N) (r : Fin 512) (k : Fin 128) :
    (win0_3.blk t).view.read (Elt Ideal) X (ix2 r k) = X (ix2 (bpos (pt t) r) k) := by
  refine congrArg X (funext fun a => Fin.ext ?_)
  match a with
  | ⟨0, _⟩ =>
    show cc0_transform_3 (grid0.coords t) 0 * 512 + 1 * r.val = 512 * ((pt t).val % 16) + r.val
    rw [idx3]; show (pt t).val % 16 * 512 + 1 * r.val = _; omega
  | ⟨1, _⟩ => show cc0_transform_3 (grid0.coords t) 1 * 128 + 1 * k.val = k.val; rw [idx3]; show 0 * 128 + 1 * k.val = _; omega

theorem blk4_apply (X : Vec Ideal S8192x128 .f32) (t : Fin cfg0.N) (r : Fin 512) (k : Fin 128) :
    (win0_4.blk t).view.read (Elt Ideal) X (ix2 r k) = X (ix2 (bpos (pt t) r) k) := by
  refine congrArg X (funext fun a => Fin.ext ?_)
  match a with
  | ⟨0, _⟩ =>
    show cc0_transform_4 (grid0.coords t) 0 * 512 + 1 * r.val = 512 * ((pt t).val % 16) + r.val
    rw [idx4]; show (pt t).val % 16 * 512 + 1 * r.val = _; omega
  | ⟨1, _⟩ => show cc0_transform_4 (grid0.coords t) 1 * 128 + 1 * k.val = k.val; rw [idx4]; show 0 * 128 + 1 * k.val = _; omega

theorem blk5_apply (X : Vec Ideal S8192x128 .f32) (t : Fin cfg0.N) (r : Fin 512) (k : Fin 128) :
    (win0_5.blk t).view.read (Elt Ideal) X (ix2 r k) = X (ix2 (bpos (pt t) r) k) := by
  refine congrArg X (funext fun a => Fin.ext ?_)
  match a with
  | ⟨0, _⟩ =>
    show cc0_transform_5 (grid0.coords t) 0 * 512 + 1 * r.val = 512 * ((pt t).val % 16) + r.val
    rw [idx5]; show (pt t).val % 16 * 512 + 1 * r.val = _; omega
  | ⟨1, _⟩ => show cc0_transform_5 (grid0.coords t) 1 * 128 + 1 * k.val = k.val; rw [idx5]; show 0 * 128 + 1 * k.val = _; omega

theorem blk6_emb (t : Fin cfg0.N) (r : Fin 512) (k : Fin 2048) :
    (win0_6.blk t).view.emb (ix2 r k) = ix2 (brow (pt t) r) k := by
  refine funext fun a => Fin.ext ?_
  match a with
  | ⟨0, _⟩ =>
    show cc0_transform_6 (grid0.coords t) 0 * 512 + 1 * r.val = 512 * (pt t).val + r.val
    rw [idx6]; show (pt t).val * 512 + 1 * r.val = _; omega
  | ⟨1, _⟩ => show cc0_transform_6 (grid0.coords t) 1 * 2048 + 1 * k.val = k.val; rw [idx6]; show 0 * 2048 + 1 * k.val = _; omega

/-- The row of the projection an element of the transposed values belongs to, and its batch and block of keys. -/
theorem blk7_emb (t : Fin cfg0.N) (y : S1x8x1x128x512.Idx) :
    (((win0_7.blk t).view.emb y) 0).val = (pt t).val / 16 ∧ (((win0_7.blk t).view.emb y) 1).val = (y 1).val
      ∧ (((win0_7.blk t).view.emb y) 2).val = (pt t).val % 16 ∧ (((win0_7.blk t).view.emb y) 3).val = (y 3).val
      ∧ (((win0_7.blk t).view.emb y) 4).val = (y 4).val := by
  have h0 : (y 0).val < 1 := (y 0).isLt
  have h2 : (y 2).val < 1 := (y 2).isLt
  refine ⟨?_, ?_, ?_, ?_, ?_⟩
  · show cc0_transform_7 (grid0.coords t) 0 * 1 + 1 * (y 0).val = _
    rw [idx7]; show (pt t).val / 16 * 1 + 1 * (y 0).val = _; omega
  · show cc0_transform_7 (grid0.coords t) 1 * 8 + 1 * (y 1).val = _
    rw [idx7]; show 0 * 8 + 1 * (y 1).val = _; omega
  · show cc0_transform_7 (grid0.coords t) 2 * 1 + 1 * (y 2).val = _
    rw [idx7]; show (pt t).val % 16 * 1 + 1 * (y 2).val = _; omega
  · show cc0_transform_7 (grid0.coords t) 3 * 128 + 1 * (y 3).val = _
    rw [idx7]; show 0 * 128 + 1 * (y 3).val = _; omega
  · show cc0_transform_7 (grid0.coords t) 4 * 512 + 1 * (y 4).val = _
    rw [idx7]; show 0 * 512 + 1 * (y 4).val = _; omega

end Cert.Kernel2Ideal.Hand
-- ==== Proof.RopeForm.lean ====
/-
  The closed form of the projection with the rotary embedding, and the arrays the kernel leaves.
-/
module

public import proofs.«01_k».proof.Proof.RopeHost

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.ValueIdx

/-- A column of the projection of a position. -/
def P (x : Vec Ideal S8x8192x1024 .f32) (w : Vec Ideal S1024x3072 .f32) (b : Fin 8) (s : Fin 8192) (j : Fin 3072) : EReal :=
  ∑ i : Fin 1024, x (ix3 b s i) * w (ix2 i j)

/-- The cosine and the sine of a position at a frequency. -/
def C (s : Fin 8192) (f : Fin 32) : EReal := (Host.cos ang : FVec Ideal S8192x32 .f32) (ix2 s f)
def S (s : Fin 8192) (f : Fin 32) : EReal := (Host.sin ang : FVec Ideal S8192x32 .f32) (ix2 s f)

/-- A column, the column of the other half of its head to its right, and to its left; its frequency. -/
def col (n : Fin 2048) : Fin 3072 := ⟨n.val, by have := n.isLt; omega⟩
def colR (n : Fin 2048) : Fin 3072 := ⟨n.val + 32, by have := n.isLt; omega⟩
def colL (n : Fin 2048) : Fin 3072 := ⟨n.val - 32, by have := n.isLt; omega⟩
def fqc (n : Fin 2048) : Fin 32 := ⟨n.val % 32, Nat.mod_lt _ (by norm_num)⟩

/-- The rotary embedding of a column. -/
def R (x : Vec Ideal S8x8192x1024 .f32) (w : Vec Ideal S1024x3072 .f32) (b : Fin 8) (s : Fin 8192) (n : Fin 2048) : EReal :=
  if n.val % 64 < 32 then P x w b s (col n) * C s (fqc n) - P x w b s (colR n) * S s (fqc n)
  else P x w b s (col n) * C s (fqc n) + P x w b s (colL n) * S s (fqc n)

/-- The batch and the position of a row. -/
def rb (r : Fin 65536) : Fin 8 := ⟨r.val / 8192, by have := r.isLt; omega⟩
def rs (r : Fin 65536) : Fin 8192 := ⟨r.val % 8192, Nat.mod_lt _ (by norm_num)⟩

/-- The queries, scaled, beside the keys. -/
def Gqk (x : Vec Ideal S8x8192x1024 .f32) (w : Vec Ideal S1024x3072 .f32) : Vec Ideal S65536x2048 .bf16 := fun i =>
  if (i 1).val < 1024 then R x w (rb (i 0)) (rs (i 0)) (i 1) * Ideal.ofBits .f32 0x3E38AA3B#32 else R x w (rb (i 0)) (rs (i 0)) (i 1)

/-- The values, transposed in blocks of 512 positions. -/
def vpos (i : S8x8x16x128x512.Idx) : Fin 8192 := ⟨512 * (i 2).val + (i 4).val, by
  have h2 : (i 2).val < 16 := (i 2).isLt; have h4 : (i 4).val < 512 := (i 4).isLt; omega⟩
def vcol (i : S8x8x16x128x512.Idx) : Fin 3072 := ⟨2048 + 128 * (i 1).val + (i 3).val, by
  have h1 : (i 1).val < 8 := (i 1).isLt; have h3 : (i 3).val < 128 := (i 3).isLt; omega⟩
def Gv (x : Vec Ideal S8x8192x1024 .f32) (w : Vec Ideal S1024x3072 .f32) : Vec Ideal S8x8x16x128x512 .bf16 := fun i =>
  P x w (i 0) (vpos i) (vcol i)

variable (m : (ℓ : Loc nD τ sig) → Buf (Elt Ideal) ℓ) (c : Dev nD)

/-- The rows of the input as a matrix. -/
theorem rows_apply (x : Vec Ideal S8x8192x1024 .f32) (r : Fin 65536) (k : Fin 1024) :
    (shapeCast S65536x1024 x shapeCasts_S8x8192x1024_S65536x1024) (ix2 r k) = x (ix3 (rb r) (rs r) k) :=
  shapeCast_apply _ _ (ix2 r k) (ix3 (rb r) (rs r) k) (by
    rw [Shape.rowMajor_val_two, Shape.rowMajor_val_three]
    show (r.val / 8192 * 8192 + r.val % 8192) * 1024 + k.val = r.val * 1024 + k.val
    omega)

theorem rb_brow (t : Fin 128) (r : Fin 512) : rb (brow t r) = bbat t := Fin.ext (by
  show (512 * t.val + r.val) / 8192 = t.val / 16
  have := r.isLt; omega)
theorem rs_brow (t : Fin 128) (r : Fin 512) : rs (brow t r) = bpos t r := Fin.ext (by
  show (512 * t.val + r.val) % 8192 = 512 * (t.val % 16) + r.val
  have := r.isLt; omega)

theorem hz : (![0, 0] : Fin 2 → ℕ) = fun _ => 0 := by
  funext a
  match a with
  | ⟨0, _⟩ => rfl
  | ⟨1, _⟩ => rfl

section
variable (x0 : Vec Ideal S512x1024 .f32) (x1 : Vec Ideal S1024x3072 .bf16) (x2 : Vec Ideal S1x3072 .f32) (x3 x4 x5 : Vec Ideal S512x128 .f32)

theorem pay43_eq : (k0_pay43 x0 x1 x2 x3 x4 x5 : FVec Ideal S512x1024 .bf16) = truncf .bf16 (x0 : FVec Ideal S512x1024 .f32) bitsLt_bf16_f32 := by
  unfold k0_pay43 k0_pay4
  rw [View.ld_unit_zero hz, shapeCast_self]
theorem pay44_eq : k0_pay44 x0 x1 x2 x3 x4 x5 = x3 := by
  unfold k0_pay44 k0_pay5
  rw [View.ld_unit_zero hz, shapeCast_self]
theorem pay45_eq : k0_pay45 x0 x1 x2 x3 x4 x5 = x4 := by
  unfold k0_pay45 k0_pay6
  rw [View.ld_unit_zero hz, shapeCast_self]
theorem pay46_eq : k0_pay46 x0 x1 x2 x3 x4 x5 = x5 := by
  unfold k0_pay46 k0_pay7
  rw [View.ld_unit_zero hz, shapeCast_self]

end

theorem x_eq (t : Fin cfg0.N) (r : Fin 512) (k : Fin 1024) : (iblk m c 0 t : Vec Ideal S512x1024 .f32) (ix2 r k)
    = m ((c : Thread nD τ).loc main_arg0) (ix3 (bbat (pt t)) (bpos (pt t) r) k) := by
  have h : (iblk m c 0 t : Vec Ideal S512x1024 .f32) (ix2 r k) = _ := blk0_apply (V m c main_v34) t r k
  rw [h, V_v34]
  refine (rows_apply _ _ _).trans ?_
  rw [rb_brow, rs_brow]
theorem w_eq (t : Fin cfg0.N) : (iblk m c 1 t : S1024x3072.Idx → EReal) = m ((c : Thread nD τ).loc main_arg1) := by
  have h : iblk m c 1 t = _ := (blk1_apply (V m c main_v35) t).trans (V_v35 m c)
  rw [h]
  rfl
theorem b_eq (t : Fin cfg0.N) (j : Fin 3072) : (iblk m c 2 t : Vec Ideal S1x3072 .f32) (ix2 0 j) = (0 : EReal) := by
  have h : iblk m c 2 t = _ := (blk2_apply (V m c main_v36) t).trans (V_v36 m c)
  rw [h]
  exact Ideal.ofBits_zero_f32
theorem c_eq (t : Fin cfg0.N) (r : Fin 512) (l : Fin 128) : (iblk m c 3 t : Vec Ideal S512x128 .f32) (ix2 r l) = C (bpos (pt t) r) (fq l) := by
  have h : (iblk m c 3 t : Vec Ideal S512x128 .f32) (ix2 r l) = _ := blk3_apply (V m c main_v20) t r l
  rw [h, V_v20]
  exact wide_apply _ _ _
theorem s1_eq (t : Fin cfg0.N) (r : Fin 512) (l : Fin 128) : (iblk m c 4 t : Vec Ideal S512x128 .f32) (ix2 r l)
    = if l.val % 64 < 32 then - S (bpos (pt t) r) (fq l) else 0 := by
  have h : (iblk m c 4 t : Vec Ideal S512x128 .f32) (ix2 r l) = _ := blk4_apply (V m c main_v31) t r l
  rw [h, V_v31]
  exact slo_apply _ _
theorem s2_eq (t : Fin cfg0.N) (r : Fin 512) (l : Fin 128) : (iblk m c 5 t : Vec Ideal S512x128 .f32) (ix2 r l)
    = if l.val % 64 < 32 then 0 else S (bpos (pt t) r) (fq l) := by
  have h : (iblk m c 5 t : Vec Ideal S512x128 .f32) (ix2 r l) = _ := blk5_apply (V m c main_v33) t r l
  rw [h, V_v33]
  exact shi_apply _ _

/-- A column of the projection of a block's row. -/
theorem bproj_eq (t : Fin cfg0.N) (r : Fin 512) (j : Fin 3072) :
    bproj (truncf .bf16 (iblk m c 0 t : FVec Ideal S512x1024 .f32) bitsLt_bf16_f32) (iblk m c 1 t) (iblk m c 2 t) r j
      = P (m ((c : Thread nD τ).loc main_arg0)) (m ((c : Thread nD τ).loc main_arg1)) (bbat (pt t)) (bpos (pt t) r) j := by
  unfold bproj P
  rw [b_eq, add_zero, w_eq]
  exact Finset.sum_congr rfl fun i _ => congrArg (· * _) (x_eq m c t r i)

/-- The rotary embedding of a column of a block's row. -/
theorem bropeU_eq (t : Fin cfg0.N) (r : Fin 512) (n : Fin 2048) :
    bropeU (truncf .bf16 (iblk m c 0 t : FVec Ideal S512x1024 .f32) bitsLt_bf16_f32) (iblk m c 1 t) (iblk m c 2 t) (iblk m c 3 t) (iblk m c 4 t) (iblk m c 5 t) r n
      = R (m ((c : Thread nD τ).loc main_arg0)) (m ((c : Thread nD τ).loc main_arg1)) (bbat (pt t)) (bpos (pt t) r) n := by
  have hn := n.isLt
  unfold bropeU R
  rw [bproj_eq, bproj_eq, bproj_eq, c_eq, s1_eq, s2_eq]
  have hf : fq (lane n) = fqc n := Fin.ext (by show n.val % 128 % 32 = n.val % 32; omega)
  have h0 : inGroup n (lane n) = col n := Fin.ext (by show n.val / 128 * 128 + n.val % 128 = n.val; omega)
  rw [hf, h0]
  by_cases h : n.val % 64 < 32
  · have hl : (lane n).val % 64 < 32 := by show n.val % 128 % 64 < 32; omega
    have h1 : inGroup n (lR (lane n)) = colR n := Fin.ext (by show n.val / 128 * 128 + (n.val % 128 + 32) % 128 = n.val + 32; omega)
    rw [if_pos hl, if_pos hl, if_pos h, h1, mul_zero, add_zero, mul_neg, sub_eq_add_neg]
  · have hl : ¬ (lane n).val % 64 < 32 := by show ¬ n.val % 128 % 64 < 32; omega
    have h1 : inGroup n (lL (lane n)) = colL n := Fin.ext (by show n.val / 128 * 128 + (n.val % 128 + 96) % 128 = n.val - 32; omega)
    rw [if_neg hl, if_neg hl, if_neg h, h1, mul_zero, add_zero]

theorem after6_eq (t : Fin cfg0.N) (y : S512x2048.Idx) : (out0_6 (iblk m c 0 t) (iblk m c 1 t) (iblk m c 2 t) (iblk m c 3 t) (iblk m c 4 t) (iblk m c 5 t)) y
    = Gqk (m ((c : Thread nD τ).loc main_arg0)) (m ((c : Thread nD τ).loc main_arg1)) ((win0_6.blk t).view.emb y) := by
  obtain ⟨r, k, rfl⟩ : ∃ (r : Fin 512) (k : Fin 2048), y = ix2 r k := ⟨y 0, y 1, eq_ix2 y⟩
  rw [show (win0_6.blk t).view.emb (ix2 r k) = _ from blk6_emb t r k]
  refine (out6_eq (iblk m c 0 t) (iblk m c 1 t) (iblk m c 2 t) (iblk m c 3 t) (iblk m c 4 t) (iblk m c 5 t) _).trans ?_
  rw [pay43_eq, pay44_eq, pay45_eq, pay46_eq]
  unfold brope Gqk
  show (if k.val < 1024 then bropeU _ _ _ _ _ _ r k * _ else bropeU _ _ _ _ _ _ r k)
    = if k.val < 1024 then R _ _ (rb (brow (pt t) r)) (rs (brow (pt t) r)) k * _ else R _ _ (rb (brow (pt t) r)) (rs (brow (pt t) r)) k
  rw [bropeU_eq, rb_brow, rs_brow]

theorem after7_eq (t : Fin cfg0.N) (y : S1x8x1x128x512.Idx) : (out0_7 (iblk m c 0 t) (iblk m c 1 t) (iblk m c 2 t) (iblk m c 3 t) (iblk m c 4 t) (iblk m c 5 t)) y
    = Gv (m ((c : Thread nD τ).loc main_arg0)) (m ((c : Thread nD τ).loc main_arg1)) ((win0_7.blk t).view.emb y) := by
  refine (out7_eq (iblk m c 0 t) (iblk m c 1 t) (iblk m c 2 t) (iblk m c 3 t) (iblk m c 4 t) (iblk m c 5 t) y).trans ?_
  rw [pay43_eq]
  unfold bval
  refine (bproj_eq m c t (y 4 : Fin 512) _).trans ?_
  obtain ⟨e0, e1, e2, e3, e4⟩ := blk7_emb t y
  unfold Gv
  generalize (win0_7.blk t).view.emb y = z at *
  have a0 : z 0 = bbat (pt t) := Fin.ext e0
  have a1 : vpos z = bpos (pt t) (y 4) := Fin.ext (by
    show 512 * (z 2).val + (z 4).val = 512 * ((pt t).val % 16) + (y 4).val
    rw [e2, e4])
  rw [a0, a1]
  refine congrArg (P _ _ _ _) (Fin.ext ?_)
  show 2048 + 128 * (y 1).val + (y 3).val = 2048 + 128 * (z 1).val + (z 3).val
  rw [e1, e3]

theorem arrAt6 : (dats m 0 c).arrAt 6 cfg0.N = Gqk (m ((c : Thread nD τ).loc main_arg0)) (m ((c : Thread nD τ).loc main_arg1)) := by
  refine (dats m 0 c).arrAt_eq_of_covers 6 _ (by decide +kernel) fun t hf y => ?_
  refine Eq.trans (congrFun (after0_6 m c t) y) ?_
  exact after6_eq m c t y

theorem arrAt7 : (dats m 0 c).arrAt 7 cfg0.N = Gv (m ((c : Thread nD τ).loc main_arg0)) (m ((c : Thread nD τ).loc main_arg1)) := by
  refine (dats m 0 c).arrAt_eq_of_covers 7 _ (by decide +kernel) fun t hf y => ?_
  refine Eq.trans (congrFun (after0_7 m c t) y) ?_
  exact after7_eq m c t y

end Cert.Kernel2Ideal.Hand
-- ==== Proof.RopeRef.lean ====
/-
  The reference's projection with the rotary embedding is the closed form.
-/
module

public import proofs.«01_k».proof.Proof.RopeForm

@[expose] public section

set_option maxRecDepth 16384

noncomputable section

namespace Cert.Reference2Ideal.Hand

open Cert.Reference2Ideal Cert.Reference2Ideal.Gen Cert.Reference2Ideal.Read
open Cert.Kernel2Ideal.Hand (P C S col colR colL fqc R rb rs Gqk Gv vpos vcol)
open Idealize.ShloMosaic Idealize.ShloMosaic.TcCoe Idealize.ShloMosaic.ValueIdx

variable (x : Vec Ideal S8x8192x1024 .f32) (w : Vec Ideal S1024x3072 .f32)

/-- An entry of the product. -/
theorem r19 (i : S8x8192x3072.Idx) : val_main_v19 (F := Ideal) x w i = P x w (i 0) (i 1) (i 2) := by
  rw [val_main_v19_apply]
  unfold P
  refine Finset.sum_congr rfl fun k _ => congrArg₂ (· * ·) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

/-- Two columns of the product at equal coordinates. -/
theorem P_congr {b b' : Fin 8} {s s' : Fin 8192} {j j' : Fin 3072} (hb : b.val = b'.val) (hs : s.val = s'.val) (hj : j.val = j'.val) :
    P x w b s j = P x w b' s' j' := by
  obtain rfl := Fin.ext hb
  obtain rfl := Fin.ext hs
  obtain rfl := Fin.ext hj
  rfl

theorem r24 (b : Fin 8) (s : Fin 8192) (h : Fin 16) (f : Fin 32) (j : Fin 3072) (hj : j.val = 64 * h.val + f.val) :
    val_main_v24 (F := Ideal) x w (ix4 b s h f) = P x w b s j := by
  have hb := b.isLt; have hs := s.isLt; have hh := h.isLt; have hf := f.isLt
  rw [val_main_v24_apply, val_main_v23_apply, val_main_v20_apply, r19]
  refine P_congr x w ?_ ?_ ?_
  · show (((b.val * 8192 + s.val) * 16 + h.val) * 64 + f.val) / 8388608 = b.val; omega
  · show (((b.val * 8192 + s.val) * 16 + h.val) * 64 + f.val) / 1024 % 8192 = s.val; omega
  · show (((b.val * 8192 + s.val) * 16 + h.val) * 64 + f.val) % 1024 = j.val; omega
theorem r25 (b : Fin 8) (s : Fin 8192) (h : Fin 16) (f : Fin 32) (j : Fin 3072) (hj : j.val = 64 * h.val + (32 + f.val)) :
    val_main_v25 (F := Ideal) x w (ix4 b s h f) = P x w b s j := by
  have hb := b.isLt; have hs := s.isLt; have hh := h.isLt; have hf := f.isLt
  rw [val_main_v25_apply, val_main_v23_apply, val_main_v20_apply, r19]
  refine P_congr x w ?_ ?_ ?_
  · show (((b.val * 8192 + s.val) * 16 + h.val) * 64 + (32 + f.val)) / 8388608 = b.val; omega
  · show (((b.val * 8192 + s.val) * 16 + h.val) * 64 + (32 + f.val)) / 1024 % 8192 = s.val; omega
  · show (((b.val * 8192 + s.val) * 16 + h.val) * 64 + (32 + f.val)) % 1024 = j.val; omega
theorem r42 (b : Fin 8) (s : Fin 8192) (h : Fin 16) (f : Fin 32) (j : Fin 3072) (hj : j.val = 1024 + (64 * h.val + f.val)) :
    val_main_v42 (F := Ideal) x w (ix4 b s h f) = P x w b s j := by
  have hb := b.isLt; have hs := s.isLt; have hh := h.isLt; have hf := f.isLt
  rw [val_main_v42_apply, val_main_v41_apply, val_main_v21_apply, r19]
  refine P_congr x w ?_ ?_ ?_
  · show (((b.val * 8192 + s.val) * 16 + h.val) * 64 + f.val) / 8388608 = b.val; omega
  · show (((b.val * 8192 + s.val) * 16 + h.val) * 64 + f.val) / 1024 % 8192 = s.val; omega
  · show 1024 + (((b.val * 8192 + s.val) * 16 + h.val) * 64 + f.val) % 1024 = j.val; omega
theorem r43 (b : Fin 8) (s : Fin 8192) (h : Fin 16) (f : Fin 32) (j : Fin 3072) (hj : j.val = 1024 + (64 * h.val + (32 + f.val))) :
    val_main_v43 (F := Ideal) x w (ix4 b s h f) = P x w b s j := by
  have hb := b.isLt; have hs := s.isLt; have hh := h.isLt; have hf := f.isLt
  rw [val_main_v43_apply, val_main_v41_apply, val_main_v21_apply, r19]
  refine P_congr x w ?_ ?_ ?_
  · show (((b.val * 8192 + s.val) * 16 + h.val) * 64 + (32 + f.val)) / 8388608 = b.val; omega
  · show (((b.val * 8192 + s.val) * 16 + h.val) * 64 + (32 + f.val)) / 1024 % 8192 = s.val; omega
  · show 1024 + (((b.val * 8192 + s.val) * 16 + h.val) * 64 + (32 + f.val)) % 1024 = j.val; omega

/-- An index of a table, by its coordinates. -/
theorem ix_eq (i : S8192x32.Idx) (s : Fin 8192) (f : Fin 32) (h0 : (i 0).val = s.val) (h1 : (i 1).val = f.val) : i = ix2 s f := by
  funext a
  match a with
  | ⟨0, _⟩ => exact Fin.ext h0
  | ⟨1, _⟩ => exact Fin.ext h1

theorem r28 (b : Fin 8) (s : Fin 8192) (h : Fin 16) (f : Fin 32) : val_main_v28 (F := Ideal) (ix4 b s h f) = C s f := by
  rw [val_main_v28_apply, val_main_v26_apply]
  exact congrArg (val_main_v17 (F := Ideal)) (ix_eq _ s f rfl rfl)
theorem r33 (b : Fin 8) (s : Fin 8192) (h : Fin 16) (f : Fin 32) : val_main_v33 (F := Ideal) (ix4 b s h f) = C s f := by
  rw [val_main_v33_apply, val_main_v26_apply]
  exact congrArg (val_main_v17 (F := Ideal)) (ix_eq _ s f rfl rfl)
theorem r46 (b : Fin 8) (s : Fin 8192) (h : Fin 16) (f : Fin 32) : val_main_v46 (F := Ideal) (ix4 b s h f) = C s f := by
  rw [val_main_v46_apply, val_main_v44_apply]
  exact congrArg (val_main_v17 (F := Ideal)) (ix_eq _ s f rfl rfl)
theorem r51 (b : Fin 8) (s : Fin 8192) (h : Fin 16) (f : Fin 32) : val_main_v51 (F := Ideal) (ix4 b s h f) = C s f := by
  rw [val_main_v51_apply, val_main_v44_apply]
  exact congrArg (val_main_v17 (F := Ideal)) (ix_eq _ s f rfl rfl)
theorem r30 (b : Fin 8) (s : Fin 8192) (h : Fin 16) (f : Fin 32) : val_main_v30 (F := Ideal) (ix4 b s h f) = S s f := by
  rw [val_main_v30_apply, val_main_v27_apply]
  exact congrArg (val_main_v18 (F := Ideal)) (ix_eq _ s f rfl rfl)
theorem r35 (b : Fin 8) (s : Fin 8192) (h : Fin 16) (f : Fin 32) : val_main_v35 (F := Ideal) (ix4 b s h f) = S s f := by
  rw [val_main_v35_apply, val_main_v27_apply]
  exact congrArg (val_main_v18 (F := Ideal)) (ix_eq _ s f rfl rfl)
theorem r48 (b : Fin 8) (s : Fin 8192) (h : Fin 16) (f : Fin 32) : val_main_v48 (F := Ideal) (ix4 b s h f) = S s f := by
  rw [val_main_v48_apply, val_main_v45_apply]
  exact congrArg (val_main_v18 (F := Ideal)) (ix_eq _ s f rfl rfl)
theorem r53 (b : Fin 8) (s : Fin 8192) (h : Fin 16) (f : Fin 32) : val_main_v53 (F := Ideal) (ix4 b s h f) = S s f := by
  rw [val_main_v53_apply, val_main_v45_apply]
  exact congrArg (val_main_v18 (F := Ideal)) (ix_eq _ s f rfl rfl)

/-- Two halves beside one another. -/
theorem cat_lo (u v : Vec Ideal S8x8192x16x32 .f32) (b : Fin 8) (s : Fin 8192) (h : Fin 16) (e : Fin 64) (f : Fin 32) (he : e.val = f.val) :
    concatenate S8x8192x16x64 3 [⟨S8x8192x16x32, u⟩, ⟨S8x8192x16x32, v⟩] concatenates_S8x8192x16x32_S8x8192x16x32_S8x8192x16x64_d3 (ix4 b s h e)
      = u (ix4 b s h f) :=
  concatenate_pair_apply_left 3 u v _ (ix4 b s h e) rfl (ix4 b s h f) (fun a => match a with
    | ⟨0, _⟩ => rfl
    | ⟨1, _⟩ => rfl
    | ⟨2, _⟩ => rfl
    | ⟨3, _⟩ => he.symm)
theorem cat_hi (u v : Vec Ideal S8x8192x16x32 .f32) (b : Fin 8) (s : Fin 8192) (h : Fin 16) (e : Fin 64) (f : Fin 32) (he : f.val + 32 = e.val) :
    concatenate S8x8192x16x64 3 [⟨S8x8192x16x32, u⟩, ⟨S8x8192x16x32, v⟩] concatenates_S8x8192x16x32_S8x8192x16x32_S8x8192x16x64_d3 (ix4 b s h e)
      = v (ix4 b s h f) :=
  concatenate_pair_apply_right 3 u v _ (ix4 b s h e) rfl rfl (ix4 b s h f) (fun a => match a with
    | ⟨0, _⟩ => fun _ => rfl
    | ⟨1, _⟩ => fun _ => rfl
    | ⟨2, _⟩ => fun _ => rfl
    | ⟨3, _⟩ => fun hne => absurd rfl hne) he

theorem row_lo (u v : Vec Ideal S65536x1024 .f32) (r : Fin 65536) (n : Fin 2048) (k : Fin 1024) (hk : n.val = k.val) :
    concatenate S65536x2048 1 [⟨S65536x1024, u⟩, ⟨S65536x1024, v⟩] concatenates_S65536x1024_S65536x1024_S65536x2048_d1 (ix2 r n) = u (ix2 r k) :=
  concatenate_pair_apply_left 1 u v _ (ix2 r n) rfl (ix2 r k) (fun a => match a with
    | ⟨0, _⟩ => rfl
    | ⟨1, _⟩ => hk.symm)
theorem row_hi (u v : Vec Ideal S65536x1024 .f32) (r : Fin 65536) (n : Fin 2048) (k : Fin 1024) (hk : k.val + 1024 = n.val) :
    concatenate S65536x2048 1 [⟨S65536x1024, u⟩, ⟨S65536x1024, v⟩] concatenates_S65536x1024_S65536x1024_S65536x2048_d1 (ix2 r n) = v (ix2 r k) :=
  concatenate_pair_apply_right 1 u v _ (ix2 r n) rfl rfl (ix2 r k) (fun a => match a with
    | ⟨0, _⟩ => fun _ => rfl
    | ⟨1, _⟩ => fun hne => absurd rfl hne) hk

/-- The queries with the rotary embedding. -/
theorem r38 (b : Fin 8) (s : Fin 8192) (h : Fin 16) (e : Fin 64) (n : Fin 2048) (hn : n.val = 64 * h.val + e.val) :
    val_main_v38 (F := Ideal) x w (ix4 b s h e) = R x w b s n := by
  have he := e.isLt; have hh := h.isLt
  unfold val_main_v38 R
  by_cases hc : e.val < 32
  · refine (cat_lo _ _ b s h e ⟨e.val, hc⟩ rfl).trans ?_
    have hf : (⟨e.val, hc⟩ : Fin 32) = fqc n := Fin.ext (by show e.val = n.val % 32; omega)
    rw [if_pos (show n.val % 64 < 32 by omega), val_main_v32_apply, val_main_v29_apply, val_main_v31_apply, r28, r30,
      r24 x w b s h _ (col n) (by show n.val = 64 * h.val + e.val; omega), r25 x w b s h _ (colR n) (by show n.val + 32 = 64 * h.val + (32 + e.val); omega), hf]
    rfl
  · refine (cat_hi _ _ b s h e ⟨e.val - 32, by omega⟩ (by show e.val - 32 + 32 = e.val; omega)).trans ?_
    have hf : (⟨e.val - 32, by omega⟩ : Fin 32) = fqc n := Fin.ext (by show e.val - 32 = n.val % 32; omega)
    rw [if_neg (show ¬ n.val % 64 < 32 by omega), val_main_v37_apply, val_main_v34_apply, val_main_v36_apply, r33, r35,
      r25 x w b s h _ (col n) (by show n.val = 64 * h.val + (32 + (e.val - 32)); omega), r24 x w b s h _ (colL n) (by show n.val - 32 = 64 * h.val + (e.val - 32); omega), hf]
    rfl

/-- The keys with the rotary embedding. -/
theorem r56 (b : Fin 8) (s : Fin 8192) (h : Fin 16) (e : Fin 64) (n : Fin 2048) (hn : n.val = 1024 + (64 * h.val + e.val)) :
    val_main_v56 (F := Ideal) x w (ix4 b s h e) = R x w b s n := by
  have he := e.isLt; have hh := h.isLt
  unfold val_main_v56 R
  by_cases hc : e.val < 32
  · refine (cat_lo _ _ b s h e ⟨e.val, hc⟩ rfl).trans ?_
    have hf : (⟨e.val, hc⟩ : Fin 32) = fqc n := Fin.ext (by show e.val = n.val % 32; omega)
    rw [if_pos (show n.val % 64 < 32 by omega), val_main_v50_apply, val_main_v47_apply, val_main_v49_apply, r46, r48,
      r42 x w b s h _ (col n) (by show n.val = 1024 + (64 * h.val + e.val); omega), r43 x w b s h _ (colR n) (by show n.val + 32 = 1024 + (64 * h.val + (32 + e.val)); omega), hf]
    rfl
  · refine (cat_hi _ _ b s h e ⟨e.val - 32, by omega⟩ (by show e.val - 32 + 32 = e.val; omega)).trans ?_
    have hf : (⟨e.val - 32, by omega⟩ : Fin 32) = fqc n := Fin.ext (by show e.val - 32 = n.val % 32; omega)
    rw [if_neg (show ¬ n.val % 64 < 32 by omega), val_main_v55_apply, val_main_v52_apply, val_main_v54_apply, r51, r53,
      r43 x w b s h _ (col n) (by show n.val = 1024 + (64 * h.val + (32 + (e.val - 32))); omega), r42 x w b s h _ (colL n) (by show n.val - 32 = 1024 + (64 * h.val + (e.val - 32)); omega), hf]
    rfl

/-- A row of heads, flattened. -/
theorem idx58 (r : Fin 65536) (k : Fin 1024) :
    idx_main_v58 (ix2 r k) = ix4 (rb r) (rs r) (⟨k.val / 64, by have := k.isLt; omega⟩ : Fin 16) (⟨k.val % 64, Nat.mod_lt _ (by norm_num)⟩ : Fin 64) := by
  have hr := r.isLt; have hk := k.isLt
  refine funext fun a => Fin.ext ?_
  match a with
  | ⟨0, _⟩ => show (r.val * 1024 + k.val) / 8388608 = r.val / 8192; omega
  | ⟨1, _⟩ => show (r.val * 1024 + k.val) / 1024 % 8192 = r.val % 8192; omega
  | ⟨2, _⟩ => show (r.val * 1024 + k.val) / 64 % 16 = k.val / 64; omega
  | ⟨3, _⟩ => show (r.val * 1024 + k.val) % 64 = k.val % 64; omega

/-- The first result: the scaled queries beside the keys. -/
theorem r61 (i : S65536x2048.Idx) : val_main_v61 (F := Ideal) x w i = Gqk x w i := by
  obtain ⟨r, n, rfl⟩ : ∃ (r : Fin 65536) (n : Fin 2048), i = ix2 r n := ⟨i 0, i 1, eq_ix2 i⟩
  have hn := n.isLt
  rw [val_main_v61_apply]
  show val_main_v60 (F := Ideal) x w (ix2 r n) = _
  unfold val_main_v60 Gqk
  show _ = if n.val < 1024 then R x w (rb r) (rs r) n * Ideal.ofBits .f32 0x3E38AA3B#32 else R x w (rb r) (rs r) n
  by_cases hc : n.val < 1024
  · rw [if_pos hc]
    refine (row_lo _ _ r n ⟨n.val, hc⟩ rfl).trans ?_
    rw [val_main_v58_apply, idx58, val_main_v40_apply, r38 x w _ _ _ _ n (by show n.val = 64 * (n.val / 64) + n.val % 64; omega),
      val_main_v39_apply]
    rfl
  · rw [if_neg hc]
    refine (row_hi _ _ r n ⟨n.val - 1024, by omega⟩ (by show n.val - 1024 + 1024 = n.val; omega)).trans ?_
    rw [val_main_v59_apply]
    refine (congrArg (val_main_v56 (F := Ideal) x w) (idx58 r _)).trans ?_
    exact r56 x w _ _ _ _ n (by show n.val = 1024 + (64 * ((n.val - 1024) / 64) + (n.val - 1024) % 64); omega)

/-- The second result: the transposed values. -/
theorem r63 (i : S8x8x16x128x512.Idx) : val_main_v63 (F := Ideal) x w i = Gv x w i := by
  have h0 : (i 0).val < 8 := (i 0).isLt
  have h1 : (i 1).val < 8 := (i 1).isLt
  have h2 : (i 2).val < 16 := (i 2).isLt
  have h3 : (i 3).val < 128 := (i 3).isLt
  have h4 : (i 4).val < 512 := (i 4).isLt
  rw [val_main_v63_apply]
  show val_main_v62 (F := Ideal) x w i = _
  rw [val_main_v62_apply, val_main_v57_apply, val_main_v22_apply, r19]
  unfold Gv
  refine P_congr x w ?_ ?_ ?_
  · show (((((i 0).val * 16 + (i 2).val) * 512 + (i 4).val) * 8 + (i 1).val) * 128 + (i 3).val) / 8388608 = (i 0).val; omega
  · show (((((i 0).val * 16 + (i 2).val) * 512 + (i 4).val) * 8 + (i 1).val) * 128 + (i 3).val) / 1024 % 8192 = 512 * (i 2).val + (i 4).val; omega
  · show 2048 + (((((i 0).val * 16 + (i 2).val) * 512 + (i 4).val) * 8 + (i 1).val) * 128 + (i 3).val) % 1024 = 2048 + 128 * (i 1).val + (i 3).val; omega

end Cert.Reference2Ideal.Hand
-- ==== Proof.RopeText.lean ====
/-
  The printed projection kernel's text is the idealized one's.
-/
module

public import proofs.«01_k».proof.Proof.Gen.Kernel2
public import proofs.«01_k».proof.Proof.Gen.Kernel2Ideal
public import proofs.«01_k».proof.Defs

@[expose] public section

set_option maxRecDepth 16384
set_option maxHeartbeats 4000000

noncomputable section

namespace Cert.RopeClaims

open Idealize.ShloMosaic Idealize.SL.Sem Idealize.ShloMosaic.TcCoe

theorem cc0_eq : Cert.Kernel2.cc0_qkv_rope (F := Bits) = Cert.Kernel2Ideal.cc0_qkv_rope (F := Bits) := rfl

theorem main_eq : Cert.Kernel2.main (F := Bits) = Cert.Kernel2Ideal.main (F := Bits) := rfl
theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) =>
    show Cert.Kernel2.cc0_qkv_rope (F := Bits) _ _ _ _ _ _ _ _ _ _ _ _ _ _ _ _ _ = _
    rw [cc0_eq]
    rfl
theorem defs_eq : Cert.Kernel2.defs (F := Bits) = Cert.Kernel2Ideal.defs (F := Bits) :=
  congrArg (Pipeline.defs (Cert.Kernel2Ideal.pcfgs (F := Bits))) defs₀_eq

end Cert.RopeClaims
-- ==== Proof.RopeClaims.lean ====
/-
  The claims about the projection with the rotary embedding: the frames, and that both programs end with the
  closed form.
-/
module

public import proofs.«01_k».proof.Defs
public import proofs.«01_k».proof.Proof.RopeRef
public import proofs.«01_k».proof.Proof.RopeText
public import proofs.«01_k».proof.Proof.Gen.Kernel2
public import proofs.«01_k».proof.Proof.Gen.Reference2Ideal.Run

@[expose] public section

set_option maxRecDepth 16384

noncomputable section

namespace Cert.RopeClaims

open Idealize.ShloMosaic Idealize.SL.Sem Idealize.ShloMosaic.TcCoe

/-- The printed kernel's frame: its text is the idealized one's. -/
theorem frame_printed : Cert.quiescent_Kernel2 := by
  intro m ρ _
  have h := Cert.Kernel2Ideal.Gen.frame (F := Bits) m ρ
  rw [← defs_eq, ← main_eq] at h
  exact h

/-- The idealized kernel's frame. -/
theorem frame_ideal : Cert.quiescent_Kernel2Ideal := fun m ρ _ => Cert.Kernel2Ideal.Gen.frame m ρ

/-- The reference's frame. -/
theorem frame_ref : Cert.quiescent_Reference2Ideal := fun m ρ _ =>
  (θ_run _ _ _).mono (fun _ h => ⟨fun c => (h c).2.2, sem_eq_zero_of_no_sems rfl _⟩) (Cert.Reference2Ideal.Value.run m ρ)

section
open Cert.Kernel2Ideal Cert.Kernel2Ideal.Gen Cert.Kernel2Ideal.Hand

/-- The kernel's run ends with the closed form in its result arrays. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37_0)
        = Gqk (m ((c.tc : Thread nD τ).loc main_arg0)) (m ((c.tc : Thread nD τ).loc main_arg1))
      ∧ r.2.mem ((c.tc : Thread nD τ).loc main_v37_1)
        = Gv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arrAt6 m c), (h c).2.1.trans (arrAt7 m c), (h c).2.2⟩)
    (Cert.Kernel2Ideal.Value.run_blocks m ρ)

end

/-- Both programs end with the closed form. -/
theorem algebraic : Cert.algebraic_Kernel2Ideal_Reference2Ideal := by
  intro m g m' g' _ hargs
  refine ⟨_, _, run_value m g, ?_⟩
  refine (θ_run _ _ _).mono (fun r h c => ⟨(h c).1.trans ?_, (h c).2.1.trans ?_, (h c).2.2⟩) (Cert.Reference2Ideal.Value.run m' g')
  · obtain ⟨e0, e1⟩ := hargs c
    rw [Cert.Reference2Ideal.Read.val_main_v61_eq, e0, e1]
    exact funext fun i => Cert.Reference2Ideal.Hand.r61 _ _ i
  · obtain ⟨e0, e1⟩ := hargs c
    rw [Cert.Reference2Ideal.Read.val_main_v63_eq, e0, e1]
    exact funext fun i => Cert.Reference2Ideal.Hand.r63 _ _ i

end Cert.RopeClaims
-- ==== Proof.RopeB.lean ====
/-
  The projection to queries, keys and values with the rotary embedding, of the sliding-window layer: what a block of 512 rows computes, column by column.
-/
module

public import proofs.«01_k».proof.Proof.Gen.Kernel4Ideal.Value
public import Idealize.ShloMosaic.Lib.ValueIdx
public import Idealize.ShloMosaic.Lib.ValueLayout
public import Idealize.ShloMosaic.Lib.ValueLayoutCasts
public import Idealize.ShloMosaic.Lib.KernelVsHost
public import Idealize.ShloMosaic.Lib.Pipeline.ValueKit.Geometry

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.ValueIdx

/-- The product of a block of rows. -/
theorem dotP (x : FVec Ideal S512x1024 .bf16) (y : FVec Ideal S1024x512 .bf16) (r : Fin 512) (c : Fin 512) :
    matmul dot_S512x1024_S1024x512_S512x512_1_0_0_1_n_n none x y (constant S512x512 .f32 0x00000000#32) (ix2 r c)
      = ∑ i : Fin 1024, x (ix2 r i) * y (ix2 i c) := by
  simp only [matmul]
  rw [Ideal.matmul_constant_zero_apply]
  rw [← Equiv.sum_comp (ValueIdx.contrEquiv1 dot_S512x1024_S1024x512_S512x512_1_0_0_1_n_n 1024 rfl rfl).symm]
  refine Finset.sum_congr rfl fun i _ => ?_
  have hk := ValueIdx.contrEquiv1_symm_val dot_S512x1024_S1024x512_S512x512_1_0_0_1_n_n 1024 rfl rfl i
  refine congrArg₂ (· * ·) (congrArg x ?_) (congrArg y ?_)
  · funext a
    match a with
    | ⟨0, _⟩ => rfl
    | ⟨1, _⟩ => exact Fin.ext hk
  · funext a
    match a with
    | ⟨0, _⟩ => exact Fin.ext hk
    | ⟨1, _⟩ => rfl

/-- A chunk of 512 columns of the projection. -/
def chunk (x : FVec Ideal S512x1024 .bf16) (w : Vec Ideal S1024x512 .bf16) (b : Vec Ideal S1x512 .f32) : FVec Ideal S512x512 .f32 :=
  addf (matmul (F := Ideal) (φ₁ := .bf16) (φ₂ := .bf16) dot_S512x1024_S1024x512_S512x512_1_0_0_1_n_n none x
      (shapeCast S1024x512 w shapeCasts_S1024x512_S1024x512) (constant S512x512 .f32 0x00000000#32))
    (broadcastTo S512x512 (shapeCast S1x512 b shapeCasts_S1x512_S1x512) broadcasts_S1x512_S512x512)

/-- One column of the projection of a block's row, with its bias. -/
def bproj (x : FVec Ideal S512x1024 .bf16) (w : Vec Ideal S1024x1536 .bf16) (b : Vec Ideal S1x1536 .f32) (r : Fin 512) (j : Fin 1536) : EReal :=
  (∑ i : Fin 1024, x (ix2 r i) * w (ix2 i j)) + b (ix2 0 j)

theorem chunk_apply (x : FVec Ideal S512x1024 .bf16) (w : Vec Ideal S1024x1536 .bf16) (b : Vec Ideal S1x1536 .f32) (n0 : ℕ)
    (hw : ∀ a, (![0, n0] : Fin 2 → ℕ) a + S1024x512.size a ≤ S1024x1536.size a) (hb : ∀ a, (![0, n0] : Fin 2 → ℕ) a + S1x512.size a ≤ S1x1536.size a)
    (r : Fin 512) (q : Fin 512) (j : Fin 1536) (hj : j.val = n0 + q.val) :
    chunk x (View.ld w (Rect.unit (s := S1024x1536) ![0, n0] S1024x512.size hw)) (View.ld b (Rect.unit (s := S1x1536) ![0, n0] S1x512.size hb)) (ix2 r q)
      = bproj x w b r j := by
  unfold chunk bproj
  rw [shapeCast_self, shapeCast_self]
  refine congrArg₂ (· + ·) ((dotP x _ r q).trans (Finset.sum_congr rfl fun i _ => congrArg (x (ix2 r i) * ·) ?_)) ?_
  · refine congrArg w (funext fun a => Fin.ext ?_)
    match a with
    | ⟨0, _⟩ => show 0 + 1 * i.val = i.val; omega
    | ⟨1, _⟩ => show n0 + 1 * q.val = j.val; omega
  · refine (broadcastTo_1b_ab_apply _ broadcasts_S1x512_S512x512 r q).trans ?_
    refine congrArg b (funext fun a => Fin.ext ?_)
    match a with
    | ⟨0, _⟩ => rfl
    | ⟨1, _⟩ => show n0 + 1 * q.val = j.val; omega

/-- The rotary embedding of a group of 128 columns: the group and its two lane rotations, each by its table. -/
def rot (k0 : ℕ) (h : S512x512.Slices ![0, k0] S512x128) (a : FVec Ideal S512x512 .f32) (c s1 s2 : FVec Ideal S512x128 .f32) : FVec Ideal S512x128 .f32 :=
  addf (addf (mulf (extractStridedSlice S512x128 ![0, k0] a h) c)
      (mulf (dynamicRotate 1 96#32 none (extractStridedSlice S512x128 ![0, k0] a h) rotates_S512x128_d1) s1))
    (mulf (dynamicRotate 1 32#32 none (extractStridedSlice S512x128 ![0, k0] a h) rotates_S512x128_d1) s2)

/-- The lane 32 to the right, and the lane 32 to the left, in a group of 128. -/
def lR (l : Fin 128) : Fin 128 := ⟨(l.val + 32) % 128, Nat.mod_lt _ (by norm_num)⟩
def lL (l : Fin 128) : Fin 128 := ⟨(l.val + 96) % 128, Nat.mod_lt _ (by norm_num)⟩

theorem rotR (a : FVec Ideal S512x128 .f32) (r : Fin 512) (l : Fin 128) :
    dynamicRotate 1 96#32 none a rotates_S512x128_d1 (ix2 r l) = a (ix2 r (lR l)) :=
  dynamicRotate_apply 1 96#32 a _ (ix2 r l) (ix2 r (lR l)) (fun b => match b with
    | ⟨0, _⟩ => rfl
    | ⟨1, _⟩ => by
      show (l.val + 32) % 128 = (l.val + 128 - 96 % 128) % 128
      omega)
theorem rotL (a : FVec Ideal S512x128 .f32) (r : Fin 512) (l : Fin 128) :
    dynamicRotate 1 32#32 none a rotates_S512x128_d1 (ix2 r l) = a (ix2 r (lL l)) :=
  dynamicRotate_apply 1 32#32 a _ (ix2 r l) (ix2 r (lL l)) (fun b => match b with
    | ⟨0, _⟩ => rfl
    | ⟨1, _⟩ => by
      show (l.val + 96) % 128 = (l.val + 128 - 32 % 128) % 128
      omega)

theorem slice_col (k0 : ℕ) (hk : k0 + 128 ≤ 512) (h : S512x512.Slices ![0, k0] S512x128) (a : FVec Ideal S512x512 .f32) (r : Fin 512) (l : Fin 128) :
    extractStridedSlice S512x128 ![0, k0] a h (ix2 r l) = a (ix2 r (⟨k0 + l.val, by have := l.isLt; omega⟩ : Fin 512)) :=
  extractStridedSlice_apply _ _ _ (ix2 r l) (ix2 r (⟨k0 + l.val, by have := l.isLt; omega⟩ : Fin 512)) (fun b => match b with
    | ⟨0, _⟩ => by show r.val = 0 + r.val; omega
    | ⟨1, _⟩ => by show k0 + l.val = k0 + l.val; rfl)

/-- The lane of a column in its group, and a column of the same group. -/
def lane (n : Fin 1280) : Fin 128 := ⟨n.val % 128, Nat.mod_lt _ (by norm_num)⟩
def inGroup (n : Fin 1280) (l : Fin 128) : Fin 1536 := ⟨n.val / 128 * 128 + l.val, by have := n.isLt; have := l.isLt; omega⟩

/-- The rotary embedding of a column, by the tables. -/
def bropeU (x : FVec Ideal S512x1024 .bf16) (w : Vec Ideal S1024x1536 .bf16) (b : Vec Ideal S1x1536 .f32) (c s1 s2 : FVec Ideal S512x128 .f32)
    (r : Fin 512) (n : Fin 1280) : EReal :=
  bproj x w b r (inGroup n (lane n)) * c (ix2 r (lane n)) + bproj x w b r (inGroup n (lR (lane n))) * s1 (ix2 r (lane n))
    + bproj x w b r (inGroup n (lL (lane n))) * s2 (ix2 r (lane n))

/-- A column of what is stored beside: the queries' columns scaled. -/
def brope (x : FVec Ideal S512x1024 .bf16) (w : Vec Ideal S1024x1536 .bf16) (b : Vec Ideal S1x1536 .f32) (c s1 s2 : FVec Ideal S512x128 .f32) :
    Vec Ideal S512x1280 .bf16 := fun y =>
  if (y 1).val < 1024 then bropeU x w b c s1 s2 (y 0) (y 1) * Ideal.ofBits .f32 0x3E38AA3B#32 else bropeU x w b c s1 s2 (y 0) (y 1)

section
variable (x : FVec Ideal S512x1024 .bf16) (w : Vec Ideal S1024x1536 .bf16) (b : Vec Ideal S1x1536 .f32) (c s1 s2 : FVec Ideal S512x128 .f32)

theorem rot_apply (n0 k0 : ℕ) (hk : k0 + 128 ≤ 512) (hd : (n0 + k0) % 128 = 0)
    (hw : ∀ a, (![0, n0] : Fin 2 → ℕ) a + S1024x512.size a ≤ S1024x1536.size a) (hb : ∀ a, (![0, n0] : Fin 2 → ℕ) a + S1x512.size a ≤ S1x1536.size a)
    (h : S512x512.Slices ![0, k0] S512x128) (r : Fin 512) (l : Fin 128) (n : Fin 1280) (hn : n.val = n0 + k0 + l.val) :
    rot k0 h (chunk x (View.ld w (Rect.unit (s := S1024x1536) ![0, n0] S1024x512.size hw)) (View.ld b (Rect.unit (s := S1x1536) ![0, n0] S1x512.size hb))) c s1 s2 (ix2 r l)
      = bropeU x w b c s1 s2 r n := by
  have hl : lane n = l := Fin.ext (by show n.val % 128 = l.val; have := l.isLt; omega)
  have hg : ∀ l' : Fin 128, (inGroup n l').val = n0 + (k0 + l'.val) := fun l' => by
    show n.val / 128 * 128 + l'.val = _
    have := l.isLt; omega
  unfold bropeU rot
  rw [hl]
  refine congrArg₂ (· + ·) (congrArg₂ (· + ·) (congrArg (· * c (ix2 r l)) ?_) (congrArg (· * s1 (ix2 r l)) ?_)) (congrArg (· * s2 (ix2 r l)) ?_)
  · exact (slice_col k0 hk h _ r l).trans (chunk_apply x w b n0 hw hb r _ _ (hg l))
  · exact ((rotR _ r l).trans (slice_col k0 hk h _ r (lR l))).trans (chunk_apply x w b n0 hw hb r _ _ (hg (lR l)))
  · exact ((rotL _ r l).trans (slice_col k0 hk h _ r (lL l))).trans (chunk_apply x w b n0 hw hb r _ _ (hg (lL l)))

/-- A stored group of the keys. -/
theorem piece_k (n0 k0 N : ℕ) (hk : k0 + 128 ≤ 512) (hN : N = n0 + k0) (hd : N % 128 = 0) (hge : 1024 ≤ N)
    (hw : ∀ a, (![0, n0] : Fin 2 → ℕ) a + S1024x512.size a ≤ S1024x1536.size a) (hb : ∀ a, (![0, n0] : Fin 2 → ℕ) a + S1x512.size a ≤ S1x1536.size a)
    (h : S512x512.Slices ![0, k0] S512x128) (ho : ∀ a, (![0, N] : Fin 2 → ℕ) a + S512x128.size a ≤ S512x1280.size a) (y : S512x128.Idx) :
    (truncf .bf16 (rot k0 h (chunk x (View.ld w (Rect.unit (s := S1024x1536) ![0, n0] S1024x512.size hw)) (View.ld b (Rect.unit (s := S1x1536) ![0, n0] S1x512.size hb))) c s1 s2)
        bitsLt_bf16_f32 : FVec Ideal S512x128 .bf16) y
      = brope x w b c s1 s2 ((Rect.unit (s := S512x1280) ![0, N] S512x128.size ho).emb y) := by
  obtain ⟨r, l, rfl⟩ : ∃ (r : Fin 512) (l : Fin 128), y = ix2 r l := ⟨y 0, y 1, eq_ix2 y⟩
  have hl := l.isLt
  have hN2 : N + 128 ≤ 1280 := ho 1
  have he : (Rect.unit (s := S512x1280) ![0, N] S512x128.size ho).emb (ix2 r l) = ix2 r (⟨N + l.val, by omega⟩ : Fin 1280) := by
    refine funext fun a => Fin.ext ?_
    match a with
    | ⟨0, _⟩ => show 0 + 1 * r.val = r.val; omega
    | ⟨1, _⟩ => show N + 1 * l.val = N + l.val; omega
  rw [he]
  unfold brope
  rw [if_neg (show ¬ (N + l.val < 1024) by omega)]
  exact rot_apply x w b c s1 s2 n0 k0 hk (hN ▸ hd) hw hb h r l _ (by show N + l.val = _; omega)

/-- A stored group of the queries. -/
theorem piece_q (n0 k0 N : ℕ) (hk : k0 + 128 ≤ 512) (hN : N = n0 + k0) (hd : N % 128 = 0) (hge : N + 128 ≤ 1024)
    (hw : ∀ a, (![0, n0] : Fin 2 → ℕ) a + S1024x512.size a ≤ S1024x1536.size a) (hb : ∀ a, (![0, n0] : Fin 2 → ℕ) a + S1x512.size a ≤ S1x1536.size a)
    (h : S512x512.Slices ![0, k0] S512x128) (ho : ∀ a, (![0, N] : Fin 2 → ℕ) a + S512x128.size a ≤ S512x1280.size a) (y : S512x128.Idx) :
    (truncf .bf16 (mulf (rot k0 h (chunk x (View.ld w (Rect.unit (s := S1024x1536) ![0, n0] S1024x512.size hw)) (View.ld b (Rect.unit (s := S1x1536) ![0, n0] S1x512.size hb))) c s1 s2)
        (broadcast S512x128 (Scalar.ofBits .f32 0x3E38AA3B#32))) bitsLt_bf16_f32 : FVec Ideal S512x128 .bf16) y
      = brope x w b c s1 s2 ((Rect.unit (s := S512x1280) ![0, N] S512x128.size ho).emb y) := by
  obtain ⟨r, l, rfl⟩ : ∃ (r : Fin 512) (l : Fin 128), y = ix2 r l := ⟨y 0, y 1, eq_ix2 y⟩
  have hl := l.isLt
  have he : (Rect.unit (s := S512x1280) ![0, N] S512x128.size ho).emb (ix2 r l) = ix2 r (⟨N + l.val, by omega⟩ : Fin 1280) := by
    refine funext fun a => Fin.ext ?_
    match a with
    | ⟨0, _⟩ => show 0 + 1 * r.val = r.val; omega
    | ⟨1, _⟩ => show N + 1 * l.val = N + l.val; omega
  rw [he]
  unfold brope
  rw [if_pos (show N + l.val < 1024 by omega)]
  exact congrArg (· * Ideal.ofBits .f32 0x3E38AA3B#32)
    (rot_apply x w b c s1 s2 n0 k0 hk (hN ▸ hd) hw hb h r l _ (by show N + l.val = _; omega))

/-- The stored values: a column of the projection for each lane, transposed. -/
def bval : Vec Ideal S1x2x1x128x512 .bf16 := fun y =>
  bproj x w b (y 4) (⟨1280 + 128 * (y 1).val + (y 3).val, by
    have h1 : (y 1).val < 2 := (y 1).isLt; have h3 : (y 3).val < 128 := (y 3).isLt; omega⟩ : Fin 1536)

/-- An element of a transposed group. -/
theorem vt_apply (n0 k0 : ℕ) (hk : k0 + 128 ≤ 512)
    (hw : ∀ a, (![0, n0] : Fin 2 → ℕ) a + S1024x512.size a ≤ S1024x1536.size a) (hb : ∀ a, (![0, n0] : Fin 2 → ℕ) a + S1x512.size a ≤ S1x1536.size a)
    (h : S512x512.Slices ![0, k0] S512x128) (e : Fin 128) (q : Fin 512) (j : Fin 1536) (hj : j.val = n0 + (k0 + e.val)) :
    (truncf .bf16 (transpose S128x512 [1, 0] (extractStridedSlice S512x128 ![0, k0]
        (chunk x (View.ld w (Rect.unit (s := S1024x1536) ![0, n0] S1024x512.size hw)) (View.ld b (Rect.unit (s := S1x1536) ![0, n0] S1x512.size hb))) h)
        transposes_S512x128_p1_0_S128x512) bitsLt_bf16_f32 : FVec Ideal S128x512 .bf16) (ix2 e q) = bproj x w b q j := by
  rw [ValueIdx.truncf_apply]
  refine (transpose_apply (s := S512x128) (t := S128x512) [1, 0] _ transposes_S512x128_p1_0_S128x512 (ix2 e q) (ix2 q e) (fun a => match a with
    | ⟨0, _⟩ => rfl
    | ⟨1, _⟩ => rfl)).trans ?_
  refine (slice_col k0 hk h _ q e).trans ?_
  exact chunk_apply x w b n0 hw hb q _ j hj

/-- A stored group of the values. -/
theorem piece_v (n0 k0 H : ℕ) (hk : k0 + 128 ≤ 512) (hN : 1280 + 128 * H = n0 + k0)
    (hw : ∀ a, (![0, n0] : Fin 2 → ℕ) a + S1024x512.size a ≤ S1024x1536.size a) (hb : ∀ a, (![0, n0] : Fin 2 → ℕ) a + S1x512.size a ≤ S1x1536.size a)
    (h : S512x512.Slices ![0, k0] S512x128) (ho : ∀ a, (![0, H, 0, 0, 0] : Fin 5 → ℕ) a + S1x1x1x128x512.size a ≤ S1x2x1x128x512.size a) (y : S1x1x1x128x512.Idx) :
    (shapeCast S1x1x1x128x512 (truncf .bf16 (transpose S128x512 [1, 0] (extractStridedSlice S512x128 ![0, k0]
        (chunk x (View.ld w (Rect.unit (s := S1024x1536) ![0, n0] S1024x512.size hw)) (View.ld b (Rect.unit (s := S1x1536) ![0, n0] S1x512.size hb))) h)
        transposes_S512x128_p1_0_S128x512) bitsLt_bf16_f32 : FVec Ideal S128x512 .bf16) shapeCasts_S128x512_S1x1x1x128x512 : FVec Ideal S1x1x1x128x512 .bf16) y
      = bval x w b ((Rect.unit (s := S1x2x1x128x512) ![0, H, 0, 0, 0] S1x1x1x128x512.size ho).emb y) := by
  have h0 : (y 0).val < 1 := (y 0).isLt
  have h1 : (y 1).val < 1 := (y 1).isLt
  have h2 : (y 2).val < 1 := (y 2).isLt
  refine (shapeCast_apply _ _ y (ix2 (y 3 : Fin 128) (y 4 : Fin 512)) (by
    rw [Shape.rowMajor_val_two, Shape.rowMajor_val_five]
    show (y 3).val * 512 + (y 4).val = ((((y 0).val * 1 + (y 1).val) * 1 + (y 2).val) * 128 + (y 3).val) * 512 + (y 4).val
    omega)).trans ?_
  refine (vt_apply x w b n0 k0 hk hw hb h (y 3) (y 4) (⟨1280 + 128 * H + (y 3).val, by
    have h3 : (y 3).val < 128 := (y 3).isLt; have := ho 1; have : H + 1 ≤ 2 := this; omega⟩ : Fin 1536) (by
      show 1280 + 128 * H + (y 3).val = n0 + (k0 + (y 3).val); omega)).trans ?_
  unfold bval
  refine congrArg₂ (bproj x w b) (Fin.ext ?_) (Fin.ext ?_)
  · show (y 4).val = 0 + 1 * (y 4).val; omega
  · show 1280 + 128 * H + (y 3).val = 1280 + 128 * (H + 1 * (y 1).val) + (0 + 1 * (y 3).val); omega

end

/-! ## What a block stores -/

section
variable (x0 : Vec Ideal S512x1024 .f32) (x1 : Vec Ideal S1024x1536 .bf16) (x2 : Vec Ideal S1x1536 .f32) (x3 x4 x5 : Vec Ideal S512x128 .f32)

theorem out6_eq (y : S512x1280.Idx) : out0_6 x0 x1 x2 x3 x4 x5 y
    = brope (k0_pay26 x0 x1 x2 x3 x4 x5) x1 x2 (k0_pay27 x0 x1 x2 x3 x4 x5) (k0_pay28 x0 x1 x2 x3 x4 x5) (k0_pay29 x0 x1 x2 x3 x4 x5) y := by
  unfold out0_6
  refine View.canon_apply_of_pieces _ _ ?_ y (cover0_6 _ _ _ _ _ _ _ _ _ _ y)
  simp only [List.forall_mem_cons]
  refine ⟨?_, ?_, ?_, ?_, ?_, ?_, ?_, ?_, ?_, ?_, by simp⟩
  · exact fun z => piece_k _ _ _ _ _ _ 1024 128 1152 (by norm_num) rfl rfl (by norm_num) _ _ _ _ z
  · exact fun z => piece_k _ _ _ _ _ _ 1024 0 1024 (by norm_num) rfl rfl (by norm_num) _ _ _ _ z
  · exact fun z => piece_q _ _ _ _ _ _ 512 384 896 (by norm_num) rfl rfl (by norm_num) _ _ _ _ z
  · exact fun z => piece_q _ _ _ _ _ _ 512 256 768 (by norm_num) rfl rfl (by norm_num) _ _ _ _ z
  · exact fun z => piece_q _ _ _ _ _ _ 512 128 640 (by norm_num) rfl rfl (by norm_num) _ _ _ _ z
  · exact fun z => piece_q _ _ _ _ _ _ 512 0 512 (by norm_num) rfl rfl (by norm_num) _ _ slices_S512x512_o0_0_S512x128 _ z
  · exact fun z => piece_q _ _ _ _ _ _ 0 384 384 (by norm_num) rfl rfl (by norm_num) _ _ _ _ z
  · exact fun z => piece_q _ _ _ _ _ _ 0 256 256 (by norm_num) rfl rfl (by norm_num) _ _ _ _ z
  · exact fun z => piece_q _ _ _ _ _ _ 0 128 128 (by norm_num) rfl rfl (by norm_num) _ _ _ _ z
  · exact fun z => piece_q _ _ _ _ _ _ 0 0 0 (by norm_num) rfl rfl (by norm_num) _ _ _ _ z

theorem out7_eq (y : S1x2x1x128x512.Idx) : out0_7 x0 x1 x2 x3 x4 x5 y = bval (k0_pay26 x0 x1 x2 x3 x4 x5) x1 x2 y := by
  unfold out0_7
  refine View.canon_apply_of_pieces _ _ ?_ y (cover0_7 _ _ y)
  simp only [List.forall_mem_cons]
  refine ⟨?_, ?_, by simp⟩
  · exact fun z => piece_v _ _ _ 1024 384 1 (by norm_num) rfl _ _ _ _ z
  · exact fun z => piece_v _ _ _ 1024 256 0 (by norm_num) rfl _ _ _ _ z

end

end Cert.Kernel4Ideal.Hand
-- ==== Proof.RopeBHost.lean ====
/-
  The host's arrays of the sliding-window layer's projection with the rotary embedding: the tables of cosines and signed sines, the columns
  of the weights and of the bias in the kernel's order, and the blocks of the arrays.
-/
module

public import proofs.«01_k».proof.Proof.RopeB
public import proofs.«01_k».proof.Proof.Gen.Reference4Ideal.Read

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.ValueIdx

/-- The angles, as the reference spells them. -/
def ang : FVec Ideal S8192x32 .f32 := Cert.Reference4Ideal.Read.val_main_v16 (F := Ideal)

/-- A table of one value per position and frequency, laid out over the 128 lanes. -/
def wide (t : FVec Ideal S8192x32 .f32) : FVec Ideal S8192x128 .f32 :=
  shapeCast S8192x128 (broadcastInDim S1x8192x4x32 ![0, 1, 2, 3] bcast_S1x8192x1x32_S1x8192x4x32_0_1_2_3
    (shapeCast S1x8192x1x32 t shapeCasts_S8192x32_S1x8192x1x32)) shapeCasts_S1x8192x4x32_S8192x128

def modulus : IVec S_ 32 := select (cmpi .eq (constantI S_ 32 64#32) (constantI S_ 32 0#32)) (constantI S_ 32 1#32) (constantI S_ 32 64#32)
def remd : IVec S128 32 := Host.remsi (iotaInDim S128 32 0) (broadcastInDim S128 ![] bcast_S_S128 modulus)
/-- A lane's number modulo 64. -/
def lrem : IVec S128 32 :=
  select (andi (cmpi .ne (cmpi .slt remd (broadcastInDim S128 ![] bcast_S_S128 (constantI S_ 32 0#32)))
      (broadcastInDim S128 ![] bcast_S_S128 (cmpi .slt modulus (constantI S_ 32 0#32))))
    (cmpi .ne remd (broadcastInDim S128 ![] bcast_S_S128 (constantI S_ 32 0#32))))
    (addi remd (broadcastInDim S128 ![] bcast_S_S128 modulus)) remd
/-- Whether a lane is in the first half of a head. -/
def lomask : IVec S128 1 := cmpi .slt lrem (broadcastInDim S128 ![] bcast_S_S128 (constantI S_ 32 32#32))

theorem lomask_apply : ∀ l : Fin 128, lomask (ix1 l) = if l.val % 64 < 32 then 1#1 else 0#1 := by decide +kernel

/-- The mask over the rows of a table. -/
def bmask : IVec S8192x128 1 :=
  broadcastInDim S8192x128 ![0, 1] bcast_S1x128_S8192x128_0_1 (broadcastInDim S1x128 ![1] bcast_S128_S1x128_1 lomask)
def zeros : FVec Ideal S8192x128 .f32 := broadcastInDim S8192x128 ![] bcast_S_S8192x128 (constant S_ .f32 0x00000000#32)

/-! ## The columns in the kernel's order -/

/-- The two halves of the columns, swapped. -/
def swapW (a : FVec Ideal S1024x128 .f32) : FVec Ideal S1024x128 .f32 :=
  concatenate S1024x128 1 [⟨S1024x64, extractStridedSlice S1024x64 ![0, 64] a slices_S1024x128_S1024x64_0_64⟩,
    ⟨S1024x64, extractStridedSlice S1024x64 ![0, 0] a slices_S1024x128_S1024x64_0_0⟩] concatenates_S1024x64_S1024x64_S1024x128_d1
def wk (w : FVec Ideal S1024x1280 .f32) : FVec Ideal S1024x128 .f32 := extractStridedSlice S1024x128 ![0, 1024] w slices_S1024x1280_S1024x128_0_1024
def wv (w : FVec Ideal S1024x1280 .f32) : FVec Ideal S1024x128 .f32 := extractStridedSlice S1024x128 ![0, 1152] w slices_S1024x1280_S1024x128_0_1152
def wq (w : FVec Ideal S1024x1280 .f32) : FVec Ideal S1024x1024 .f32 := extractStridedSlice S1024x1024 ![0, 0] w slices_S1024x1280_S1024x1024_0_0
/-- The weights of the queries, of the keys in both orders of the heads, and of the values in both orders. -/
def wcat (w : FVec Ideal S1024x1280 .f32) : FVec Ideal S1024x1536 .f32 :=
  concatenate S1024x1536 1 [⟨S1024x1024, wq w⟩, ⟨S1024x128, wk w⟩, ⟨S1024x128, swapW (wk w)⟩, ⟨S1024x128, wv w⟩, ⟨S1024x128, swapW (wv w)⟩]
    concatenates_S1024x1024_S1024x128_S1024x128_S1024x128_S1024x128_S1024x1536_d1

def swapB (a : FVec Ideal S128 .f32) : FVec Ideal S128 .f32 :=
  concatenate S128 0 [⟨S64, extractStridedSlice S64 ![64] a slices_S128_S64_64⟩, ⟨S64, extractStridedSlice S64 ![0] a slices_S128_S64_0⟩]
    concatenates_S64_S64_S128_d0
def bk (b : FVec Ideal S1280 .f32) : FVec Ideal S128 .f32 := extractStridedSlice S128 ![1024] b slices_S1280_S128_1024
def bv (b : FVec Ideal S1280 .f32) : FVec Ideal S128 .f32 := extractStridedSlice S128 ![1152] b slices_S1280_S128_1152
def bq (b : FVec Ideal S1280 .f32) : FVec Ideal S1024 .f32 := extractStridedSlice S1024 ![0] b slices_S1280_S1024_0
/-- The bias in the same order. -/
def bcat (b : FVec Ideal S1280 .f32) : FVec Ideal S1536 .f32 :=
  concatenate S1536 0 [⟨S1024, bq b⟩, ⟨S128, bk b⟩, ⟨S128, swapB (bk b)⟩, ⟨S128, bv b⟩, ⟨S128, swapB (bv b)⟩]
    concatenates_S1024_S128_S128_S128_S128_S1536_d0

/-- The column of the weights a column in the kernel's order is. -/
def srcN (j : Fin 1536) : ℕ :=
  if j.val < 1152 then j.val else if j.val < 1280 then 1024 + (j.val - 1152 + 64) % 128 else if j.val < 1408 then j.val - 128
    else 1152 + (j.val - 1408 + 64) % 128
def src (j : Fin 1536) : Fin 1280 := ⟨srcN j, by
  have hj := j.isLt
  unfold srcN
  split_ifs <;> omega⟩

theorem pairW_lo (u v : FVec Ideal S1024x64 .f32) (i : Fin 1024) (l : Fin 128) (k : Fin 64) (h : k.val = l.val) :
    concatenate S1024x128 1 [⟨S1024x64, u⟩, ⟨S1024x64, v⟩] concatenates_S1024x64_S1024x64_S1024x128_d1 (ix2 i l) = u (ix2 i k) :=
  concatenate_pair_apply_left 1 u v _ (ix2 i l) rfl (ix2 i k) (fun a => match a with
    | ⟨0, _⟩ => rfl
    | ⟨1, _⟩ => h)
theorem pairW_hi (u v : FVec Ideal S1024x64 .f32) (i : Fin 1024) (l : Fin 128) (k : Fin 64) (h : k.val + 64 = l.val) :
    concatenate S1024x128 1 [⟨S1024x64, u⟩, ⟨S1024x64, v⟩] concatenates_S1024x64_S1024x64_S1024x128_d1 (ix2 i l) = v (ix2 i k) :=
  concatenate_pair_apply_right 1 u v _ (ix2 i l) rfl rfl (ix2 i k) (fun a => match a with
    | ⟨0, _⟩ => fun _ => rfl
    | ⟨1, _⟩ => fun hne => absurd rfl hne) h
theorem swapW_apply (a : FVec Ideal S1024x128 .f32) (i : Fin 1024) (l l' : Fin 128) (hl : l'.val = (l.val + 64) % 128) :
    swapW a (ix2 i l) = a (ix2 i l') := by
  have h1 := l.isLt
  unfold swapW
  by_cases h : l.val < 64
  · refine (pairW_lo _ _ i l ⟨l.val, h⟩ rfl).trans ?_
    exact extractStridedSlice_apply _ _ _ (ix2 i (⟨l.val, h⟩ : Fin 64)) (ix2 i l') (fun b => match b with
      | ⟨0, _⟩ => by show i.val = 0 + i.val; omega
      | ⟨1, _⟩ => by show l'.val = 64 + l.val; omega)
  · refine (pairW_hi _ _ i l ⟨l.val - 64, by omega⟩ (by show l.val - 64 + 64 = l.val; omega)).trans ?_
    exact extractStridedSlice_apply _ _ _ (ix2 i (⟨l.val - 64, by omega⟩ : Fin 64)) (ix2 i l') (fun b => match b with
      | ⟨0, _⟩ => by show i.val = 0 + i.val; omega
      | ⟨1, _⟩ => by show l'.val = 0 + (l.val - 64); omega)
theorem wq_apply (w : FVec Ideal S1024x1280 .f32) (i : Fin 1024) (l : Fin 1024) (n : Fin 1280) (h : n.val = 0 + l.val) : wq w (ix2 i l) = w (ix2 i n) :=
  extractStridedSlice_apply _ _ _ (ix2 i l) (ix2 i n) (fun b => match b with
    | ⟨0, _⟩ => by show i.val = 0 + i.val; omega
    | ⟨1, _⟩ => h)
theorem wk_apply (w : FVec Ideal S1024x1280 .f32) (i : Fin 1024) (l : Fin 128) (n : Fin 1280) (h : n.val = 1024 + l.val) : wk w (ix2 i l) = w (ix2 i n) :=
  extractStridedSlice_apply _ _ _ (ix2 i l) (ix2 i n) (fun b => match b with
    | ⟨0, _⟩ => by show i.val = 0 + i.val; omega
    | ⟨1, _⟩ => h)
theorem wv_apply (w : FVec Ideal S1024x1280 .f32) (i : Fin 1024) (l : Fin 128) (n : Fin 1280) (h : n.val = 1152 + l.val) : wv w (ix2 i l) = w (ix2 i n) :=
  extractStridedSlice_apply _ _ _ (ix2 i l) (ix2 i n) (fun b => match b with
    | ⟨0, _⟩ => by show i.val = 0 + i.val; omega
    | ⟨1, _⟩ => h)

section
variable (u0 : FVec Ideal S1024x1024 .f32) (u1 u2 u3 u4 : FVec Ideal S1024x128 .f32)
theorem catW0 (i : Fin 1024) (j : Fin 1536) (l : Fin 1024) (h : 0 + l.val = j.val) :
    concatenate S1024x1536 1 [⟨S1024x1024, u0⟩, ⟨S1024x128, u1⟩, ⟨S1024x128, u2⟩, ⟨S1024x128, u3⟩, ⟨S1024x128, u4⟩]
      concatenates_S1024x1024_S1024x128_S1024x128_S1024x128_S1024x128_S1024x1536_d1 (ix2 i j) = u0 (ix2 i l) :=
  concatenate_apply_piece 1 [⟨S1024x1024, u0⟩, ⟨S1024x128, u1⟩, ⟨S1024x128, u2⟩, ⟨S1024x128, u3⟩, ⟨S1024x128, u4⟩]
    _ (ix2 i j) 0 (show 0 < 5 by norm_num) S1024x1024 u0 rfl rfl 0 rfl (ix2 i l) (fun b => match b with
    | ⟨0, _⟩ => fun _ => rfl
    | ⟨1, _⟩ => fun hne => absurd rfl hne) h
theorem catW1 (i : Fin 1024) (j : Fin 1536) (l : Fin 128) (h : 1024 + l.val = j.val) :
    concatenate S1024x1536 1 [⟨S1024x1024, u0⟩, ⟨S1024x128, u1⟩, ⟨S1024x128, u2⟩, ⟨S1024x128, u3⟩, ⟨S1024x128, u4⟩]
      concatenates_S1024x1024_S1024x128_S1024x128_S1024x128_S1024x128_S1024x1536_d1 (ix2 i j) = u1 (ix2 i l) :=
  concatenate_apply_piece 1 [⟨S1024x1024, u0⟩, ⟨S1024x128, u1⟩, ⟨S1024x128, u2⟩, ⟨S1024x128, u3⟩, ⟨S1024x128, u4⟩]
    _ (ix2 i j) 1 (show 1 < 5 by norm_num) S1024x128 u1 rfl rfl 1024 rfl (ix2 i l) (fun b => match b with
    | ⟨0, _⟩ => fun _ => rfl
    | ⟨1, _⟩ => fun hne => absurd rfl hne) h
theorem catW2 (i : Fin 1024) (j : Fin 1536) (l : Fin 128) (h : 1152 + l.val = j.val) :
    concatenate S1024x1536 1 [⟨S1024x1024, u0⟩, ⟨S1024x128, u1⟩, ⟨S1024x128, u2⟩, ⟨S1024x128, u3⟩, ⟨S1024x128, u4⟩]
      concatenates_S1024x1024_S1024x128_S1024x128_S1024x128_S1024x128_S1024x1536_d1 (ix2 i j) = u2 (ix2 i l) :=
  concatenate_apply_piece 1 [⟨S1024x1024, u0⟩, ⟨S1024x128, u1⟩, ⟨S1024x128, u2⟩, ⟨S1024x128, u3⟩, ⟨S1024x128, u4⟩]
    _ (ix2 i j) 2 (show 2 < 5 by norm_num) S1024x128 u2 rfl rfl 1152 rfl (ix2 i l) (fun b => match b with
    | ⟨0, _⟩ => fun _ => rfl
    | ⟨1, _⟩ => fun hne => absurd rfl hne) h
theorem catW3 (i : Fin 1024) (j : Fin 1536) (l : Fin 128) (h : 1280 + l.val = j.val) :
    concatenate S1024x1536 1 [⟨S1024x1024, u0⟩, ⟨S1024x128, u1⟩, ⟨S1024x128, u2⟩, ⟨S1024x128, u3⟩, ⟨S1024x128, u4⟩]
      concatenates_S1024x1024_S1024x128_S1024x128_S1024x128_S1024x128_S1024x1536_d1 (ix2 i j) = u3 (ix2 i l) :=
  concatenate_apply_piece 1 [⟨S1024x1024, u0⟩, ⟨S1024x128, u1⟩, ⟨S1024x128, u2⟩, ⟨S1024x128, u3⟩, ⟨S1024x128, u4⟩]
    _ (ix2 i j) 3 (show 3 < 5 by norm_num) S1024x128 u3 rfl rfl 1280 rfl (ix2 i l) (fun b => match b with
    | ⟨0, _⟩ => fun _ => rfl
    | ⟨1, _⟩ => fun hne => absurd rfl hne) h
theorem catW4 (i : Fin 1024) (j : Fin 1536) (l : Fin 128) (h : 1408 + l.val = j.val) :
    concatenate S1024x1536 1 [⟨S1024x1024, u0⟩, ⟨S1024x128, u1⟩, ⟨S1024x128, u2⟩, ⟨S1024x128, u3⟩, ⟨S1024x128, u4⟩]
      concatenates_S1024x1024_S1024x128_S1024x128_S1024x128_S1024x128_S1024x1536_d1 (ix2 i j) = u4 (ix2 i l) :=
  concatenate_apply_piece 1 [⟨S1024x1024, u0⟩, ⟨S1024x128, u1⟩, ⟨S1024x128, u2⟩, ⟨S1024x128, u3⟩, ⟨S1024x128, u4⟩]
    _ (ix2 i j) 4 (show 4 < 5 by norm_num) S1024x128 u4 rfl rfl 1408 rfl (ix2 i l) (fun b => match b with
    | ⟨0, _⟩ => fun _ => rfl
    | ⟨1, _⟩ => fun hne => absurd rfl hne) h
end

section
variable (u0 : FVec Ideal S1024 .f32) (u1 u2 u3 u4 : FVec Ideal S128 .f32)
theorem catB0 (j : Fin 1536) (l : Fin 1024) (h : 0 + l.val = j.val) :
    concatenate S1536 0 [⟨S1024, u0⟩, ⟨S128, u1⟩, ⟨S128, u2⟩, ⟨S128, u3⟩, ⟨S128, u4⟩]
      concatenates_S1024_S128_S128_S128_S128_S1536_d0 (ix1 j) = u0 (ix1 l) :=
  concatenate_apply_piece 0 [⟨S1024, u0⟩, ⟨S128, u1⟩, ⟨S128, u2⟩, ⟨S128, u3⟩, ⟨S128, u4⟩]
    _ (ix1 j) 0 (show 0 < 5 by norm_num) S1024 u0 rfl rfl 0 rfl (ix1 l) (fun b => match b with
    | ⟨0, _⟩ => fun hne => absurd rfl hne) h
theorem catB1 (j : Fin 1536) (l : Fin 128) (h : 1024 + l.val = j.val) :
    concatenate S1536 0 [⟨S1024, u0⟩, ⟨S128, u1⟩, ⟨S128, u2⟩, ⟨S128, u3⟩, ⟨S128, u4⟩]
      concatenates_S1024_S128_S128_S128_S128_S1536_d0 (ix1 j) = u1 (ix1 l) :=
  concatenate_apply_piece 0 [⟨S1024, u0⟩, ⟨S128, u1⟩, ⟨S128, u2⟩, ⟨S128, u3⟩, ⟨S128, u4⟩]
    _ (ix1 j) 1 (show 1 < 5 by norm_num) S128 u1 rfl rfl 1024 rfl (ix1 l) (fun b => match b with
    | ⟨0, _⟩ => fun hne => absurd rfl hne) h
theorem catB2 (j : Fin 1536) (l : Fin 128) (h : 1152 + l.val = j.val) :
    concatenate S1536 0 [⟨S1024, u0⟩, ⟨S128, u1⟩, ⟨S128, u2⟩, ⟨S128, u3⟩, ⟨S128, u4⟩]
      concatenates_S1024_S128_S128_S128_S128_S1536_d0 (ix1 j) = u2 (ix1 l) :=
  concatenate_apply_piece 0 [⟨S1024, u0⟩, ⟨S128, u1⟩, ⟨S128, u2⟩, ⟨S128, u3⟩, ⟨S128, u4⟩]
    _ (ix1 j) 2 (show 2 < 5 by norm_num) S128 u2 rfl rfl 1152 rfl (ix1 l) (fun b => match b with
    | ⟨0, _⟩ => fun hne => absurd rfl hne) h
theorem catB3 (j : Fin 1536) (l : Fin 128) (h : 1280 + l.val = j.val) :
    concatenate S1536 0 [⟨S1024, u0⟩, ⟨S128, u1⟩, ⟨S128, u2⟩, ⟨S128, u3⟩, ⟨S128, u4⟩]
      concatenates_S1024_S128_S128_S128_S128_S1536_d0 (ix1 j) = u3 (ix1 l) :=
  concatenate_apply_piece 0 [⟨S1024, u0⟩, ⟨S128, u1⟩, ⟨S128, u2⟩, ⟨S128, u3⟩, ⟨S128, u4⟩]
    _ (ix1 j) 3 (show 3 < 5 by norm_num) S128 u3 rfl rfl 1280 rfl (ix1 l) (fun b => match b with
    | ⟨0, _⟩ => fun hne => absurd rfl hne) h
theorem catB4 (j : Fin 1536) (l : Fin 128) (h : 1408 + l.val = j.val) :
    concatenate S1536 0 [⟨S1024, u0⟩, ⟨S128, u1⟩, ⟨S128, u2⟩, ⟨S128, u3⟩, ⟨S128, u4⟩]
      concatenates_S1024_S128_S128_S128_S128_S1536_d0 (ix1 j) = u4 (ix1 l) :=
  concatenate_apply_piece 0 [⟨S1024, u0⟩, ⟨S128, u1⟩, ⟨S128, u2⟩, ⟨S128, u3⟩, ⟨S128, u4⟩]
    _ (ix1 j) 4 (show 4 < 5 by norm_num) S128 u4 rfl rfl 1408 rfl (ix1 l) (fun b => match b with
    | ⟨0, _⟩ => fun hne => absurd rfl hne) h
end

/-- The weights' columns in the kernel's order. -/
theorem wcat_apply (w : FVec Ideal S1024x1280 .f32) (i : Fin 1024) (j : Fin 1536) : wcat w (ix2 i (j)) = w (ix2 i (src j)) := by
  have hj := j.isLt
  have hs : (src j).val = srcN j := rfl
  unfold srcN at hs
  unfold wcat
  by_cases h1 : j.val < 1024
  · rw [if_pos (show j.val < 1152 by omega)] at hs
    exact (catW0 _ _ _ _ _ i j ⟨j.val, h1⟩ (by show 0 + j.val = j.val; omega)).trans (wq_apply w i _ _ (by show (src j).val = 0 + j.val; omega))
  by_cases h2 : j.val < 1152
  · rw [if_pos h2] at hs
    exact (catW1 _ _ _ _ _ i j ⟨j.val - 1024, by omega⟩ (by show 1024 + (j.val - 1024) = j.val; omega)).trans
      (wk_apply w i _ _ (by show (src j).val = 1024 + (j.val - 1024); omega))
  rw [if_neg h2] at hs
  by_cases h3 : j.val < 1280
  · rw [if_pos h3] at hs
    refine (catW2 _ _ _ _ _ i j ⟨j.val - 1152, by omega⟩ (by show 1152 + (j.val - 1152) = j.val; omega)).trans ?_
    exact (swapW_apply _ i _ ⟨(j.val - 1152 + 64) % 128, by omega⟩ rfl).trans
      (wk_apply w i _ _ (by show (src j).val = 1024 + (j.val - 1152 + 64) % 128; omega))
  rw [if_neg h3] at hs
  by_cases h4 : j.val < 1408
  · rw [if_pos h4] at hs
    exact (catW3 _ _ _ _ _ i j ⟨j.val - 1280, by omega⟩ (by show 1280 + (j.val - 1280) = j.val; omega)).trans
      (wv_apply w i _ _ (by show (src j).val = 1152 + (j.val - 1280); omega))
  · rw [if_neg h4] at hs
    refine (catW4 _ _ _ _ _ i j ⟨j.val - 1408, by omega⟩ (by show 1408 + (j.val - 1408) = j.val; omega)).trans ?_
    exact (swapW_apply _ i _ ⟨(j.val - 1408 + 64) % 128, by omega⟩ rfl).trans
      (wv_apply w i _ _ (by show (src j).val = 1152 + (j.val - 1408 + 64) % 128; omega))

theorem pairB_lo (u v : FVec Ideal S64 .f32) (l : Fin 128) (k : Fin 64) (h : k.val = l.val) :
    concatenate S128 0 [⟨S64, u⟩, ⟨S64, v⟩] concatenates_S64_S64_S128_d0 (ix1 l) = u (ix1 k) :=
  concatenate_pair_apply_left 0 u v _ (ix1 l) rfl (ix1 k) (fun a => match a with
    | ⟨0, _⟩ => h)
theorem pairB_hi (u v : FVec Ideal S64 .f32) (l : Fin 128) (k : Fin 64) (h : k.val + 64 = l.val) :
    concatenate S128 0 [⟨S64, u⟩, ⟨S64, v⟩] concatenates_S64_S64_S128_d0 (ix1 l) = v (ix1 k) :=
  concatenate_pair_apply_right 0 u v _ (ix1 l) rfl rfl (ix1 k) (fun a => match a with
    | ⟨0, _⟩ => fun hne => absurd rfl hne) h
theorem swapB_apply (a : FVec Ideal S128 .f32) (l l' : Fin 128) (hl : l'.val = (l.val + 64) % 128) : swapB a (ix1 l) = a (ix1 l') := by
  have h1 := l.isLt
  unfold swapB
  by_cases h : l.val < 64
  · refine (pairB_lo _ _ l ⟨l.val, h⟩ rfl).trans ?_
    exact extractStridedSlice_apply _ _ _ (ix1 (⟨l.val, h⟩ : Fin 64)) (ix1 l') (fun b => match b with
      | ⟨0, _⟩ => by show l'.val = 64 + l.val; omega)
  · refine (pairB_hi _ _ l ⟨l.val - 64, by omega⟩ (by show l.val - 64 + 64 = l.val; omega)).trans ?_
    exact extractStridedSlice_apply _ _ _ (ix1 (⟨l.val - 64, by omega⟩ : Fin 64)) (ix1 l') (fun b => match b with
      | ⟨0, _⟩ => by show l'.val = 0 + (l.val - 64); omega)
theorem bq_apply (w : FVec Ideal S1280 .f32) (l : Fin 1024) (n : Fin 1280) (h : n.val = 0 + l.val) : bq w (ix1 l) = w (ix1 n) :=
  extractStridedSlice_apply _ _ _ (ix1 l) (ix1 n) (fun b => match b with
    | ⟨0, _⟩ => h)
theorem bk_apply (w : FVec Ideal S1280 .f32) (l : Fin 128) (n : Fin 1280) (h : n.val = 1024 + l.val) : bk w (ix1 l) = w (ix1 n) :=
  extractStridedSlice_apply _ _ _ (ix1 l) (ix1 n) (fun b => match b with
    | ⟨0, _⟩ => h)
theorem bv_apply (w : FVec Ideal S1280 .f32) (l : Fin 128) (n : Fin 1280) (h : n.val = 1152 + l.val) : bv w (ix1 l) = w (ix1 n) :=
  extractStridedSlice_apply _ _ _ (ix1 l) (ix1 n) (fun b => match b with
    | ⟨0, _⟩ => h)

/-- The bias in the kernel's order. -/
theorem bcat_apply (w : FVec Ideal S1280 .f32) (j : Fin 1536) : bcat w (ix1 (j)) = w (ix1 (src j)) := by
  have hj := j.isLt
  have hs : (src j).val = srcN j := rfl
  unfold srcN at hs
  unfold bcat
  by_cases h1 : j.val < 1024
  · rw [if_pos (show j.val < 1152 by omega)] at hs
    exact (catB0 _ _ _ _ _ j ⟨j.val, h1⟩ (by show 0 + j.val = j.val; omega)).trans (bq_apply w _ _ (by show (src j).val = 0 + j.val; omega))
  by_cases h2 : j.val < 1152
  · rw [if_pos h2] at hs
    exact (catB1 _ _ _ _ _ j ⟨j.val - 1024, by omega⟩ (by show 1024 + (j.val - 1024) = j.val; omega)).trans
      (bk_apply w _ _ (by show (src j).val = 1024 + (j.val - 1024); omega))
  rw [if_neg h2] at hs
  by_cases h3 : j.val < 1280
  · rw [if_pos h3] at hs
    refine (catB2 _ _ _ _ _ j ⟨j.val - 1152, by omega⟩ (by show 1152 + (j.val - 1152) = j.val; omega)).trans ?_
    exact (swapB_apply _ _ ⟨(j.val - 1152 + 64) % 128, by omega⟩ rfl).trans
      (bk_apply w _ _ (by show (src j).val = 1024 + (j.val - 1152 + 64) % 128; omega))
  rw [if_neg h3] at hs
  by_cases h4 : j.val < 1408
  · rw [if_pos h4] at hs
    exact (catB3 _ _ _ _ _ j ⟨j.val - 1280, by omega⟩ (by show 1280 + (j.val - 1280) = j.val; omega)).trans
      (bv_apply w _ _ (by show (src j).val = 1152 + (j.val - 1280); omega))
  · rw [if_neg h4] at hs
    refine (catB4 _ _ _ _ _ j ⟨j.val - 1408, by omega⟩ (by show 1408 + (j.val - 1408) = j.val; omega)).trans ?_
    exact (swapB_apply _ _ ⟨(j.val - 1408 + 64) % 128, by omega⟩ rfl).trans
      (bv_apply w _ _ (by show (src j).val = 1152 + (j.val - 1408 + 64) % 128; omega))

variable (m : (ℓ : Loc nD τ sig) → Buf (Elt Ideal) ℓ) (c : Dev nD)

theorem V_v20 : V m c main_v20 = (wide (Host.cos ang) : Vec Ideal S8192x128 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v31 : V m c main_v31 = (select bmask (Host.negf (wide (Host.sin ang))) zeros : Vec Ideal S8192x128 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v33 : V m c main_v33 = (select bmask zeros (wide (Host.sin ang)) : Vec Ideal S8192x128 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v34 : V m c main_v34 = (shapeCast S65536x1024 (m ((c : Thread nD τ).loc main_arg0)) shapeCasts_S8x8192x1024_S65536x1024 : Vec Ideal S65536x1024 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v48 : V m c main_v48 = (truncf (F := Ideal) (s := S1024x1536) (φ := .f32) .bf16 (wcat (m ((c : Thread nD τ).loc main_arg1))) bitsLt_bf16_f32 : FVec Ideal S1024x1536 .bf16) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl
theorem V_v56 : V m c main_v56 = (shapeCast S1x1536 (bcat (m ((c : Thread nD τ).loc main_arg2))) shapeCasts_S1536_S1x1536 : Vec Ideal S1x1536 .f32) := by
  show StableHlo.after (List.flatten _) _ _ = _
  simp only [hostOps0, hostOps0_1, hostOps0_2, hostOps0_3, hostOps0_4, hostOps0_5, hostOps0_6, List.flatten_cons, List.flatten_nil, List.append_nil,
    List.cons_append, List.nil_append]
  after_results
  rfl

/-! ## The tables' values -/

/-- The frequency of a lane. -/
def fq (l : Fin 128) : Fin 32 := ⟨l.val % 32, Nat.mod_lt _ (by norm_num)⟩

theorem wide_apply (t : FVec Ideal S8192x32 .f32) (s : Fin 8192) (l : Fin 128) : wide t (ix2 s l) = t (ix2 s (fq l)) := by
  have hl := l.isLt
  unfold wide
  refine (shapeCast_apply _ _ (ix2 s l) (ix4 (0 : Fin 1) s (⟨l.val / 32, by omega⟩ : Fin 4) (fq l)) (by
    rw [Shape.rowMajor_val_two, Shape.rowMajor_val_four]
    show ((0 * 8192 + s.val) * 4 + l.val / 32) * 32 + l.val % 32 = s.val * 128 + l.val
    omega)).trans ?_
  refine (broadcastInDim_apply _ _ _ (ix4 (0 : Fin 1) s (⟨l.val / 32, by omega⟩ : Fin 4) (fq l)) (ix4 (0 : Fin 1) s (0 : Fin 1) (fq l)) (fun a => match a with
    | ⟨0, _⟩ => rfl
    | ⟨1, _⟩ => rfl
    | ⟨2, _⟩ => rfl
    | ⟨3, _⟩ => rfl)).trans ?_
  exact shapeCast_apply _ _ (ix4 (0 : Fin 1) s (0 : Fin 1) (fq l)) (ix2 s (fq l)) (by
    rw [Shape.rowMajor_val_two, Shape.rowMajor_val_four]
    show s.val * 32 + l.val % 32 = ((0 * 8192 + s.val) * 1 + 0) * 32 + l.val % 32
    omega)

theorem bmask_apply (s : Fin 8192) (l : Fin 128) : bmask (ix2 s l) = if l.val % 64 < 32 then 1#1 else 0#1 := by
  rw [← lomask_apply l]
  unfold bmask
  refine (broadcastInDim_apply _ _ _ (ix2 s l) (ix2 (0 : Fin 1) l) (fun a => match a with
    | ⟨0, _⟩ => rfl
    | ⟨1, _⟩ => rfl)).trans ?_
  exact broadcastInDim_apply _ _ _ (ix2 (0 : Fin 1) l) (ix1 l) (fun a => match a with
    | ⟨0, _⟩ => rfl)

theorem zeros_apply (i : S8192x128.Idx) : zeros i = 0 := Ideal.ofBits_zero_f32

/-- The sines with a minus on the first halves, zero elsewhere. -/
theorem slo_apply (s : Fin 8192) (l : Fin 128) : (select bmask (Host.negf (wide (Host.sin ang))) zeros : Vec Ideal S8192x128 .f32) (ix2 s l)
    = if l.val % 64 < 32 then - Host.sin ang (ix2 s (fq l)) else 0 := by
  show (if bmask (ix2 s l) = 1#1 then - wide (Host.sin ang) (ix2 s l) else zeros (ix2 s l)) = _
  rw [bmask_apply, zeros_apply, wide_apply]
  by_cases h : l.val % 64 < 32
  · rw [if_pos h, if_pos h, if_pos rfl]
  · rw [if_neg h, if_neg h, if_neg (by decide)]

/-- The sines on the second halves, zero elsewhere. -/
theorem shi_apply (s : Fin 8192) (l : Fin 128) : (select bmask zeros (wide (Host.sin ang)) : Vec Ideal S8192x128 .f32) (ix2 s l)
    = if l.val % 64 < 32 then 0 else Host.sin ang (ix2 s (fq l)) := by
  show (if bmask (ix2 s l) = 1#1 then zeros (ix2 s l) else wide (Host.sin ang) (ix2 s l)) = _
  rw [bmask_apply, zeros_apply, wide_apply]
  by_cases h : l.val % 64 < 32
  · rw [if_pos h, if_pos h, if_pos rfl]
  · rw [if_neg h, if_neg h, if_neg (by decide)]

/-! ## The blocks -/

abbrev pt (t : Fin cfg0.N) : Fin 128 := grid0.coords t 0

/-- A grid point by its one coordinate. -/
def co (n : Fin 128) : grid0.Coords := fun a => match a with
  | ⟨0, _⟩ => n
theorem co_eq (t : Fin cfg0.N) : grid0.coords t = co (pt t) := funext fun a => match a with
  | ⟨0, _⟩ => rfl

theorem tr0 : ∀ n : Fin 128, cc0_transform_0 (co n) = ![n.val, 0] := by decide +kernel
theorem tr3 : ∀ n : Fin 128, cc0_transform_3 (co n) = ![n.val % 16, 0] := by decide +kernel
theorem tr4 : ∀ n : Fin 128, cc0_transform_4 (co n) = ![n.val % 16, 0] := by decide +kernel
theorem tr5 : ∀ n : Fin 128, cc0_transform_5 (co n) = ![n.val % 16, 0] := by decide +kernel
theorem tr6 : ∀ n : Fin 128, cc0_transform_6 (co n) = ![n.val, 0] := by decide +kernel
theorem tr7 : ∀ n : Fin 128, cc0_transform_7 (co n) = ![n.val / 16, 0, n.val % 16, 0, 0] := by decide +kernel

theorem idx0 (t : Fin cfg0.N) : cc0_transform_0 (grid0.coords t) = ![(pt t).val, 0] := (congrArg _ (co_eq t)).trans (tr0 _)
theorem idx3 (t : Fin cfg0.N) : cc0_transform_3 (grid0.coords t) = ![(pt t).val % 16, 0] := (congrArg _ (co_eq t)).trans (tr3 _)
theorem idx4 (t : Fin cfg0.N) : cc0_transform_4 (grid0.coords t) = ![(pt t).val % 16, 0] := (congrArg _ (co_eq t)).trans (tr4 _)
theorem idx5 (t : Fin cfg0.N) : cc0_transform_5 (grid0.coords t) = ![(pt t).val % 16, 0] := (congrArg _ (co_eq t)).trans (tr5 _)
theorem idx6 (t : Fin cfg0.N) : cc0_transform_6 (grid0.coords t) = ![(pt t).val, 0] := (congrArg _ (co_eq t)).trans (tr6 _)
theorem idx7 (t : Fin cfg0.N) : cc0_transform_7 (grid0.coords t) = ![(pt t).val / 16, 0, (pt t).val % 16, 0, 0] := (congrArg _ (co_eq t)).trans (tr7 _)

/-- Row `r` of block `t`, and its position. -/
def brow (t : Fin 128) (r : Fin 512) : Fin 65536 := ⟨512 * t.val + r.val, by have := t.isLt; have := r.isLt; omega⟩
def bpos (t : Fin 128) (r : Fin 512) : Fin 8192 := ⟨512 * (t.val % 16) + r.val, by have := r.isLt; omega⟩
def bbat (t : Fin 128) : Fin 8 := ⟨t.val / 16, by have := t.isLt; omega⟩

theorem blk0_apply (X : Vec Ideal S65536x1024 .f32) (t : Fin cfg0.N) (r : Fin 512) (k : Fin 1024) :
    (win0_0.blk t).view.read (Elt Ideal) X (ix2 r k) = X (ix2 (brow (pt t) r) k) := by
  refine congrArg X (funext fun a => Fin.ext ?_)
  match a with
  | ⟨0, _⟩ =>
    show cc0_transform_0 (grid0.coords t) 0 * 512 + 1 * r.val = 512 * (pt t).val + r.val
    rw [idx0]; show (pt t).val * 512 + 1 * r.val = _; omega
  | ⟨1, _⟩ => show cc0_transform_0 (grid0.coords t) 1 * 1024 + 1 * k.val = k.val; rw [idx0]; show 0 * 1024 + 1 * k.val = _; omega

theorem blk1_apply (X : Vec Ideal S1024x1536 .bf16) (t : Fin cfg0.N) : (win0_1.blk t).view.read (Elt Ideal) X = X := by
  funext y
  refine congrArg X (funext fun a => Fin.ext ?_)
  match a with
  | ⟨0, _⟩ => show 0 * 1024 + 1 * (y 0).val = (y 0).val; omega
  | ⟨1, _⟩ => show 0 * 1536 + 1 * (y 1).val = (y 1).val; omega

theorem blk2_apply (X : Vec Ideal S1x1536 .f32) (t : Fin cfg0.N) : (win0_2.blk t).view.read (Elt Ideal) X = X := by
  funext y
  refine congrArg X (funext fun a => Fin.ext ?_)
  match a with
  | ⟨0, _⟩ => show 0 * 1 + 1 * (y 0).val = (y 0).val; omega
  | ⟨1, _⟩ => show 0 * 1536 + 1 * (y 1).val = (y 1).val; omega

theorem blk3_apply (X : Vec Ideal S8192x128 .f32) (t : Fin cfg0.N) (r : Fin 512) (k : Fin 128) :
    (win0_3.blk t).view.read (Elt Ideal) X (ix2 r k) = X (ix2 (bpos (pt t) r) k) := by
  refine congrArg X (funext fun a => Fin.ext ?_)
  match a with
  | ⟨0, _⟩ =>
    show cc0_transform_3 (grid0.coords t) 0 * 512 + 1 * r.val = 512 * ((pt t).val % 16) + r.val
    rw [idx3]; show (pt t).val % 16 * 512 + 1 * r.val = _; omega
  | ⟨1, _⟩ => show cc0_transform_3 (grid0.coords t) 1 * 128 + 1 * k.val = k.val; rw [idx3]; show 0 * 128 + 1 * k.val = _; omega

theorem blk4_apply (X : Vec Ideal S8192x128 .f32) (t : Fin cfg0.N) (r : Fin 512) (k : Fin 128) :
    (win0_4.blk t).view.read (Elt Ideal) X (ix2 r k) = X (ix2 (bpos (pt t) r) k) := by
  refine congrArg X (funext fun a => Fin.ext ?_)
  match a with
  | ⟨0, _⟩ =>
    show cc0_transform_4 (grid0.coords t) 0 * 512 + 1 * r.val = 512 * ((pt t).val % 16) + r.val
    rw [idx4]; show (pt t).val % 16 * 512 + 1 * r.val = _; omega
  | ⟨1, _⟩ => show cc0_transform_4 (grid0.coords t) 1 * 128 + 1 * k.val = k.val; rw [idx4]; show 0 * 128 + 1 * k.val = _; omega

theorem blk5_apply (X : Vec Ideal S8192x128 .f32) (t : Fin cfg0.N) (r : Fin 512) (k : Fin 128) :
    (win0_5.blk t).view.read (Elt Ideal) X (ix2 r k) = X (ix2 (bpos (pt t) r) k) := by
  refine congrArg X (funext fun a => Fin.ext ?_)
  match a with
  | ⟨0, _⟩ =>
    show cc0_transform_5 (grid0.coords t) 0 * 512 + 1 * r.val = 512 * ((pt t).val % 16) + r.val
    rw [idx5]; show (pt t).val % 16 * 512 + 1 * r.val = _; omega
  | ⟨1, _⟩ => show cc0_transform_5 (grid0.coords t) 1 * 128 + 1 * k.val = k.val; rw [idx5]; show 0 * 128 + 1 * k.val = _; omega

theorem blk6_emb (t : Fin cfg0.N) (r : Fin 512) (k : Fin 1280) :
    (win0_6.blk t).view.emb (ix2 r k) = ix2 (brow (pt t) r) k := by
  refine funext fun a => Fin.ext ?_
  match a with
  | ⟨0, _⟩ =>
    show cc0_transform_6 (grid0.coords t) 0 * 512 + 1 * r.val = 512 * (pt t).val + r.val
    rw [idx6]; show (pt t).val * 512 + 1 * r.val = _; omega
  | ⟨1, _⟩ => show cc0_transform_6 (grid0.coords t) 1 * 1280 + 1 * k.val = k.val; rw [idx6]; show 0 * 1280 + 1 * k.val = _; omega

/-- The row of the projection an element of the transposed values belongs to, and its batch and block of keys. -/
theorem blk7_emb (t : Fin cfg0.N) (y : S1x2x1x128x512.Idx) :
    (((win0_7.blk t).view.emb y) 0).val = (pt t).val / 16 ∧ (((win0_7.blk t).view.emb y) 1).val = (y 1).val
      ∧ (((win0_7.blk t).view.emb y) 2).val = (pt t).val % 16 ∧ (((win0_7.blk t).view.emb y) 3).val = (y 3).val
      ∧ (((win0_7.blk t).view.emb y) 4).val = (y 4).val := by
  have h0 : (y 0).val < 1 := (y 0).isLt
  have h2 : (y 2).val < 1 := (y 2).isLt
  refine ⟨?_, ?_, ?_, ?_, ?_⟩
  · show cc0_transform_7 (grid0.coords t) 0 * 1 + 1 * (y 0).val = _
    rw [idx7]; show (pt t).val / 16 * 1 + 1 * (y 0).val = _; omega
  · show cc0_transform_7 (grid0.coords t) 1 * 2 + 1 * (y 1).val = _
    rw [idx7]; show 0 * 2 + 1 * (y 1).val = _; omega
  · show cc0_transform_7 (grid0.coords t) 2 * 1 + 1 * (y 2).val = _
    rw [idx7]; show (pt t).val % 16 * 1 + 1 * (y 2).val = _; omega
  · show cc0_transform_7 (grid0.coords t) 3 * 128 + 1 * (y 3).val = _
    rw [idx7]; show 0 * 128 + 1 * (y 3).val = _; omega
  · show cc0_transform_7 (grid0.coords t) 4 * 512 + 1 * (y 4).val = _
    rw [idx7]; show 0 * 512 + 1 * (y 4).val = _; omega

end Cert.Kernel4Ideal.Hand
-- ==== Proof.RopeBForm.lean ====
/-
  The closed form of the sliding-window layer's projection with the rotary embedding, and the arrays the kernel leaves.
-/
module

public import proofs.«01_k».proof.Proof.RopeBHost

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.ValueIdx

/-- A column of the projection of a position, with its bias. -/
def P (x : Vec Ideal S8x8192x1024 .f32) (w : Vec Ideal S1024x1280 .f32) (e : Vec Ideal S1280 .f32) (b : Fin 8) (s : Fin 8192) (j : Fin 1280) : EReal :=
  (∑ i : Fin 1024, x (ix3 b s i) * w (ix2 i j)) + e (ix1 j)

/-- A column in the kernel's order. -/
def PS (x : Vec Ideal S8x8192x1024 .f32) (w : Vec Ideal S1024x1280 .f32) (e : Vec Ideal S1280 .f32) (b : Fin 8) (s : Fin 8192) (j : Fin 1536) : EReal :=
  P x w e b s (src j)

/-- The cosine and the sine of a position at a frequency. -/
def C (s : Fin 8192) (f : Fin 32) : EReal := (Host.cos ang : FVec Ideal S8192x32 .f32) (ix2 s f)
def S (s : Fin 8192) (f : Fin 32) : EReal := (Host.sin ang : FVec Ideal S8192x32 .f32) (ix2 s f)

/-- A column, the column of the other half of its head to its right, and to its left; its frequency. -/
def col (n : Fin 1280) : Fin 1536 := ⟨n.val, by have := n.isLt; omega⟩
def colR (n : Fin 1280) : Fin 1536 := ⟨n.val + 32, by have := n.isLt; omega⟩
def colL (n : Fin 1280) : Fin 1536 := ⟨n.val - 32, by have := n.isLt; omega⟩
def fqc (n : Fin 1280) : Fin 32 := ⟨n.val % 32, Nat.mod_lt _ (by norm_num)⟩

/-- The rotary embedding of a column. -/
def R (x : Vec Ideal S8x8192x1024 .f32) (w : Vec Ideal S1024x1280 .f32) (e : Vec Ideal S1280 .f32) (b : Fin 8) (s : Fin 8192) (n : Fin 1280) : EReal :=
  if n.val % 64 < 32 then PS x w e b s (col n) * C s (fqc n) - PS x w e b s (colR n) * S s (fqc n)
  else PS x w e b s (col n) * C s (fqc n) + PS x w e b s (colL n) * S s (fqc n)

/-- The batch and the position of a row. -/
def rb (r : Fin 65536) : Fin 8 := ⟨r.val / 8192, by have := r.isLt; omega⟩
def rs (r : Fin 65536) : Fin 8192 := ⟨r.val % 8192, Nat.mod_lt _ (by norm_num)⟩

/-- The queries, scaled, beside the keys. -/
def Gqk (x : Vec Ideal S8x8192x1024 .f32) (w : Vec Ideal S1024x1280 .f32) (e : Vec Ideal S1280 .f32) : Vec Ideal S65536x1280 .bf16 := fun i =>
  if (i 1).val < 1024 then R x w e (rb (i 0)) (rs (i 0)) (i 1) * Ideal.ofBits .f32 0x3E38AA3B#32 else R x w e (rb (i 0)) (rs (i 0)) (i 1)

/-- The values, transposed in blocks of 512 positions. -/
def vpos (i : S8x2x16x128x512.Idx) : Fin 8192 := ⟨512 * (i 2).val + (i 4).val, by
  have h2 : (i 2).val < 16 := (i 2).isLt; have h4 : (i 4).val < 512 := (i 4).isLt; omega⟩
def vcol (i : S8x2x16x128x512.Idx) : Fin 1536 := ⟨1280 + 128 * (i 1).val + (i 3).val, by
  have h1 : (i 1).val < 2 := (i 1).isLt; have h3 : (i 3).val < 128 := (i 3).isLt; omega⟩
def Gv (x : Vec Ideal S8x8192x1024 .f32) (w : Vec Ideal S1024x1280 .f32) (e : Vec Ideal S1280 .f32) : Vec Ideal S8x2x16x128x512 .bf16 := fun i =>
  PS x w e (i 0) (vpos i) (vcol i)

variable (m : (ℓ : Loc nD τ sig) → Buf (Elt Ideal) ℓ) (c : Dev nD)

/-- The rows of the input as a matrix. -/
theorem rows_apply (x : Vec Ideal S8x8192x1024 .f32) (r : Fin 65536) (k : Fin 1024) :
    (shapeCast S65536x1024 x shapeCasts_S8x8192x1024_S65536x1024) (ix2 r k) = x (ix3 (rb r) (rs r) k) :=
  shapeCast_apply _ _ (ix2 r k) (ix3 (rb r) (rs r) k) (by
    rw [Shape.rowMajor_val_two, Shape.rowMajor_val_three]
    show (r.val / 8192 * 8192 + r.val % 8192) * 1024 + k.val = r.val * 1024 + k.val
    omega)

theorem rb_brow (t : Fin 128) (r : Fin 512) : rb (brow t r) = bbat t := Fin.ext (by
  show (512 * t.val + r.val) / 8192 = t.val / 16
  have := r.isLt; omega)
theorem rs_brow (t : Fin 128) (r : Fin 512) : rs (brow t r) = bpos t r := Fin.ext (by
  show (512 * t.val + r.val) % 8192 = 512 * (t.val % 16) + r.val
  have := r.isLt; omega)

theorem hz : (![0, 0] : Fin 2 → ℕ) = fun _ => 0 := by
  funext a
  match a with
  | ⟨0, _⟩ => rfl
  | ⟨1, _⟩ => rfl

section
variable (x0 : Vec Ideal S512x1024 .f32) (x1 : Vec Ideal S1024x1536 .bf16) (x2 : Vec Ideal S1x1536 .f32) (x3 x4 x5 : Vec Ideal S512x128 .f32)

theorem pay26_eq : (k0_pay26 x0 x1 x2 x3 x4 x5 : FVec Ideal S512x1024 .bf16) = truncf .bf16 (x0 : FVec Ideal S512x1024 .f32) bitsLt_bf16_f32 := by
  unfold k0_pay26 k0_pay2
  rw [View.ld_unit_zero hz, shapeCast_self]
theorem pay27_eq : k0_pay27 x0 x1 x2 x3 x4 x5 = x3 := by
  unfold k0_pay27 k0_pay3
  rw [View.ld_unit_zero hz, shapeCast_self]
theorem pay28_eq : k0_pay28 x0 x1 x2 x3 x4 x5 = x4 := by
  unfold k0_pay28 k0_pay4
  rw [View.ld_unit_zero hz, shapeCast_self]
theorem pay29_eq : k0_pay29 x0 x1 x2 x3 x4 x5 = x5 := by
  unfold k0_pay29 k0_pay5
  rw [View.ld_unit_zero hz, shapeCast_self]

end

theorem x_eq (t : Fin cfg0.N) (r : Fin 512) (k : Fin 1024) : (iblk m c 0 t : Vec Ideal S512x1024 .f32) (ix2 r k)
    = m ((c : Thread nD τ).loc main_arg0) (ix3 (bbat (pt t)) (bpos (pt t) r) k) := by
  have h : (iblk m c 0 t : Vec Ideal S512x1024 .f32) (ix2 r k) = _ := blk0_apply (V m c main_v34) t r k
  rw [h, V_v34]
  refine (rows_apply _ _ _).trans ?_
  rw [rb_brow, rs_brow]
theorem w_eq (t : Fin cfg0.N) (i : Fin 1024) (j : Fin 1536) : (iblk m c 1 t : S1024x1536.Idx → EReal) (ix2 i j)
    = m ((c : Thread nD τ).loc main_arg1) (ix2 i (src j)) := by
  have h : iblk m c 1 t = _ := (blk1_apply (V m c main_v48) t).trans (V_v48 m c)
  rw [h]
  exact wcat_apply _ i j
theorem b_eq (t : Fin cfg0.N) (j : Fin 1536) : (iblk m c 2 t : Vec Ideal S1x1536 .f32) (ix2 0 j) = m ((c : Thread nD τ).loc main_arg2) (ix1 (src j)) := by
  have h : iblk m c 2 t = _ := (blk2_apply (V m c main_v56) t).trans (V_v56 m c)
  rw [h]
  refine (shapeCast_apply _ _ (ix2 (0 : Fin 1) j) (ix1 j) (by
    rw [Shape.rowMajor_val_two, Shape.rowMajor_val_one]
    show j.val = 0 * 1536 + j.val
    omega)).trans ?_
  exact bcat_apply _ j
theorem c_eq (t : Fin cfg0.N) (r : Fin 512) (l : Fin 128) : (iblk m c 3 t : Vec Ideal S512x128 .f32) (ix2 r l) = C (bpos (pt t) r) (fq l) := by
  have h : (iblk m c 3 t : Vec Ideal S512x128 .f32) (ix2 r l) = _ := blk3_apply (V m c main_v20) t r l
  rw [h, V_v20]
  exact wide_apply _ _ _
theorem s1_eq (t : Fin cfg0.N) (r : Fin 512) (l : Fin 128) : (iblk m c 4 t : Vec Ideal S512x128 .f32) (ix2 r l)
    = if l.val % 64 < 32 then - S (bpos (pt t) r) (fq l) else 0 := by
  have h : (iblk m c 4 t : Vec Ideal S512x128 .f32) (ix2 r l) = _ := blk4_apply (V m c main_v31) t r l
  rw [h, V_v31]
  exact slo_apply _ _
theorem s2_eq (t : Fin cfg0.N) (r : Fin 512) (l : Fin 128) : (iblk m c 5 t : Vec Ideal S512x128 .f32) (ix2 r l)
    = if l.val % 64 < 32 then 0 else S (bpos (pt t) r) (fq l) := by
  have h : (iblk m c 5 t : Vec Ideal S512x128 .f32) (ix2 r l) = _ := blk5_apply (V m c main_v33) t r l
  rw [h, V_v33]
  exact shi_apply _ _

/-- A column of the projection of a block's row. -/
theorem bproj_eq (t : Fin cfg0.N) (r : Fin 512) (j : Fin 1536) :
    bproj (truncf .bf16 (iblk m c 0 t : FVec Ideal S512x1024 .f32) bitsLt_bf16_f32) (iblk m c 1 t) (iblk m c 2 t) r j
      = PS (m ((c : Thread nD τ).loc main_arg0)) (m ((c : Thread nD τ).loc main_arg1)) (m ((c : Thread nD τ).loc main_arg2)) (bbat (pt t)) (bpos (pt t) r) j := by
  unfold bproj PS P
  rw [b_eq]
  exact congrArg (· + _) (Finset.sum_congr rfl fun i _ => congrArg₂ (· * ·) (x_eq m c t r i) (w_eq m c t i j))

/-- The rotary embedding of a column of a block's row. -/
theorem bropeU_eq (t : Fin cfg0.N) (r : Fin 512) (n : Fin 1280) :
    bropeU (truncf .bf16 (iblk m c 0 t : FVec Ideal S512x1024 .f32) bitsLt_bf16_f32) (iblk m c 1 t) (iblk m c 2 t) (iblk m c 3 t) (iblk m c 4 t) (iblk m c 5 t) r n
      = R (m ((c : Thread nD τ).loc main_arg0)) (m ((c : Thread nD τ).loc main_arg1)) (m ((c : Thread nD τ).loc main_arg2)) (bbat (pt t)) (bpos (pt t) r) n := by
  have hn := n.isLt
  unfold bropeU R
  rw [bproj_eq, bproj_eq, bproj_eq, c_eq, s1_eq, s2_eq]
  have hf : fq (lane n) = fqc n := Fin.ext (by show n.val % 128 % 32 = n.val % 32; omega)
  have h0 : inGroup n (lane n) = col n := Fin.ext (by show n.val / 128 * 128 + n.val % 128 = n.val; omega)
  rw [hf, h0]
  by_cases h : n.val % 64 < 32
  · have hl : (lane n).val % 64 < 32 := by show n.val % 128 % 64 < 32; omega
    have h1 : inGroup n (lR (lane n)) = colR n := Fin.ext (by show n.val / 128 * 128 + (n.val % 128 + 32) % 128 = n.val + 32; omega)
    rw [if_pos hl, if_pos hl, if_pos h, h1, mul_zero, add_zero, mul_neg, sub_eq_add_neg]
  · have hl : ¬ (lane n).val % 64 < 32 := by show ¬ n.val % 128 % 64 < 32; omega
    have h1 : inGroup n (lL (lane n)) = colL n := Fin.ext (by show n.val / 128 * 128 + (n.val % 128 + 96) % 128 = n.val - 32; omega)
    rw [if_neg hl, if_neg hl, if_neg h, h1, mul_zero, add_zero]

theorem after6_eq (t : Fin cfg0.N) (y : S512x1280.Idx) : (out0_6 (iblk m c 0 t) (iblk m c 1 t) (iblk m c 2 t) (iblk m c 3 t) (iblk m c 4 t) (iblk m c 5 t)) y
    = Gqk (m ((c : Thread nD τ).loc main_arg0)) (m ((c : Thread nD τ).loc main_arg1)) (m ((c : Thread nD τ).loc main_arg2)) ((win0_6.blk t).view.emb y) := by
  obtain ⟨r, k, rfl⟩ : ∃ (r : Fin 512) (k : Fin 1280), y = ix2 r k := ⟨y 0, y 1, eq_ix2 y⟩
  rw [show (win0_6.blk t).view.emb (ix2 r k) = _ from blk6_emb t r k]
  refine (out6_eq (iblk m c 0 t) (iblk m c 1 t) (iblk m c 2 t) (iblk m c 3 t) (iblk m c 4 t) (iblk m c 5 t) _).trans ?_
  rw [pay26_eq, pay27_eq, pay28_eq, pay29_eq]
  unfold brope Gqk
  show (if k.val < 1024 then bropeU _ _ _ _ _ _ r k * _ else bropeU _ _ _ _ _ _ r k)
    = if k.val < 1024 then R _ _ _ (rb (brow (pt t) r)) (rs (brow (pt t) r)) k * _ else R _ _ _ (rb (brow (pt t) r)) (rs (brow (pt t) r)) k
  rw [bropeU_eq, rb_brow, rs_brow]

theorem after7_eq (t : Fin cfg0.N) (y : S1x2x1x128x512.Idx) : (out0_7 (iblk m c 0 t) (iblk m c 1 t) (iblk m c 2 t) (iblk m c 3 t) (iblk m c 4 t) (iblk m c 5 t)) y
    = Gv (m ((c : Thread nD τ).loc main_arg0)) (m ((c : Thread nD τ).loc main_arg1)) (m ((c : Thread nD τ).loc main_arg2)) ((win0_7.blk t).view.emb y) := by
  refine (out7_eq (iblk m c 0 t) (iblk m c 1 t) (iblk m c 2 t) (iblk m c 3 t) (iblk m c 4 t) (iblk m c 5 t) y).trans ?_
  rw [pay26_eq]
  unfold bval
  refine (bproj_eq m c t (y 4 : Fin 512) _).trans ?_
  obtain ⟨e0, e1, e2, e3, e4⟩ := blk7_emb t y
  unfold Gv
  generalize (win0_7.blk t).view.emb y = z at *
  have a0 : z 0 = bbat (pt t) := Fin.ext e0
  have a1 : vpos z = bpos (pt t) (y 4) := Fin.ext (by
    show 512 * (z 2).val + (z 4).val = 512 * ((pt t).val % 16) + (y 4).val
    rw [e2, e4])
  rw [a0, a1]
  refine congrArg (PS _ _ _ _ _) (Fin.ext ?_)
  show 1280 + 128 * (y 1).val + (y 3).val = 1280 + 128 * (z 1).val + (z 3).val
  rw [e1, e3]

theorem arrAt6 : (dats m 0 c).arrAt 6 cfg0.N = Gqk (m ((c : Thread nD τ).loc main_arg0)) (m ((c : Thread nD τ).loc main_arg1)) (m ((c : Thread nD τ).loc main_arg2)) := by
  refine (dats m 0 c).arrAt_eq_of_covers 6 _ (by decide +kernel) fun t hf y => ?_
  refine Eq.trans (congrFun (after0_6 m c t) y) ?_
  exact after6_eq m c t y

theorem arrAt7 : (dats m 0 c).arrAt 7 cfg0.N = Gv (m ((c : Thread nD τ).loc main_arg0)) (m ((c : Thread nD τ).loc main_arg1)) (m ((c : Thread nD τ).loc main_arg2)) := by
  refine (dats m 0 c).arrAt_eq_of_covers 7 _ (by decide +kernel) fun t hf y => ?_
  refine Eq.trans (congrFun (after0_7 m c t) y) ?_
  exact after7_eq m c t y

end Cert.Kernel4Ideal.Hand
-- ==== Proof.RopeBRef.lean ====
/-
  The reference's projection of the sliding-window layer with the rotary embedding is the closed form.
-/
module

public import proofs.«01_k».proof.Proof.RopeBForm

@[expose] public section

set_option maxRecDepth 16384

noncomputable section

namespace Cert.Reference4Ideal.Hand

open Cert.Reference4Ideal Cert.Reference4Ideal.Gen Cert.Reference4Ideal.Read
open Cert.Kernel4Ideal.Hand (P PS C S col colR colL fqc R rb rs Gqk Gv vpos vcol src srcN)
open Idealize.ShloMosaic Idealize.ShloMosaic.TcCoe Idealize.ShloMosaic.ValueIdx

variable (x : Vec Ideal S8x8192x1024 .f32) (w : Vec Ideal S1024x1280 .f32) (e : Vec Ideal S1280 .f32)

/-- An entry of the product with the bias. -/
theorem r22 (i : S8x8192x1280.Idx) : val_main_v22 (F := Ideal) x w e i = P x w e (i 0) (i 1) (i 2) := by
  rw [val_main_v22_apply, val_main_v19_apply, val_main_v21_apply, val_main_v20_apply]
  unfold P
  refine congrArg₂ (· + ·) (Finset.sum_congr rfl fun k _ => congrArg₂ (· * ·) (congrArg x ?_) (congrArg w ?_)) (congrArg e ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

/-- Two columns of the product at equal coordinates. -/
theorem P_congr {b b' : Fin 8} {s s' : Fin 8192} {j j' : Fin 1280} (hb : b.val = b'.val) (hs : s.val = s'.val) (hj : j.val = j'.val) :
    P x w e b s j = P x w e b' s' j' := by
  obtain rfl := Fin.ext hb
  obtain rfl := Fin.ext hs
  obtain rfl := Fin.ext hj
  rfl

theorem r27 (b : Fin 8) (s : Fin 8192) (h : Fin 16) (f : Fin 32) (j : Fin 1280) (hj : j.val = 64 * h.val + f.val) :
    val_main_v27 (F := Ideal) x w e (ix4 b s h f) = P x w e b s j := by
  have hb := b.isLt; have hs := s.isLt; have hh := h.isLt; have hf := f.isLt
  rw [val_main_v27_apply, val_main_v26_apply, val_main_v23_apply, r22]
  refine P_congr x w e ?_ ?_ ?_
  · show (((b.val * 8192 + s.val) * 16 + h.val) * 64 + f.val) / 8388608 = b.val; omega
  · show (((b.val * 8192 + s.val) * 16 + h.val) * 64 + f.val) / 1024 % 8192 = s.val; omega
  · show (((b.val * 8192 + s.val) * 16 + h.val) * 64 + f.val) % 1024 = j.val; omega
theorem r28 (b : Fin 8) (s : Fin 8192) (h : Fin 16) (f : Fin 32) (j : Fin 1280) (hj : j.val = 64 * h.val + (32 + f.val)) :
    val_main_v28 (F := Ideal) x w e (ix4 b s h f) = P x w e b s j := by
  have hb := b.isLt; have hs := s.isLt; have hh := h.isLt; have hf := f.isLt
  rw [val_main_v28_apply, val_main_v26_apply, val_main_v23_apply, r22]
  refine P_congr x w e ?_ ?_ ?_
  · show (((b.val * 8192 + s.val) * 16 + h.val) * 64 + (32 + f.val)) / 8388608 = b.val; omega
  · show (((b.val * 8192 + s.val) * 16 + h.val) * 64 + (32 + f.val)) / 1024 % 8192 = s.val; omega
  · show (((b.val * 8192 + s.val) * 16 + h.val) * 64 + (32 + f.val)) % 1024 = j.val; omega
theorem r45 (b : Fin 8) (s : Fin 8192) (h : Fin 2) (f : Fin 32) (j : Fin 1280) (hj : j.val = 1024 + (64 * h.val + f.val)) :
    val_main_v45 (F := Ideal) x w e (ix4 b s h f) = P x w e b s j := by
  have hb := b.isLt; have hs := s.isLt; have hh := h.isLt; have hf := f.isLt
  rw [val_main_v45_apply, val_main_v44_apply, val_main_v24_apply, r22]
  refine P_congr x w e ?_ ?_ ?_
  · show (((b.val * 8192 + s.val) * 2 + h.val) * 64 + f.val) / 1048576 = b.val; omega
  · show (((b.val * 8192 + s.val) * 2 + h.val) * 64 + f.val) / 128 % 8192 = s.val; omega
  · show 1024 + (((b.val * 8192 + s.val) * 2 + h.val) * 64 + f.val) % 128 = j.val; omega
theorem r46 (b : Fin 8) (s : Fin 8192) (h : Fin 2) (f : Fin 32) (j : Fin 1280) (hj : j.val = 1024 + (64 * h.val + (32 + f.val))) :
    val_main_v46 (F := Ideal) x w e (ix4 b s h f) = P x w e b s j := by
  have hb := b.isLt; have hs := s.isLt; have hh := h.isLt; have hf := f.isLt
  rw [val_main_v46_apply, val_main_v44_apply, val_main_v24_apply, r22]
  refine P_congr x w e ?_ ?_ ?_
  · show (((b.val * 8192 + s.val) * 2 + h.val) * 64 + (32 + f.val)) / 1048576 = b.val; omega
  · show (((b.val * 8192 + s.val) * 2 + h.val) * 64 + (32 + f.val)) / 128 % 8192 = s.val; omega
  · show 1024 + (((b.val * 8192 + s.val) * 2 + h.val) * 64 + (32 + f.val)) % 128 = j.val; omega
/-- A value. -/
theorem r60 (b : Fin 8) (s : Fin 8192) (h : Fin 2) (f : Fin 64) (j : Fin 1280) (hj : j.val = 1152 + (64 * h.val + f.val)) :
    val_main_v60 (F := Ideal) x w e (ix4 b s h f) = P x w e b s j := by
  have hb := b.isLt; have hs := s.isLt; have hh := h.isLt; have hf := f.isLt
  rw [val_main_v60_apply, val_main_v25_apply, r22]
  refine P_congr x w e ?_ ?_ ?_
  · show (((b.val * 8192 + s.val) * 2 + h.val) * 64 + f.val) / 1048576 = b.val; omega
  · show (((b.val * 8192 + s.val) * 2 + h.val) * 64 + f.val) / 128 % 8192 = s.val; omega
  · show 1152 + (((b.val * 8192 + s.val) * 2 + h.val) * 64 + f.val) % 128 = j.val; omega

/-- An index of a table, by its coordinates. -/
theorem ix_eq (i : S8192x32.Idx) (s : Fin 8192) (f : Fin 32) (h0 : (i 0).val = s.val) (h1 : (i 1).val = f.val) : i = ix2 s f := by
  funext a
  match a with
  | ⟨0, _⟩ => exact Fin.ext h0
  | ⟨1, _⟩ => exact Fin.ext h1

theorem r31 (b : Fin 8) (s : Fin 8192) (h : Fin 16) (f : Fin 32) : val_main_v31 (F := Ideal) (ix4 b s h f) = C s f := by
  rw [val_main_v31_apply, val_main_v29_apply]
  exact congrArg (val_main_v17 (F := Ideal)) (ix_eq _ s f rfl rfl)
theorem r36 (b : Fin 8) (s : Fin 8192) (h : Fin 16) (f : Fin 32) : val_main_v36 (F := Ideal) (ix4 b s h f) = C s f := by
  rw [val_main_v36_apply, val_main_v29_apply]
  exact congrArg (val_main_v17 (F := Ideal)) (ix_eq _ s f rfl rfl)
theorem r49 (b : Fin 8) (s : Fin 8192) (h : Fin 2) (f : Fin 32) : val_main_v49 (F := Ideal) (ix4 b s h f) = C s f := by
  rw [val_main_v49_apply, val_main_v47_apply]
  exact congrArg (val_main_v17 (F := Ideal)) (ix_eq _ s f rfl rfl)
theorem r54 (b : Fin 8) (s : Fin 8192) (h : Fin 2) (f : Fin 32) : val_main_v54 (F := Ideal) (ix4 b s h f) = C s f := by
  rw [val_main_v54_apply, val_main_v47_apply]
  exact congrArg (val_main_v17 (F := Ideal)) (ix_eq _ s f rfl rfl)
theorem r33 (b : Fin 8) (s : Fin 8192) (h : Fin 16) (f : Fin 32) : val_main_v33 (F := Ideal) (ix4 b s h f) = S s f := by
  rw [val_main_v33_apply, val_main_v30_apply]
  exact congrArg (val_main_v18 (F := Ideal)) (ix_eq _ s f rfl rfl)
theorem r38 (b : Fin 8) (s : Fin 8192) (h : Fin 16) (f : Fin 32) : val_main_v38 (F := Ideal) (ix4 b s h f) = S s f := by
  rw [val_main_v38_apply, val_main_v30_apply]
  exact congrArg (val_main_v18 (F := Ideal)) (ix_eq _ s f rfl rfl)
theorem r51 (b : Fin 8) (s : Fin 8192) (h : Fin 2) (f : Fin 32) : val_main_v51 (F := Ideal) (ix4 b s h f) = S s f := by
  rw [val_main_v51_apply, val_main_v48_apply]
  exact congrArg (val_main_v18 (F := Ideal)) (ix_eq _ s f rfl rfl)
theorem r56 (b : Fin 8) (s : Fin 8192) (h : Fin 2) (f : Fin 32) : val_main_v56 (F := Ideal) (ix4 b s h f) = S s f := by
  rw [val_main_v56_apply, val_main_v48_apply]
  exact congrArg (val_main_v18 (F := Ideal)) (ix_eq _ s f rfl rfl)

/-- Two halves beside one another. -/
theorem cat_lo (u v : Vec Ideal S8x8192x16x32 .f32) (b : Fin 8) (s : Fin 8192) (h : Fin 16) (e : Fin 64) (f : Fin 32) (he : e.val = f.val) :
    concatenate S8x8192x16x64 3 [⟨S8x8192x16x32, u⟩, ⟨S8x8192x16x32, v⟩] concatenates_S8x8192x16x32_S8x8192x16x32_S8x8192x16x64_d3 (ix4 b s h e)
      = u (ix4 b s h f) :=
  concatenate_pair_apply_left 3 u v _ (ix4 b s h e) rfl (ix4 b s h f) (fun a => match a with
    | ⟨0, _⟩ => rfl
    | ⟨1, _⟩ => rfl
    | ⟨2, _⟩ => rfl
    | ⟨3, _⟩ => he.symm)
theorem cat_hi (u v : Vec Ideal S8x8192x16x32 .f32) (b : Fin 8) (s : Fin 8192) (h : Fin 16) (e : Fin 64) (f : Fin 32) (he : f.val + 32 = e.val) :
    concatenate S8x8192x16x64 3 [⟨S8x8192x16x32, u⟩, ⟨S8x8192x16x32, v⟩] concatenates_S8x8192x16x32_S8x8192x16x32_S8x8192x16x64_d3 (ix4 b s h e)
      = v (ix4 b s h f) :=
  concatenate_pair_apply_right 3 u v _ (ix4 b s h e) rfl rfl (ix4 b s h f) (fun a => match a with
    | ⟨0, _⟩ => fun _ => rfl
    | ⟨1, _⟩ => fun _ => rfl
    | ⟨2, _⟩ => fun _ => rfl
    | ⟨3, _⟩ => fun hne => absurd rfl hne) he

/-- Two halves beside one another. -/
theorem catK_lo (u v : Vec Ideal S8x8192x2x32 .f32) (b : Fin 8) (s : Fin 8192) (h : Fin 2) (e : Fin 64) (f : Fin 32) (he : e.val = f.val) :
    concatenate S8x8192x2x64 3 [⟨S8x8192x2x32, u⟩, ⟨S8x8192x2x32, v⟩] concatenates_S8x8192x2x32_S8x8192x2x32_S8x8192x2x64_d3 (ix4 b s h e)
      = u (ix4 b s h f) :=
  concatenate_pair_apply_left 3 u v _ (ix4 b s h e) rfl (ix4 b s h f) (fun a => match a with
    | ⟨0, _⟩ => rfl
    | ⟨1, _⟩ => rfl
    | ⟨2, _⟩ => rfl
    | ⟨3, _⟩ => he.symm)
theorem catK_hi (u v : Vec Ideal S8x8192x2x32 .f32) (b : Fin 8) (s : Fin 8192) (h : Fin 2) (e : Fin 64) (f : Fin 32) (he : f.val + 32 = e.val) :
    concatenate S8x8192x2x64 3 [⟨S8x8192x2x32, u⟩, ⟨S8x8192x2x32, v⟩] concatenates_S8x8192x2x32_S8x8192x2x32_S8x8192x2x64_d3 (ix4 b s h e)
      = v (ix4 b s h f) :=
  concatenate_pair_apply_right 3 u v _ (ix4 b s h e) rfl rfl (ix4 b s h f) (fun a => match a with
    | ⟨0, _⟩ => fun _ => rfl
    | ⟨1, _⟩ => fun _ => rfl
    | ⟨2, _⟩ => fun _ => rfl
    | ⟨3, _⟩ => fun hne => absurd rfl hne) he

/-- Heads after one another. -/
theorem ord_lo (u v : Vec Ideal S8x8192x2x64 .f32) (b : Fin 8) (s : Fin 8192) (g : Fin 4) (f : Fin 64) (h : Fin 2) (hg : h.val = g.val) :
    concatenate S8x8192x4x64 2 [⟨S8x8192x2x64, u⟩, ⟨S8x8192x2x64, v⟩] concatenates_S8x8192x2x64_S8x8192x2x64_S8x8192x4x64_d2 (ix4 b s g f)
      = u (ix4 b s h f) :=
  concatenate_pair_apply_left 2 u v _ (ix4 b s g f) rfl (ix4 b s h f) (fun a => match a with
    | ⟨0, _⟩ => rfl
    | ⟨1, _⟩ => rfl
    | ⟨2, _⟩ => hg
    | ⟨3, _⟩ => rfl)
theorem ord_hi (u v : Vec Ideal S8x8192x2x64 .f32) (b : Fin 8) (s : Fin 8192) (g : Fin 4) (f : Fin 64) (h : Fin 2) (hg : h.val + 2 = g.val) :
    concatenate S8x8192x4x64 2 [⟨S8x8192x2x64, u⟩, ⟨S8x8192x2x64, v⟩] concatenates_S8x8192x2x64_S8x8192x2x64_S8x8192x4x64_d2 (ix4 b s g f)
      = v (ix4 b s h f) :=
  concatenate_pair_apply_right 2 u v _ (ix4 b s g f) rfl rfl (ix4 b s h f) (fun a => match a with
    | ⟨0, _⟩ => fun _ => rfl
    | ⟨1, _⟩ => fun _ => rfl
    | ⟨2, _⟩ => fun hne => absurd rfl hne
    | ⟨3, _⟩ => fun _ => rfl) hg

/-- Heads after one another. -/
theorem one_lo (u v : Vec Ideal S8x8192x1x64 .f32) (b : Fin 8) (s : Fin 8192) (g : Fin 2) (f : Fin 64) (h : Fin 1) (hg : h.val = g.val) :
    concatenate S8x8192x2x64 2 [⟨S8x8192x1x64, u⟩, ⟨S8x8192x1x64, v⟩] concatenates_S8x8192x1x64_S8x8192x1x64_S8x8192x2x64_d2 (ix4 b s g f)
      = u (ix4 b s h f) :=
  concatenate_pair_apply_left 2 u v _ (ix4 b s g f) rfl (ix4 b s h f) (fun a => match a with
    | ⟨0, _⟩ => rfl
    | ⟨1, _⟩ => rfl
    | ⟨2, _⟩ => hg
    | ⟨3, _⟩ => rfl)
theorem one_hi (u v : Vec Ideal S8x8192x1x64 .f32) (b : Fin 8) (s : Fin 8192) (g : Fin 2) (f : Fin 64) (h : Fin 1) (hg : h.val + 1 = g.val) :
    concatenate S8x8192x2x64 2 [⟨S8x8192x1x64, u⟩, ⟨S8x8192x1x64, v⟩] concatenates_S8x8192x1x64_S8x8192x1x64_S8x8192x2x64_d2 (ix4 b s g f)
      = v (ix4 b s h f) :=
  concatenate_pair_apply_right 2 u v _ (ix4 b s g f) rfl rfl (ix4 b s h f) (fun a => match a with
    | ⟨0, _⟩ => fun _ => rfl
    | ⟨1, _⟩ => fun _ => rfl
    | ⟨2, _⟩ => fun hne => absurd rfl hne
    | ⟨3, _⟩ => fun _ => rfl) hg

theorem row_lo (u : Vec Ideal S65536x1024 .f32) (v : Vec Ideal S65536x256 .f32) (r : Fin 65536) (n : Fin 1280) (k : Fin 1024) (hk : n.val = k.val) :
    concatenate S65536x1280 1 [⟨S65536x1024, u⟩, ⟨S65536x256, v⟩] concatenates_S65536x1024_S65536x256_S65536x1280_d1 (ix2 r n) = u (ix2 r k) :=
  concatenate_pair_apply_left 1 u v _ (ix2 r n) rfl (ix2 r k) (fun a => match a with
    | ⟨0, _⟩ => rfl
    | ⟨1, _⟩ => hk.symm)
theorem row_hi (u : Vec Ideal S65536x1024 .f32) (v : Vec Ideal S65536x256 .f32) (r : Fin 65536) (n : Fin 1280) (k : Fin 256) (hk : k.val + 1024 = n.val) :
    concatenate S65536x1280 1 [⟨S65536x1024, u⟩, ⟨S65536x256, v⟩] concatenates_S65536x1024_S65536x256_S65536x1280_d1 (ix2 r n) = v (ix2 r k) :=
  concatenate_pair_apply_right 1 u v _ (ix2 r n) rfl rfl (ix2 r k) (fun a => match a with
    | ⟨0, _⟩ => fun _ => rfl
    | ⟨1, _⟩ => fun hne => absurd rfl hne) hk

/-- The head at a place of the list of both orders. -/
def hd (g : Fin 4) : Fin 2 := ⟨if g.val < 2 then g.val else 3 - g.val, by have := g.isLt; split_ifs <;> omega⟩
theorem r64 (b : Fin 8) (s : Fin 8192) (g : Fin 4) (f : Fin 64) :
    val_main_v64 (F := Ideal) x w e (ix4 b s g f) = val_main_v59 (F := Ideal) x w e (ix4 b s (hd g) f) := by
  have hg := g.isLt
  unfold val_main_v64
  by_cases h : g.val < 2
  · exact ord_lo _ _ b s g f (hd g) (by show (if g.val < 2 then g.val else 3 - g.val) = g.val; rw [if_pos h])
  · refine (ord_hi _ _ b s g f ⟨g.val - 2, by omega⟩ (by show g.val - 2 + 2 = g.val; omega)).trans ?_
    have hd_eq : (hd g).val = 3 - g.val := by show (if g.val < 2 then g.val else 3 - g.val) = 3 - g.val; rw [if_neg h]
    unfold val_main_v63
    by_cases h2 : g.val = 2
    · refine (one_lo _ _ b s _ f (0 : Fin 1) (by show 0 = g.val - 2; omega)).trans ?_
      rw [val_main_v61_apply]
      refine congrArg (val_main_v59 (F := Ideal) x w e) (funext fun a => Fin.ext ?_)
      match a with
      | ⟨0, _⟩ => rfl
      | ⟨1, _⟩ => rfl
      | ⟨2, _⟩ => show 1 + 0 = (hd g).val; omega
      | ⟨3, _⟩ => rfl
    · refine (one_hi _ _ b s _ f (0 : Fin 1) (by show 0 + 1 = g.val - 2; omega)).trans ?_
      rw [val_main_v62_apply]
      refine congrArg (val_main_v59 (F := Ideal) x w e) (funext fun a => Fin.ext ?_)
      match a with
      | ⟨0, _⟩ => rfl
      | ⟨1, _⟩ => rfl
      | ⟨2, _⟩ => show 0 = (hd g).val; omega
      | ⟨3, _⟩ => rfl
theorem r68 (b : Fin 8) (s : Fin 8192) (g : Fin 4) (f : Fin 64) :
    val_main_v68 (F := Ideal) x w e (ix4 b s g f) = val_main_v60 (F := Ideal) x w e (ix4 b s (hd g) f) := by
  have hg := g.isLt
  unfold val_main_v68
  by_cases h : g.val < 2
  · exact ord_lo _ _ b s g f (hd g) (by show (if g.val < 2 then g.val else 3 - g.val) = g.val; rw [if_pos h])
  · refine (ord_hi _ _ b s g f ⟨g.val - 2, by omega⟩ (by show g.val - 2 + 2 = g.val; omega)).trans ?_
    have hd_eq : (hd g).val = 3 - g.val := by show (if g.val < 2 then g.val else 3 - g.val) = 3 - g.val; rw [if_neg h]
    unfold val_main_v67
    by_cases h2 : g.val = 2
    · refine (one_lo _ _ b s _ f (0 : Fin 1) (by show 0 = g.val - 2; omega)).trans ?_
      rw [val_main_v65_apply]
      refine congrArg (val_main_v60 (F := Ideal) x w e) (funext fun a => Fin.ext ?_)
      match a with
      | ⟨0, _⟩ => rfl
      | ⟨1, _⟩ => rfl
      | ⟨2, _⟩ => show 1 + 0 = (hd g).val; omega
      | ⟨3, _⟩ => rfl
    · refine (one_hi _ _ b s _ f (0 : Fin 1) (by show 0 + 1 = g.val - 2; omega)).trans ?_
      rw [val_main_v66_apply]
      refine congrArg (val_main_v60 (F := Ideal) x w e) (funext fun a => Fin.ext ?_)
      match a with
      | ⟨0, _⟩ => rfl
      | ⟨1, _⟩ => rfl
      | ⟨2, _⟩ => show 0 = (hd g).val; omega
      | ⟨3, _⟩ => rfl

/-- The columns of the weights, by range. -/
theorem src_lo (j : Fin 1536) (h : j.val < 1152) : (src j).val = j.val := if_pos h
theorem src_sw (j : Fin 1536) (h : ¬ j.val < 1152) (h' : j.val < 1280) : (src j).val = 1024 + (j.val - 1152 + 64) % 128 :=
  (if_neg h).trans (if_pos h')
theorem src_v (j : Fin 1536) (h : ¬ j.val < 1280) (h' : j.val < 1408) : (src j).val = j.val - 128 :=
  (if_neg (by omega)).trans ((if_neg h).trans (if_pos h'))
theorem src_vsw (j : Fin 1536) (h : ¬ j.val < 1408) : (src j).val = 1152 + (j.val - 1408 + 64) % 128 :=
  (if_neg (by omega)).trans ((if_neg (by omega)).trans (if_neg h))

/-- The queries with the rotary embedding. -/
theorem r41 (b : Fin 8) (s : Fin 8192) (h : Fin 16) (f : Fin 64) (n : Fin 1280) (hn : n.val = 64 * h.val + f.val) :
    val_main_v41 (F := Ideal) x w e (ix4 b s h f) = R x w e b s n := by
  have hf := f.isLt; have hh := h.isLt; have hn' := n.isLt
  have h0 : (src (col n)).val = 64 * h.val + f.val := by
    refine (src_lo _ (show n.val < 1152 by omega)).trans ?_
    show n.val = 64 * h.val + f.val
    omega
  unfold val_main_v41 R PS
  by_cases hc : f.val < 32
  · have h1 : (src (colR n)).val = 64 * h.val + (32 + f.val) := by
      refine (src_lo _ (show n.val + 32 < 1152 by omega)).trans ?_
      show n.val + 32 = 64 * h.val + (32 + f.val)
      omega
    refine (cat_lo _ _ b s h f ⟨f.val, hc⟩ rfl).trans ?_
    have hq : (⟨f.val, hc⟩ : Fin 32) = fqc n := Fin.ext (by show f.val = n.val % 32; omega)
    rw [if_pos (show n.val % 64 < 32 by omega), val_main_v35_apply, val_main_v32_apply, val_main_v34_apply, r31, r33,
      r27 x w e b s h _ (src (col n)) h0, r28 x w e b s h _ (src (colR n)) h1, hq]
    rfl
  · have h1 : (src (colL n)).val = 64 * h.val + (f.val - 32) := by
      refine (src_lo _ (show n.val - 32 < 1152 by omega)).trans ?_
      show n.val - 32 = 64 * h.val + (f.val - 32)
      omega
    refine (cat_hi _ _ b s h f ⟨f.val - 32, by omega⟩ (by show f.val - 32 + 32 = f.val; omega)).trans ?_
    have hq : (⟨f.val - 32, by omega⟩ : Fin 32) = fqc n := Fin.ext (by show f.val - 32 = n.val % 32; omega)
    rw [if_neg (show ¬ n.val % 64 < 32 by omega), val_main_v40_apply, val_main_v37_apply, val_main_v39_apply, r36, r38,
      r28 x w e b s h _ (src (col n)) (by show (src (col n)).val = 64 * h.val + (32 + (f.val - 32)); omega), r27 x w e b s h _ (src (colL n)) h1, hq]
    rfl

/-- The keys with the rotary embedding, in either order of the heads. -/
theorem r59 (b : Fin 8) (s : Fin 8192) (h : Fin 2) (f : Fin 64) (n : Fin 1280) (hn : n.val = 1024 + (64 * h.val + f.val) ∨ n.val = 1152 + (64 * (1 - h.val) + f.val)) :
    val_main_v59 (F := Ideal) x w e (ix4 b s h f) = R x w e b s n := by
  have hf := f.isLt; have hh := h.isLt; have hn' := n.isLt
  have h0 : (src (col n)).val = 1024 + (64 * h.val + f.val) := by
    rcases hn with hn | hn
    · refine (src_lo _ (show n.val < 1152 by omega)).trans ?_
      show n.val = 1024 + (64 * h.val + f.val)
      omega
    · refine (src_sw _ (show ¬ n.val < 1152 by omega) (show n.val < 1280 by omega)).trans ?_
      show 1024 + (n.val - 1152 + 64) % 128 = 1024 + (64 * h.val + f.val)
      omega
  unfold val_main_v59 R PS
  by_cases hc : f.val < 32
  · have h1 : (src (colR n)).val = 1024 + (64 * h.val + (32 + f.val)) := by
      rcases hn with hn | hn
      · refine (src_lo _ (show n.val + 32 < 1152 by omega)).trans ?_
        show n.val + 32 = 1024 + (64 * h.val + (32 + f.val))
        omega
      · refine (src_sw _ (show ¬ n.val + 32 < 1152 by omega) (show n.val + 32 < 1280 by omega)).trans ?_
        show 1024 + (n.val + 32 - 1152 + 64) % 128 = 1024 + (64 * h.val + (32 + f.val))
        omega
    refine (catK_lo _ _ b s h f ⟨f.val, hc⟩ rfl).trans ?_
    have hq : (⟨f.val, hc⟩ : Fin 32) = fqc n := Fin.ext (by show f.val = n.val % 32; omega)
    rw [if_pos (show n.val % 64 < 32 by omega), val_main_v53_apply, val_main_v50_apply, val_main_v52_apply, r49, r51,
      r45 x w e b s h _ (src (col n)) h0, r46 x w e b s h _ (src (colR n)) h1, hq]
    rfl
  · have h1 : (src (colL n)).val = 1024 + (64 * h.val + (f.val - 32)) := by
      rcases hn with hn | hn
      · refine (src_lo _ (show n.val - 32 < 1152 by omega)).trans ?_
        show n.val - 32 = 1024 + (64 * h.val + (f.val - 32))
        omega
      · refine (src_sw _ (show ¬ n.val - 32 < 1152 by omega) (show n.val - 32 < 1280 by omega)).trans ?_
        show 1024 + (n.val - 32 - 1152 + 64) % 128 = 1024 + (64 * h.val + (f.val - 32))
        omega
    refine (catK_hi _ _ b s h f ⟨f.val - 32, by omega⟩ (by show f.val - 32 + 32 = f.val; omega)).trans ?_
    have hq : (⟨f.val - 32, by omega⟩ : Fin 32) = fqc n := Fin.ext (by show f.val - 32 = n.val % 32; omega)
    rw [if_neg (show ¬ n.val % 64 < 32 by omega), val_main_v58_apply, val_main_v55_apply, val_main_v57_apply, r54, r56,
      r46 x w e b s h _ (src (col n)) (by show (src (col n)).val = 1024 + (64 * h.val + (32 + (f.val - 32))); omega), r45 x w e b s h _ (src (colL n)) h1, hq]
    rfl

/-- A row of heads, flattened. -/
theorem idx69 (r : Fin 65536) (k : Fin 1024) :
    idx_main_v69 (ix2 r k) = ix4 (rb r) (rs r) (⟨k.val / 64, by have := k.isLt; omega⟩ : Fin 16) (⟨k.val % 64, Nat.mod_lt _ (by norm_num)⟩ : Fin 64) := by
  have hr := r.isLt; have hk := k.isLt
  refine funext fun a => Fin.ext ?_
  match a with
  | ⟨0, _⟩ => show (r.val * 1024 + k.val) / 8388608 = r.val / 8192; omega
  | ⟨1, _⟩ => show (r.val * 1024 + k.val) / 1024 % 8192 = r.val % 8192; omega
  | ⟨2, _⟩ => show (r.val * 1024 + k.val) / 64 % 16 = k.val / 64; omega
  | ⟨3, _⟩ => show (r.val * 1024 + k.val) % 64 = k.val % 64; omega
theorem idx70 (r : Fin 65536) (k : Fin 256) :
    idx_main_v70 (ix2 r k) = ix4 (rb r) (rs r) (⟨k.val / 64, by have := k.isLt; omega⟩ : Fin 4) (⟨k.val % 64, Nat.mod_lt _ (by norm_num)⟩ : Fin 64) := by
  have hr := r.isLt; have hk := k.isLt
  refine funext fun a => Fin.ext ?_
  match a with
  | ⟨0, _⟩ => show (r.val * 256 + k.val) / 2097152 = r.val / 8192; omega
  | ⟨1, _⟩ => show (r.val * 256 + k.val) / 256 % 8192 = r.val % 8192; omega
  | ⟨2, _⟩ => show (r.val * 256 + k.val) / 64 % 4 = k.val / 64; omega
  | ⟨3, _⟩ => show (r.val * 256 + k.val) % 64 = k.val % 64; omega

/-- The first result: the scaled queries beside the keys in both orders. -/
theorem r73 (i : S65536x1280.Idx) : val_main_v73 (F := Ideal) x w e i = Gqk x w e i := by
  obtain ⟨r, n, rfl⟩ : ∃ (r : Fin 65536) (n : Fin 1280), i = ix2 r n := ⟨i 0, i 1, eq_ix2 i⟩
  have hn := n.isLt
  rw [val_main_v73_apply]
  show val_main_v71 (F := Ideal) x w e (ix2 r n) = _
  unfold val_main_v71 Gqk
  show _ = if n.val < 1024 then R x w e (rb r) (rs r) n * Ideal.ofBits .f32 0x3E38AA3B#32 else R x w e (rb r) (rs r) n
  by_cases hc : n.val < 1024
  · rw [if_pos hc]
    refine (row_lo _ _ r n ⟨n.val, hc⟩ rfl).trans ?_
    rw [val_main_v69_apply, idx69, val_main_v43_apply, r41 x w e _ _ _ _ n (by show n.val = 64 * (n.val / 64) + n.val % 64; omega),
      val_main_v42_apply]
    rfl
  · rw [if_neg hc]
    refine (row_hi _ _ r n ⟨n.val - 1024, by omega⟩ (by show n.val - 1024 + 1024 = n.val; omega)).trans ?_
    rw [val_main_v70_apply]
    refine (congrArg (val_main_v64 (F := Ideal) x w e) (idx70 r _)).trans ?_
    rw [r64]
    refine r59 x w e _ _ _ _ n ?_
    show n.val = 1024 + (64 * (if (n.val - 1024) / 64 < 2 then (n.val - 1024) / 64 else 3 - (n.val - 1024) / 64) + (n.val - 1024) % 64)
      ∨ n.val = 1152 + (64 * (1 - (if (n.val - 1024) / 64 < 2 then (n.val - 1024) / 64 else 3 - (n.val - 1024) / 64)) + (n.val - 1024) % 64)
    by_cases h : (n.val - 1024) / 64 < 2
    · rw [if_pos h]; left; omega
    · rw [if_neg h]; right; omega

/-- An element of the transposed values is a value of a position. -/
theorem idx72 (i : S8x2x16x128x512.Idx) :
    idx_main_v72 (idx_main_v74 i) = ix4 (i 0 : Fin 8) (vpos i)
      (⟨2 * (i 1).val + (i 3).val / 64, by have h1 : (i 1).val < 2 := (i 1).isLt; have h3 : (i 3).val < 128 := (i 3).isLt; omega⟩ : Fin 4)
      (⟨(i 3).val % 64, Nat.mod_lt _ (by norm_num)⟩ : Fin 64) := by
  have h0 : (i 0).val < 8 := (i 0).isLt
  have h1 : (i 1).val < 2 := (i 1).isLt
  have h2 : (i 2).val < 16 := (i 2).isLt
  have h3 : (i 3).val < 128 := (i 3).isLt
  have h4 : (i 4).val < 512 := (i 4).isLt
  refine funext fun a => Fin.ext ?_
  match a with
  | ⟨0, _⟩ => show (((((i 0).val * 16 + (i 2).val) * 512 + (i 4).val) * 2 + (i 1).val) * 128 + (i 3).val) / 2097152 = (i 0).val; omega
  | ⟨1, _⟩ => show (((((i 0).val * 16 + (i 2).val) * 512 + (i 4).val) * 2 + (i 1).val) * 128 + (i 3).val) / 256 % 8192 = 512 * (i 2).val + (i 4).val; omega
  | ⟨2, _⟩ => show (((((i 0).val * 16 + (i 2).val) * 512 + (i 4).val) * 2 + (i 1).val) * 128 + (i 3).val) / 64 % 4 = 2 * (i 1).val + (i 3).val / 64; omega
  | ⟨3, _⟩ => show (((((i 0).val * 16 + (i 2).val) * 512 + (i 4).val) * 2 + (i 1).val) * 128 + (i 3).val) % 64 = (i 3).val % 64; omega

/-- The second result: the transposed values in both orders. -/
theorem r75 (i : S8x2x16x128x512.Idx) : val_main_v75 (F := Ideal) x w e i = Gv x w e i := by
  have h1 : (i 1).val < 2 := (i 1).isLt
  have h3 : (i 3).val < 128 := (i 3).isLt
  rw [val_main_v75_apply]
  show val_main_v74 (F := Ideal) x w e i = _
  rw [val_main_v74_apply, val_main_v72_apply, idx72]
  refine (r68 x w e (i 0 : Fin 8) _ _ _).trans ?_
  unfold Gv PS
  refine r60 x w e _ _ _ _ (src (vcol i)) ?_
  have hv : (vcol i).val = 1280 + 128 * (i 1).val + (i 3).val := rfl
  show (src (vcol i)).val = 1152 + (64 * (if 2 * (i 1).val + (i 3).val / 64 < 2 then 2 * (i 1).val + (i 3).val / 64 else 3 - (2 * (i 1).val + (i 3).val / 64)) + (i 3).val % 64)
  by_cases h : (i 1).val = 0
  · rw [src_v _ (by omega) (by omega), if_pos (by omega)]; omega
  · rw [src_vsw _ (by omega), if_neg (by omega)]; omega

end Cert.Reference4Ideal.Hand
-- ==== Proof.RopeBText.lean ====
/-
  The printed projection kernel of the sliding-window layer's text is the idealized one's.
-/
module

public import proofs.«01_k».proof.Proof.Gen.Kernel4
public import proofs.«01_k».proof.Proof.Gen.Kernel4Ideal
public import proofs.«01_k».proof.Defs

@[expose] public section

set_option maxRecDepth 16384
set_option maxHeartbeats 4000000

noncomputable section

namespace Cert.RopeBClaims

open Idealize.ShloMosaic Idealize.SL.Sem Idealize.ShloMosaic.TcCoe

theorem cc0_eq : Cert.Kernel4.cc0_qkv_rope (F := Bits) = Cert.Kernel4Ideal.cc0_qkv_rope (F := Bits) := rfl

theorem main_eq : Cert.Kernel4.main (F := Bits) = Cert.Kernel4Ideal.main (F := Bits) := rfl
theorem defs₀_eq : Cert.Kernel4.defs₀ (F := Bits) = Cert.Kernel4Ideal.defs₀ (F := Bits) := by
  unfold Cert.Kernel4.defs₀ Cert.Kernel4Ideal.defs₀
  refine congrArg Defs.onTc (funext fun l => funext fun x => ?_)
  match l, x with
  | 0, (t, s) =>
    show Cert.Kernel4.cc0_qkv_rope (F := Bits) _ _ _ _ _ _ _ _ _ _ _ _ _ _ _ _ _ = _
    rw [cc0_eq]
    rfl
theorem defs_eq : Cert.Kernel4.defs (F := Bits) = Cert.Kernel4Ideal.defs (F := Bits) :=
  congrArg (Pipeline.defs (Cert.Kernel4Ideal.pcfgs (F := Bits))) defs₀_eq

end Cert.RopeBClaims
-- ==== Proof.RopeBClaims.lean ====
/-
  The claims about the sliding-window layer's projection with the rotary embedding: the frames, and that both programs end with the
  closed form.
-/
module

public import proofs.«01_k».proof.Defs
public import proofs.«01_k».proof.Proof.RopeBRef
public import proofs.«01_k».proof.Proof.RopeBText
public import proofs.«01_k».proof.Proof.Gen.Kernel4
public import proofs.«01_k».proof.Proof.Gen.Reference4Ideal.Run

@[expose] public section

set_option maxRecDepth 16384

noncomputable section

namespace Cert.RopeBClaims

open Idealize.ShloMosaic Idealize.SL.Sem Idealize.ShloMosaic.TcCoe

/-- The printed kernel's frame: its text is the idealized one's. -/
theorem frame_printed : Cert.quiescent_Kernel4 := by
  intro m ρ _
  have h := Cert.Kernel4Ideal.Gen.frame (F := Bits) m ρ
  rw [← defs_eq, ← main_eq] at h
  exact h

/-- The idealized kernel's frame. -/
theorem frame_ideal : Cert.quiescent_Kernel4Ideal := fun m ρ _ => Cert.Kernel4Ideal.Gen.frame m ρ

/-- The reference's frame. -/
theorem frame_ref : Cert.quiescent_Reference4Ideal := fun m ρ _ =>
  (θ_run _ _ _).mono (fun _ h => ⟨fun c => (h c).2.2, sem_eq_zero_of_no_sems rfl _⟩) (Cert.Reference4Ideal.Value.run m ρ)

section
open Cert.Kernel4Ideal Cert.Kernel4Ideal.Gen Cert.Kernel4Ideal.Hand

/-- The kernel's run ends with the closed form in its result arrays. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57_0)
        = Gqk (m ((c.tc : Thread nD τ).loc main_arg0)) (m ((c.tc : Thread nD τ).loc main_arg1)) (m ((c.tc : Thread nD τ).loc main_arg2))
      ∧ r.2.mem ((c.tc : Thread nD τ).loc main_v57_1)
        = Gv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arrAt6 m c), (h c).2.1.trans (arrAt7 m c), (h c).2.2⟩)
    (Cert.Kernel4Ideal.Value.run_blocks m ρ)

end

/-- Both programs end with the closed form. -/
theorem algebraic : Cert.algebraic_Kernel4Ideal_Reference4Ideal := by
  intro m g m' g' _ hargs
  refine ⟨_, _, run_value m g, ?_⟩
  refine (θ_run _ _ _).mono (fun r h c => ⟨(h c).1.trans ?_, (h c).2.1.trans ?_, (h c).2.2⟩) (Cert.Reference4Ideal.Value.run m' g')
  · obtain ⟨e0, e1, e2⟩ := hargs c
    rw [Cert.Reference4Ideal.Read.val_main_v73_eq, e0, e1, e2]
    exact funext fun i => Cert.Reference4Ideal.Hand.r73 _ _ _ i
  · obtain ⟨e0, e1, e2⟩ := hargs c
    rw [Cert.Reference4Ideal.Read.val_main_v75_eq, e0, e1, e2]
    exact funext fun i => Cert.Reference4Ideal.Hand.r75 _ _ _ i

end Cert.RopeBClaims
-- ==== Proof.lean ====
/-
  The proof of `Cert.Claim`: the kernel's frames from its run, the reference's from its own, and the values.
-/
module

public import proofs.«01_k».proof.Defs
public import proofs.«01_k».proof.Proof.Frames
public import proofs.«01_k».proof.Proof.Gen.ReferenceIdeal
public import proofs.«01_k».proof.Proof.Gen.ReferenceIdeal.Run
public import proofs.«01_k».proof.Proof.RefVal
public import proofs.«01_k».proof.Proof.Whole
public import proofs.«01_k».proof.Proof.Gen.ReferenceIdeal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.NormClaims
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.RopeClaims
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.RopeBClaims
@[expose] public section
noncomputable section
namespace Cert.Proof
open Idealize.ShloMosaic Idealize.SL.Sem Idealize.ShloMosaic.TcCoe

/-- The reference's frame: its run leaves the arguments as they were, and it has no semaphore at all. -/
theorem frame_ref : Cert.quiescent_ReferenceIdeal := fun m ρ _ =>
  (θ_run _ _ _).mono (fun _ h => ⟨fun c => (h c).2, sem_eq_zero_of_no_sems rfl _⟩) (Cert.ReferenceIdeal.Value.run m ρ)

/-- The two named constants: what the idealized kernel reads is what each name was given. -/
theorem preserves : Cert.preserves_Kernel_KernelIdeal :=
  ⟨IdealRules.named_const.statement Cert.KernelIdeal.κ "q_scale" .f32 0x3E38AA3B#32 _ rfl,
   IdealRules.named_const.statement Cert.KernelIdeal.κ "mask" .f32 0xF149F2CA#32 _ rfl⟩

/-- The frames again, under the value claim's precondition. -/
theorem frame_ideal_pre : Cert.quiescent_KernelIdeal_pre_finite := fun m ρ _ => Cert.KernelIdeal.Hand.frame_any (F := Ideal) m ρ
theorem frame_ref_pre : Cert.quiescent_ReferenceIdeal_pre_finite := fun m ρ _ => frame_ref m ρ trivial

/-- Everything claimed. -/
theorem claim : Cert.Claim :=
  ⟨inferInstance, inferInstance, inferInstance, inferInstance, inferInstance, inferInstance, inferInstance,
    inferInstance, inferInstance, inferInstance, inferInstance, inferInstance, inferInstance,
    Cert.KernelIdeal.Hand.frame_printed, Cert.KernelIdeal.Hand.frame_ideal, frame_ideal_pre, frame_ref, frame_ref_pre,
    Cert.RopeClaims.frame_printed, Cert.RopeClaims.frame_ideal, Cert.RopeClaims.frame_ref,
    Cert.NormClaims.frame_printed, Cert.NormClaims.frame_ideal, Cert.NormClaims.frame_ref,
    Cert.RopeBClaims.frame_printed, Cert.RopeBClaims.frame_ideal, Cert.RopeBClaims.frame_ref,
    preserves, algebraic, trivial, Cert.RopeClaims.algebraic, trivial, Cert.NormClaims.algebraic,
    trivial, Cert.RopeBClaims.algebraic⟩

end Cert.Proof
